-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_in [hPre_finite_in : Cert.Pre_finite_in.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_in [hPre_finite_in : Cert.Pre_finite_in.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_gate [hPre_finite_gate : Cert.Pre_finite_gate.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_gate.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_gate [hPre_finite_gate : Cert.Pre_finite_gate.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_gate.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_in [hKernel5Ideal : Cert.Kernel5Ideal.Facts] [hPre_finite_in : Cert.Pre_finite_in.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_in m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_in [hReference5Ideal : Cert.Reference5Ideal.Facts] [hPre_finite_in : Cert.Pre_finite_in.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_in m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite_gate [hKernel9Ideal : Cert.Kernel9Ideal.Facts] [hPre_finite_gate : Cert.Pre_finite_gate.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_gate m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite_gate [hReference9Ideal : Cert.Reference9Ideal.Facts] [hPre_finite_gate : Cert.Pre_finite_gate.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_gate m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)) (v2 : (c : Dev Cert.KernelIdeal.nD) → Buf (Elt Ideal) ((c.tc : Thread Cert.KernelIdeal.nD Cert.KernelIdeal.τ).loc Cert.KernelIdeal.main_v76_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_v76_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_v156) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_in [hKernel5Ideal : Cert.Kernel5Ideal.Facts] [hReference5Ideal : Cert.Reference5Ideal.Facts] [hPre_finite_in : Cert.Pre_finite_in.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_in m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite_gate [hKernel9Ideal : Cert.Kernel9Ideal.Facts] [hReference9Ideal : Cert.Reference9Ideal.Facts] [hPre_finite_gate : Cert.Pre_finite_gate.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_gate m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_v22) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v3) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v13) = v1 c
          ∧ r.2.mem ((c.tc : Thread Cert.Reference13Ideal.nD Cert.Reference13Ideal.τ).loc Cert.Reference13Ideal.main_v21) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite_in : Cert.Pre_finite_in.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_in (hKernel5Ideal := hKernel5Ideal) (hPre_finite_in := hPre_finite_in)
    ∧ quiescent_Reference5Ideal (hReference5Ideal := hReference5Ideal)
    ∧ quiescent_Reference5Ideal_pre_finite_in (hReference5Ideal := hReference5Ideal) (hPre_finite_in := hPre_finite_in)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_gate (hKernel9Ideal := hKernel9Ideal) (hPre_finite_gate := hPre_finite_gate)
    ∧ quiescent_Reference9Ideal (hReference9Ideal := hReference9Ideal)
    ∧ quiescent_Reference9Ideal_pre_finite_gate (hReference9Ideal := hReference9Ideal) (hPre_finite_gate := hPre_finite_gate)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_in (hKernel5Ideal := hKernel5Ideal) (hReference5Ideal := hReference5Ideal) (hPre_finite_in := hPre_finite_in)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_gate (hKernel9Ideal := hKernel9Ideal) (hReference9Ideal := hReference9Ideal) (hPre_finite_gate := hPre_finite_gate)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S4096x8x64 : Shape := ⟨3, ![4096, 8, 64]⟩
abbrev S4096x8 : Shape := ⟨2, ![4096, 8]⟩
abbrev S_ : Shape := ⟨0, ![]⟩
abbrev S4096x8x1 : Shape := ⟨3, ![4096, 8, 1]⟩

class Facts : Prop where
  bcast_S_S4096x8x64 : S_.BroadcastsInDim S4096x8x64 (![] : Fin 0 → Fin S4096x8x64.rank)
  bcast_S_S4096x8 : S_.BroadcastsInDim S4096x8 (![] : Fin 0 → Fin S4096x8.rank)
  bcast_S4096x8_S4096x8x1_0_1 : S4096x8.BroadcastsInDim S4096x8x1 (![0, 1] : Fin 2 → Fin S4096x8x1.rank)
  bcast_S4096x8x1_S4096x8x64_0_1_2 : S4096x8x1.BroadcastsInDim S4096x8x64 (![0, 1, 2] : Fin 3 → Fin S4096x8x64.rank)

variable [Facts]

def fn_part1 {F : FTy → Type} [FloatOps F] (main_arg4 : FVec F S4096x8 .f32) (main_arg6 : FVec F S4096x8 .f32) (main_arg7 : FVec F S4096x8x64 .f32) (main_v18 : IVec S4096x8x64 1) : IVec S4096x8x64 1 :=
  let main_v19 : FVec F S4096x8x64 .f32 := Host.absf main_arg7
  let main_cst_4 : FVec F S_ .f32 := constant S_ .f32 0x7F800000#32
  let main_v20 : FVec F S4096x8x64 .f32 := broadcastInDim S4096x8x64 ![] bcast_S_S4096x8x64 main_cst_4
  let main_v21 : IVec S4096x8x64 1 := cmpf .olt main_v19 main_v20
  let main_v22 : IVec S4096x8x64 1 := andi main_v18 main_v21
  let main_v23 : FVec F S4096x8 .f32 := Host.absf main_arg4
  let main_cst_5 : FVec F S_ .f32 := constant S_ .f32 0x7F800000#32
  let main_v24 : FVec F S4096x8 .f32 := broadcastInDim S4096x8 ![] bcast_S_S4096x8 main_cst_5
  let main_v25 : IVec S4096x8 1 := cmpf .olt main_v23 main_v24
  let main_v26 : IVec S4096x8x1 1 := broadcastInDim S4096x8x1 ![0, 1] bcast_S4096x8_S4096x8x1_0_1 main_v25
  let main_v27 : IVec S4096x8x64 1 := broadcastInDim S4096x8x64 ![0, 1, 2] bcast_S4096x8x1_S4096x8x64_0_1_2 main_v26
  let main_v28 : IVec S4096x8x64 1 := andi main_v22 main_v27
  let main_v29 : FVec F S4096x8 .f32 := Host.absf main_arg6
  let main_cst_6 : FVec F S_ .f32 := constant S_ .f32 0x7F800000#32
  let main_v30 : FVec F S4096x8 .f32 := broadcastInDim S4096x8 ![] bcast_S_S4096x8 main_cst_6
  let main_v31 : IVec S4096x8 1 := cmpf .olt main_v29 main_v30
  let main_v32 : IVec S4096x8x1 1 := broadcastInDim S4096x8x1 ![0, 1] bcast_S4096x8_S4096x8x1_0_1 main_v31
  let main_v33 : IVec S4096x8x64 1 := broadcastInDim S4096x8x64 ![0, 1, 2] bcast_S4096x8x1_S4096x8x64_0_1_2 main_v32
  let main_v34 : IVec S4096x8x64 1 := andi main_v28 main_v33
  main_v34

def fn {F : FTy → Type} [FloatOps F] (main_arg0 : FVec F S4096x8x64 .f32) (main_arg1 : FVec F S4096x8x64 .f32) (main_arg2 : FVec F S4096x8x64 .f32) (main_arg3 : FVec F S4096x8x64 .f32) (main_arg4 : FVec F S4096x8 .f32) (main_arg5 : FVec F S4096x8x64 .f32) (main_arg6 : FVec F S4096x8 .f32) (main_arg7 : FVec F S4096x8x64 .f32) : IVec S4096x8x64 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x64 .f32 := Host.absf main_arg1
  let main_cst_0 : FVec F S_ .f32 := constant S_ .f32 0x7F800000#32
  let main_v4 : FVec F S4096x8x64 .f32 := broadcastInDim S4096x8x64 ![] bcast_S_S4096x8x64 main_cst_0
  let main_v5 : IVec S4096x8x64 1 := cmpf .olt main_v3 main_v4
  let main_v6 : IVec S4096x8x64 1 := andi main_v2 main_v5
  let main_v7 : FVec F S4096x8x64 .f32 := Host.absf main_arg2
  let main_cst_1 : FVec F S_ .f32 := constant S_ .f32 0x7F800000#32
  let main_v8 : FVec F S4096x8x64 .f32 := broadcastInDim S4096x8x64 ![] bcast_S_S4096x8x64 main_cst_1
  let main_v9 : IVec S4096x8x64 1 := cmpf .olt main_v7 main_v8
  let main_v10 : IVec S4096x8x64 1 := andi main_v6 main_v9
  let main_v11 : FVec F S4096x8x64 .f32 := Host.absf main_arg3
  let main_cst_2 : FVec F S_ .f32 := constant S_ .f32 0x7F800000#32
  let main_v12 : FVec F S4096x8x64 .f32 := broadcastInDim S4096x8x64 ![] bcast_S_S4096x8x64 main_cst_2
  let main_v13 : IVec S4096x8x64 1 := cmpf .olt main_v11 main_v12
  let main_v14 : IVec S4096x8x64 1 := andi main_v10 main_v13
  let main_v15 : FVec F S4096x8x64 .f32 := Host.absf main_arg5
  let main_cst_3 : FVec F S_ .f32 := constant S_ .f32 0x7F800000#32
  let main_v16 : FVec F S4096x8x64 .f32 := broadcastInDim S4096x8x64 ![] bcast_S_S4096x8x64 main_cst_3
  let main_v17 : IVec S4096x8x64 1 := cmpf .olt main_v15 main_v16
  let main_v18 : IVec S4096x8x64 1 := andi main_v14 main_v17
  fn_part1 (F := F) main_arg4 main_arg6 main_arg7 main_v18
-- ==== Pre_finite_gate.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)
  reducesTo_S1024x1024_S1024_d1 : S1024x1024.ReducesTo [1] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)

variable [Facts]

def fn_part1 {F : FTy → Type} [FloatOps F] (main_v15 : IVec S4096x1024 1) (main_v18 : FVec F S1024 .f32) : IVec S4096x1024 1 :=
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_v21 : IVec S1x1024 1 := broadcastInDim S1x1024 ![1] bcast_S1024_S1x1024_1 main_v20
  let main_v22 : IVec S4096x1024 1 := broadcastInDim S4096x1024 ![0, 1] bcast_S1x1024_S4096x1024_0_1 main_v21
  let main_v23 : IVec S4096x1024 1 := andi main_v15 main_v22
  main_v23

def fn {F : FTy → Type} [FloatOps F] (main_arg0 : FVec F S4096x1024 .f32) (main_arg1 : FVec F S4096x1024 .f32) (main_arg2 : FVec F S1x1024 .f32) (main_arg3 : FVec F S1024x1024 .f32) (main_arg4 : FVec F S4096x1024 .f32) (main_arg5 : FVec F S4096x1024 .f32) : IVec S4096x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S4096x1024 1 := broadcastInDim S4096x1024 ![0, 1] bcast_S1x1024_S4096x1024_0_1 main_v5
  let main_v7 : IVec S4096x1024 1 := andi main_v2 main_v6
  let main_v8 : FVec F S4096x1024 .f32 := Host.absf main_arg4
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : IVec S4096x1024 1 := andi main_v7 main_v10
  let main_v12 : FVec F S4096x1024 .f32 := Host.absf main_arg5
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_v15 : IVec S4096x1024 1 := andi main_v11 main_v14
  let main_v16 : FVec F S1024x1024 .f32 := Host.absf main_arg3
  let main_cst_3 : FVec F S_ .f32 := constant S_ .f32 0xFF800000#32
  let main_v17 : FVec F S1024 .f32 := (fun x v => Host.reduce FloatOps.maximumf x v reducesTo_S1024x1024_S1024_d1 h_S_) main_v16 main_cst_3
  let main_v18 : FVec F S1024 .f32 := Host.absf main_v17
  fn_part1 (F := F) main_v15 main_v18
-- ==== Pre_finite_in.lean ====
abbrev S4096x1024 : Shape := ⟨2, ![4096, 1024]⟩
abbrev S1x1024 : Shape := ⟨2, ![1, 1024]⟩
abbrev S1024x2824 : Shape := ⟨2, ![1024, 2824]⟩
abbrev S4096x2824 : Shape := ⟨2, ![4096, 2824]⟩
abbrev S_ : Shape := ⟨0, ![]⟩
abbrev S4096 : Shape := ⟨1, ![4096]⟩
abbrev S4096x1 : Shape := ⟨2, ![4096, 1]⟩
abbrev S1024 : Shape := ⟨1, ![1024]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)
  reducesTo_S4096x2824_S4096_d1 : S4096x2824.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  reducesTo_S1024x2824_S1024_d1 : S1024x2824.ReducesTo [1] S1024
  bcast_S_S1024 : S_.BroadcastsInDim S1024 (![] : Fin 0 → Fin S1024.rank)
  bcast_S1024_S1x1024_1 : S1024.BroadcastsInDim S1x1024 (![1] : Fin 1 → Fin S1x1024.rank)

variable [Facts]

def fn_part1 {F : FTy → Type} [FloatOps F] (main_v15 : IVec S4096x1024 1) (main_v18 : FVec F S1024 .f32) : IVec S4096x1024 1 :=
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_v21 : IVec S1x1024 1 := broadcastInDim S1x1024 ![1] bcast_S1024_S1x1024_1 main_v20
  let main_v22 : IVec S4096x1024 1 := broadcastInDim S4096x1024 ![0, 1] bcast_S1x1024_S4096x1024_0_1 main_v21
  let main_v23 : IVec S4096x1024 1 := andi main_v15 main_v22
  main_v23

def fn {F : FTy → Type} [FloatOps F] (main_arg0 : FVec F S4096x1024 .f32) (main_arg1 : FVec F S1x1024 .f32) (main_arg2 : FVec F S1024x2824 .f32) (main_arg3 : FVec F S4096x1024 .f32) (main_arg4 : FVec F S4096x2824 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S4096x1024 1 := broadcastInDim S4096x1024 ![0, 1] bcast_S1x1024_S4096x1024_0_1 main_v5
  let main_v7 : IVec S4096x1024 1 := andi main_v2 main_v6
  let main_v8 : FVec F S4096x2824 .f32 := Host.absf main_arg4
  let main_cst_1 : FVec F S_ .f32 := constant S_ .f32 0xFF800000#32
  let main_v9 : FVec F S4096 .f32 := (fun x v => Host.reduce FloatOps.maximumf x v reducesTo_S4096x2824_S4096_d1 h_S_) main_v8 main_cst_1
  let main_v10 : FVec F S4096x1 .f32 := broadcastInDim S4096x1 ![0] bcast_S4096_S4096x1_0 main_v9
  let main_v11 : FVec F S4096x1 .f32 := Host.absf main_v10
  let main_cst_2 : FVec F S_ .f32 := constant S_ .f32 0x7F800000#32
  let main_v12 : FVec F S4096x1 .f32 := broadcastInDim S4096x1 ![] bcast_S_S4096x1 main_cst_2
  let main_v13 : IVec S4096x1 1 := cmpf .olt main_v11 main_v12
  let main_v14 : IVec S4096x1024 1 := broadcastInDim S4096x1024 ![0, 1] bcast_S4096x1_S4096x1024_0_1 main_v13
  let main_v15 : IVec S4096x1024 1 := andi main_v7 main_v14
  let main_v16 : FVec F S1024x2824 .f32 := Host.absf main_arg2
  let main_cst_3 : FVec F S_ .f32 := constant S_ .f32 0xFF800000#32
  let main_v17 : FVec F S1024 .f32 := (fun x v => Host.reduce FloatOps.maximumf x v reducesTo_S1024x2824_S1024_d1 h_S_) main_v16 main_cst_3
  let main_v18 : FVec F S1024 .f32 := Host.absf main_v17
  fn_part1 (F := F) main_v15 main_v18
-- ==== Kernel.lean ====
abbrev S4096x8x64 : Shape := ⟨3, ![4096, 8, 64]⟩
abbrev S4096x8 : Shape := ⟨2, ![4096, 8]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S1x4096x8 : Shape := ⟨3, ![1, 4096, 8]⟩
abbrev S3x4096x8 : Shape := ⟨3, ![3, 4096, 8]⟩
abbrev S3x4096x8x1 : Shape := ⟨4, ![3, 4096, 8, 1]⟩
abbrev S1x4096x8x64 : Shape := ⟨4, ![1, 4096, 8, 64]⟩
abbrev S3x4096x8x64 : Shape := ⟨4, ![3, 4096, 8, 64]⟩
abbrev S4096x8x1 : Shape := ⟨3, ![4096, 8, 1]⟩
abbrev S1024x2048 : Shape := ⟨2, ![1024, 2048]⟩
abbrev S256x512 : Shape := ⟨2, ![256, 512]⟩
abbrev S128x512 : Shape := ⟨2, ![128, 512]⟩
abbrev S128x128 : Shape := ⟨2, ![128, 128]⟩
abbrev S128x384 : Shape := ⟨2, ![128, 384]⟩
abbrev S128x64 : Shape := ⟨2, ![128, 64]⟩
abbrev S128 : Shape := ⟨1, ![128]⟩
abbrev S128x1 : Shape := ⟨2, ![128, 1]⟩
abbrev S128x256 : Shape := ⟨2, ![128, 256]⟩
abbrev S1x128x384 : Shape := ⟨3, ![1, 128, 384]⟩
abbrev S8x128x384 : Shape := ⟨3, ![8, 128, 384]⟩
abbrev S1x128x128 : Shape := ⟨3, ![1, 128, 128]⟩

abbrev nBuf : Space → Nat
  | .hbm => 123
  | .vmem => 30
  | .smem => 0
  | _ => 0

abbrev bufTy : (tb : Table) → Fin (tcTables nBuf tb) → BufTy
  | .hbm, ⟨0, _⟩ => ⟨S4096x8x64, .f32⟩
  | .hbm, ⟨1, _⟩ => ⟨S4096x8x64, .f32⟩
  | .hbm, ⟨2, _⟩ => ⟨S4096x8x64, .f32⟩
  | .hbm, ⟨3, _⟩ => ⟨S4096x8x64, .f32⟩
  | .hbm, ⟨4, _⟩ => ⟨S4096x8, .f32⟩
  | .hbm, ⟨5, _⟩ => ⟨S4096x8x64, .f32⟩
  | .hbm, ⟨6, _⟩ => ⟨S4096x8, .f32⟩
  | .hbm, ⟨7, _⟩ => ⟨S4096x8x64, .f32⟩
  | .hbm, ⟨8, _⟩ => ⟨S8x4096x4096, .f32⟩
  | .hbm, ⟨9, _⟩ => ⟨S4096, .i32⟩
  | .hbm, ⟨10, _⟩ => ⟨S4096x1, .i32⟩
  | .hbm, ⟨11, _⟩ => ⟨S4096, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S4096x4096, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S_, .i32⟩
  | .hbm, ⟨32, _⟩ => ⟨S4096x4096, .i32⟩
  | .hbm, ⟨33, _⟩ => ⟨S4096x4096, .i1⟩
  | .hbm, ⟨34, _⟩ => ⟨S_, .i32⟩
  | .hbm, ⟨35, _⟩ => ⟨S4096x4096, .i32⟩
  | .hbm, ⟨36, _⟩ => ⟨S4096x4096, .i1⟩
  | .hbm, ⟨37, _⟩ => ⟨S_, .i32⟩
  | .hbm, ⟨38, _⟩ => ⟨S_, .i1⟩
  | .hbm, ⟨39, _⟩ => ⟨S4096x4096, .i1⟩
  | .hbm, ⟨40, _⟩ => ⟨S4096x4096, .i1⟩
  | .hbm, ⟨41, _⟩ => ⟨S4096x4096, .i1⟩
  | .hbm, ⟨42, _⟩ => ⟨S4096x4096, .i32⟩
  | .hbm, ⟨43, _⟩ => ⟨S4096x4096, .i32⟩
  | .hbm, ⟨44, _⟩ => ⟨S4096x4096, .i32⟩
  | .hbm, ⟨45, _⟩ => ⟨S_, .i32⟩
  | .hbm, ⟨46, _⟩ => ⟨S4096x4096, .i32⟩
  | .hbm, ⟨47, _⟩ => ⟨S4096x4096, .i1⟩
  | .hbm, ⟨48, _⟩ => ⟨S4096x4096, .i1⟩
  | .hbm, ⟨49, _⟩ => ⟨S1x4096x4096, .i1⟩
  | .hbm, ⟨50, _⟩ => ⟨S_, .f32⟩
  | .hbm, ⟨51, _⟩ => ⟨S_, .f32⟩
  | .hbm, ⟨52, _⟩ => ⟨S8x4096x4096, .i1⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S8x4096x4096, .f32⟩
  | .hbm, ⟨65, _⟩ => ⟨S8x4096x4096, .f32⟩
  | .hbm, ⟨66, _⟩ => ⟨S8x64x4096, .f32⟩
  | .hbm, ⟨67, _⟩ => ⟨S4096x8x64, .f32⟩
  | .hbm, ⟨68, _⟩ => ⟨S8x4096x1, .f32⟩
  | .hbm, ⟨69, _⟩ => ⟨S8x4096x1, .f32⟩
  | .hbm, ⟨70, _⟩ => ⟨S8x4096, .f32⟩
  | .hbm, ⟨71, _⟩ => ⟨S4096x8, .f32⟩
  | .hbm, ⟨72, _⟩ => ⟨S1x4096x8, .f32⟩
  | .hbm, ⟨73, _⟩ => ⟨S1x4096x8, .f32⟩
  | .hbm, ⟨74, _⟩ => ⟨S1x4096x8, .f32⟩
  | .hbm, ⟨75, _⟩ => ⟨S3x4096x8, .f32⟩
  | .hbm, ⟨76, _⟩ => ⟨S_, .f32⟩
  | .hbm, ⟨77, _⟩ => ⟨S4096x8, .f32⟩
  | .hbm, ⟨78, _⟩ => ⟨S_, .f32⟩
  | .hbm, ⟨79, _⟩ => ⟨S4096x8, .f32⟩
  | .hbm, ⟨80, _⟩ => ⟨S4096x8, .f32⟩
  | .hbm, ⟨81, _⟩ => ⟨S1x4096x8, .f32⟩
  | .hbm, ⟨82, _⟩ => ⟨S3x4096x8, .f32⟩
  | .hbm, ⟨83, _⟩ => ⟨S3x4096x8, .f32⟩
  | .hbm, ⟨84, _⟩ => ⟨S3x4096x8, .f32⟩
  | .hbm, ⟨85, _⟩ => ⟨S_, .f32⟩
  | .hbm, ⟨86, _⟩ => ⟨S4096x8, .f32⟩
  | .hbm, ⟨87, _⟩ => ⟨S1x4096x8, .f32⟩
  | .hbm, ⟨88, _⟩ => ⟨S3x4096x8, .f32⟩
  | .hbm, ⟨89, _⟩ => ⟨S3x4096x8, .f32⟩
  | .hbm, ⟨90, _⟩ => ⟨S3x4096x8x1, .f32⟩
  | .hbm, ⟨91, _⟩ => ⟨S1x4096x8x64, .f32⟩
  | .hbm, ⟨92, _⟩ => ⟨S1x4096x8x64, .f32⟩
  | .hbm, ⟨93, _⟩ => ⟨S1x4096x8x64, .f32⟩
  | .hbm, ⟨94, _⟩ => ⟨S3x4096x8x64, .f32⟩
  | .hbm, ⟨95, _⟩ => ⟨S3x4096x8x64, .f32⟩
  | .hbm, ⟨96, _⟩ => ⟨S3x4096x8x64, .f32⟩
  | .hbm, ⟨97, _⟩ => ⟨S_, .f32⟩
  | .hbm, ⟨98, _⟩ => ⟨S4096x8x64, .f32⟩
  | .hbm, ⟨99, _⟩ => ⟨S_, .f32⟩
  | .hbm, ⟨100, _⟩ => ⟨S4096x8, .f32⟩
  | .hbm, ⟨101, _⟩ => ⟨S1x4096x8, .f32⟩
  | .hbm, ⟨102, _⟩ => ⟨S3x4096x8, .f32⟩
  | .hbm, ⟨103, _⟩ => ⟨S3x4096x8, .f32⟩
  | .hbm, ⟨104, _⟩ => ⟨S3x4096x8, .f32⟩
  | .hbm, ⟨105, _⟩ => ⟨S_, .f32⟩
  | .hbm, ⟨106, _⟩ => ⟨S4096x8, .f32⟩
  | .hbm, ⟨107, _⟩ => ⟨S4096x8, .f32⟩
  | .hbm, ⟨108, _⟩ => ⟨S4096x8, .f32⟩
  | .hbm, ⟨109, _⟩ => ⟨S4096x8x1, .f32⟩
  | .hbm, ⟨110, _⟩ => ⟨S4096x8x64, .f32⟩
  | .hbm, ⟨111, _⟩ => ⟨S1024x2048, .f32⟩
  | .hbm, ⟨112, _⟩ => ⟨S1024x2048, .bf16⟩
  | .hbm, ⟨113, _⟩ => ⟨S1024x2048, .f32⟩
  | .hbm, ⟨114, _⟩ => ⟨S1024x2048, .bf16⟩
  | .hbm, ⟨115, _⟩ => ⟨S1024x2048, .f32⟩
  | .hbm, ⟨116, _⟩ => ⟨S1024x2048, .bf16⟩
  | .hbm, ⟨117, _⟩ => ⟨S1024x2048, .f32⟩
  | .hbm, ⟨118, _⟩ => ⟨S1024x2048, .f32⟩
  | .hbm, ⟨119, _⟩ => ⟨S1024x2048, .f32⟩
  | .hbm, ⟨120, _⟩ => ⟨S1024x2048, .bf16⟩
  | .hbm, ⟨121, _⟩ => ⟨S1024x2048, .bf16⟩
  | .hbm, ⟨122, _⟩ => ⟨S1024x2048, .bf16⟩
  | .local _ .vmem, ⟨0, _⟩ => ⟨S256x512, .bf16⟩
  | .local _ .vmem, ⟨1, _⟩ => ⟨S256x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S256x512, .bf16⟩
  | .local _ .vmem, ⟨7, _⟩ => ⟨S256x512, .bf16⟩
  | .local _ .vmem, ⟨8, _⟩ => ⟨S128x512, .bf16⟩
  | .local _ .vmem, ⟨9, _⟩ => ⟨S128x512, .bf16⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S128x512, .f32⟩
  | .local _ .vmem, ⟨15, _⟩ => ⟨S128x512, .f32⟩
  | .local _ .vmem, ⟨16, _⟩ => ⟨S256x512, .f32⟩
  | .local _ .vmem, ⟨17, _⟩ => ⟨S256x512, .f32⟩
  | .local _ .vmem, ⟨18, _⟩ => ⟨S128x512, .f32⟩
  | .local _ .vmem, ⟨19, _⟩ => ⟨S128x512, .f32⟩
  | .local _ .vmem, ⟨20, _⟩ => ⟨S256x512, .f32⟩
  | .local _ .vmem, ⟨21, _⟩ => ⟨S256x512, .f32⟩
  | .local _ .vmem, ⟨22, _⟩ => ⟨S128x512, .f32⟩
  | .local _ .vmem, ⟨23, _⟩ => ⟨S128x512, .f32⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v13 : Ref sig .tc := ⟨.hbm, 44, rfl⟩
abbrev main_c_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v18 : Ref sig .tc := ⟨.hbm, 54, rfl⟩
abbrev main_cst_3 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_4 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_5 : Ref sig .tc := ⟨.hbm, 76, rfl⟩
abbrev main_v38 : Ref sig .tc := ⟨.hbm, 77, rfl⟩
abbrev main_cst_6 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_7 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_8 : Ref sig .tc := ⟨.hbm, 97, rfl⟩
abbrev main_v56 : Ref sig .tc := ⟨.hbm, 98, rfl⟩
abbrev main_cst_9 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_10 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76_0 : Ref sig .tc := ⟨.hbm, 120, rfl⟩
abbrev main_v76_1 : Ref sig .tc := ⟨.hbm, 121, rfl⟩
abbrev main_v76_2 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c7_i32 : BitVec 32 := 7#32
  let v2 : BitVec 32 := Scalar.minsi v1 c7_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c7_i32 : BitVec 32 := 7#32
  let v2 : BitVec 32 := Scalar.minsi v1 c7_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c7_i32 : BitVec 32 := 7#32
  let v2 : BitVec 32 := Scalar.minsi v1 c7_i32
  let c0_i32 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c7_i32 : BitVec 32 := 7#32
  let v2 : BitVec 32 := Scalar.minsi v1 c7_i32
  let c0_i32 : BitVec 32 := 0#32
  ![v2.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x8x64 : Shape := ⟨3, ![4096, 8, 64]⟩
abbrev S4096x8 : Shape := ⟨2, ![4096, 8]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S1x4096x8 : Shape := ⟨3, ![1, 4096, 8]⟩
abbrev S3x4096x8 : Shape := ⟨3, ![3, 4096, 8]⟩
abbrev S3x4096x8x1 : Shape := ⟨4, ![3, 4096, 8, 1]⟩
abbrev S1x4096x8x64 : Shape := ⟨4, ![1, 4096, 8, 64]⟩
abbrev S3x4096x8x64 : Shape := ⟨4, ![3, 4096, 8, 64]⟩
abbrev S8x4096x64 : Shape := ⟨3, ![8, 4096, 64]⟩
abbrev S1024x2048 : Shape := ⟨2, ![1024, 2048]⟩

abbrev nBuf : Space → Nat
  | .hbm => 224
  | .vmem => 0
  | .smem => 0
  | _ => 0

abbrev hbmTy0_0 (i : Nat) : BufTy := match i % 128 with
  | 0 => ⟨S4096x8x64, .f32⟩
  | 1 => ⟨S4096x8x64, .f32⟩
  | 2 => ⟨S4096x8x64, .f32⟩
  | 3 => ⟨S4096x8x64, .f32⟩
  | 4 => ⟨S4096x8, .f32⟩
  | 5 => ⟨S4096x8x64, .f32⟩
  | 6 => ⟨S4096x8, .f32⟩
  | 7 => ⟨S4096x8x64, .f32⟩
  | 8 => ⟨S8x4096x4096, .f32⟩
  | 9 => ⟨S4096, .i32⟩
  | 10 => ⟨S4096x1, .i32⟩
  | 11 => ⟨S4096, .i32⟩
  | 12 => ⟨S1x4096, .i32⟩
  | 13 => ⟨S4096x4096, .i32⟩
  | 14 => ⟨S4096x4096, .i32⟩
  | 15 => ⟨S4096x4096, .i32⟩
  | 16 => ⟨S_, .i32⟩
  | 17 => ⟨S4096x4096, .i32⟩
  | 18 => ⟨S4096x4096, .i1⟩
  | 19 => ⟨S_, .i32⟩
  | 20 => ⟨S4096x4096, .i32⟩
  | 21 => ⟨S4096x4096, .i1⟩
  | 22 => ⟨S4096x4096, .i1⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S4096x4096, .i32⟩
  | 30 => ⟨S4096x4096, .i32⟩
  | 31 => ⟨S_, .i32⟩
  | 32 => ⟨S4096x4096, .i32⟩
  | 33 => ⟨S4096x4096, .i1⟩
  | 34 => ⟨S_, .i32⟩
  | 35 => ⟨S4096x4096, .i32⟩
  | 36 => ⟨S4096x4096, .i1⟩
  | 37 => ⟨S_, .i32⟩
  | 38 => ⟨S_, .i1⟩
  | 39 => ⟨S4096x4096, .i1⟩
  | 40 => ⟨S4096x4096, .i1⟩
  | 41 => ⟨S4096x4096, .i1⟩
  | 42 => ⟨S4096x4096, .i32⟩
  | 43 => ⟨S4096x4096, .i32⟩
  | 44 => ⟨S4096x4096, .i32⟩
  | 45 => ⟨S_, .i32⟩
  | 46 => ⟨S4096x4096, .i32⟩
  | 47 => ⟨S4096x4096, .i1⟩
  | 48 => ⟨S4096x4096, .i1⟩
  | 49 => ⟨S1x4096x4096, .i1⟩
  | 50 => ⟨S_, .f32⟩
  | 51 => ⟨S_, .f32⟩
  | 52 => ⟨S8x4096x4096, .i1⟩
  | 53 => ⟨S8x4096x4096, .f32⟩
  | 54 => ⟨S8x4096x4096, .f32⟩
  | 55 => ⟨S_, .f32⟩
  | 56 => ⟨S8x4096x4096, .f32⟩
  | 57 => ⟨S_, .f32⟩
  | 58 => ⟨S8x4096, .f32⟩
  | 59 => ⟨S8x4096x1, .f32⟩
  | 60 => ⟨S8x4096x4096, .f32⟩
  | 61 => ⟨S8x4096x4096, .i1⟩
  | 62 => ⟨S8x4096x4096, .f32⟩
  | 63 => ⟨S_, .f32⟩
  | 64 => ⟨S8x4096, .f32⟩
  | 65 => ⟨S8x4096x1, .f32⟩
  | 66 => ⟨S8x4096x4096, .f32⟩
  | 67 => ⟨S8x4096x4096, .f32⟩
  | 68 => ⟨S8x4096x4096, .f32⟩
  | 69 => ⟨S_, .f32⟩
  | 70 => ⟨S8x4096, .f32⟩
  | 71 => ⟨S8x4096x1, .f32⟩
  | 72 => ⟨S8x4096x4096, .f32⟩
  | 73 => ⟨S8x4096x4096, .f32⟩
  | 74 => ⟨S8x4096x1, .f32⟩
  | 75 => ⟨S_, .f32⟩
  | 76 => ⟨S8x4096x1, .f32⟩
  | 77 => ⟨S8x4096x1, .f32⟩
  | 78 => ⟨S8x64x4096, .f32⟩
  | 79 => ⟨S4096x8x64, .f32⟩
  | 80 => ⟨S8x4096x1, .f32⟩
  | 81 => ⟨S8x4096x1, .f32⟩
  | 82 => ⟨S8x4096, .f32⟩
  | 83 => ⟨S4096x8, .f32⟩
  | 84 => ⟨S1x4096x8, .f32⟩
  | 85 => ⟨S1x4096x8, .f32⟩
  | 86 => ⟨S1x4096x8, .f32⟩
  | 87 => ⟨S3x4096x8, .f32⟩
  | 88 => ⟨S_, .f32⟩
  | 89 => ⟨S4096x8, .f32⟩
  | 90 => ⟨S_, .f32⟩
  | 91 => ⟨S4096x8, .f32⟩
  | 92 => ⟨S_, .f32⟩
  | 93 => ⟨S4096x8, .f32⟩
  | 94 => ⟨S1x4096x8, .f32⟩
  | 95 => ⟨S3x4096x8, .f32⟩
  | 96 => ⟨S3x4096x8, .i1⟩
  | 97 => ⟨S3x4096x8, .f32⟩
  | 98 => ⟨S_, .f32⟩
  | 99 => ⟨S4096x8, .f32⟩
  | 100 => ⟨S_, .f32⟩
  | 101 => ⟨S4096x8, .f32⟩
  | 102 => ⟨S4096x8, .f32⟩
  | 103 => ⟨S_, .f32⟩
  | 104 => ⟨S4096x8, .f32⟩
  | 105 => ⟨S4096x8, .i1⟩
  | 106 => ⟨S_, .f32⟩
  | 107 => ⟨S4096x8, .f32⟩
  | 108 => ⟨S4096x8, .i1⟩
  | 109 => ⟨S_, .f32⟩
  | 110 => ⟨S4096x8, .f32⟩
  | 111 => ⟨S_, .f32⟩
  | 112 => ⟨S4096x8, .f32⟩
  | 113 => ⟨S_, .f32⟩
  | 114 => ⟨S4096x8, .f32⟩
  | 115 => ⟨S4096x8, .f32⟩
  | 116 => ⟨S4096x8, .f32⟩
  | 117 => ⟨S1x4096x8, .f32⟩
  | 118 => ⟨S3x4096x8, .f32⟩
  | 119 => ⟨S3x4096x8, .f32⟩
  | 120 => ⟨S3x4096x8, .f32⟩
  | 121 => ⟨S_, .f32⟩
  | 122 => ⟨S4096x8, .f32⟩
  | 123 => ⟨S1x4096x8, .f32⟩
  | 124 => ⟨S3x4096x8, .f32⟩
  | 125 => ⟨S3x4096x8, .f32⟩
  | 126 => ⟨S1x4096x8, .f32⟩
  | 127 => ⟨S_, .f32⟩
  | _ => ⟨S4096x8x64, .f32⟩

abbrev hbmTy0_1 (i : Nat) : BufTy := match i % 128 with
  | 0 => ⟨S1x4096x8, .f32⟩
  | 1 => ⟨S1x4096x8, .f32⟩
  | 2 => ⟨S3x4096x8x1, .f32⟩
  | 3 => ⟨S1x4096x8x64, .f32⟩
  | 4 => ⟨S1x4096x8x64, .f32⟩
  | 5 => ⟨S1x4096x8x64, .f32⟩
  | 6 => ⟨S3x4096x8x64, .f32⟩
  | 7 => ⟨S_, .f32⟩
  | 8 => ⟨S4096x8x64, .f32⟩
  | 9 => ⟨S_, .f32⟩
  | 10 => ⟨S4096x8x64, .f32⟩
  | 11 => ⟨S3x4096x8x64, .f32⟩
  | 12 => ⟨S3x4096x8x64, .f32⟩
  | 13 => ⟨S_, .f32⟩
  | 14 => ⟨S4096x8x64, .f32⟩
  | 15 => ⟨S3x4096x8x64, .f32⟩
  | 16 => ⟨S3x4096x8x64, .f32⟩
  | 17 => ⟨S3x4096x8x64, .f32⟩
  | 18 => ⟨S3x4096x8x64, .f32⟩
  | 19 => ⟨S_, .f32⟩
  | 20 => ⟨S3x4096x8, .f32⟩
  | 21 => ⟨S3x4096x8x1, .f32⟩
  | 22 => ⟨S1x4096x8x64, .f32⟩
  | 23 => ⟨S4096x8x64, .f32⟩
  | 24 => ⟨S1x4096x8x64, .f32⟩
  | 25 => ⟨S4096x8x64, .f32⟩
  | 26 => ⟨S1x4096x8x64, .f32⟩
  | 27 => ⟨S4096x8x64, .f32⟩
  | 28 => ⟨S_, .f32⟩
  | 29 => ⟨S3x4096x8, .f32⟩
  | 30 => ⟨S3x4096x8, .f32⟩
  | 31 => ⟨S3x4096x8, .f32⟩
  | 32 => ⟨S3x4096x8, .f32⟩
  | 33 => ⟨S_, .f32⟩
  | 34 => ⟨S4096x8, .f32⟩
  | 35 => ⟨S1x4096x8, .f32⟩
  | 36 => ⟨S1x4096x8, .f32⟩
  | 37 => ⟨S3x4096x8, .f32⟩
  | 38 => ⟨S3x4096x8, .f32⟩
  | 39 => ⟨S_, .f32⟩
  | 40 => ⟨S4096x8, .f32⟩
  | 41 => ⟨S3x4096x8, .f32⟩
  | 42 => ⟨S3x4096x8, .f32⟩
  | 43 => ⟨S3x4096x8, .f32⟩
  | 44 => ⟨S1x4096x8, .f32⟩
  | 45 => ⟨S4096x8, .f32⟩
  | 46 => ⟨S1x4096x8, .f32⟩
  | 47 => ⟨S4096x8, .f32⟩
  | 48 => ⟨S1x4096x8, .f32⟩
  | 49 => ⟨S4096x8, .f32⟩
  | 50 => ⟨S8x4096, .f32⟩
  | 51 => ⟨S8x4096x1, .f32⟩
  | 52 => ⟨S8x4096x1, .f32⟩
  | 53 => ⟨S8x64x4096, .f32⟩
  | 54 => ⟨S8x4096x4096, .f32⟩
  | 55 => ⟨S8x64x4096, .f32⟩
  | 56 => ⟨S4096x8x64, .f32⟩
  | 57 => ⟨S8x4096x4096, .f32⟩
  | 58 => ⟨S8x4096x4096, .f32⟩
  | 59 => ⟨S8x4096x4096, .f32⟩
  | 60 => ⟨S_, .f32⟩
  | 61 => ⟨S8x4096, .f32⟩
  | 62 => ⟨S8x4096x1, .f32⟩
  | 63 => ⟨S8x4096x1, .f32⟩
  | 64 => ⟨S8x4096x1, .f32⟩
  | 65 => ⟨S8x4096x4096, .f32⟩
  | 66 => ⟨S8x4096x4096, .f32⟩
  | 67 => ⟨S_, .f32⟩
  | 68 => ⟨S8x4096, .f32⟩
  | 69 => ⟨S8x4096x4096, .f32⟩
  | 70 => ⟨S8x4096x4096, .f32⟩
  | 71 => ⟨S8x4096x4096, .f32⟩
  | 72 => ⟨S8x4096x4096, .f32⟩
  | 73 => ⟨S_, .f32⟩
  | 74 => ⟨S8x4096, .f32⟩
  | 75 => ⟨S8x4096x1, .f32⟩
  | 76 => ⟨S8x4096x1, .f32⟩
  | 77 => ⟨S_, .f32⟩
  | 78 => ⟨S8x4096, .f32⟩
  | 79 => ⟨S8x4096, .f32⟩
  | 80 => ⟨S8x4096x4096, .f32⟩
  | 81 => ⟨S8x4096x4096, .f32⟩
  | 82 => ⟨S8x4096x4096, .f32⟩
  | 83 => ⟨S_, .f32⟩
  | 84 => ⟨S8x4096x4096, .f32⟩
  | 85 => ⟨S8x4096x4096, .f32⟩
  | 86 => ⟨S8x4096x64, .f32⟩
  | 87 => ⟨S4096x8x64, .f32⟩
  | 88 => ⟨S8x4096x64, .f32⟩
  | 89 => ⟨S4096x8x64, .f32⟩
  | 90 => ⟨S1024x2048, .f32⟩
  | 91 => ⟨S1024x2048, .bf16⟩
  | 92 => ⟨S1024x2048, .f32⟩
  | 93 => ⟨S1024x2048, .bf16⟩
  | 94 => ⟨S1024x2048, .f32⟩
  | 95 => ⟨S1024x2048, .bf16⟩
  | _ => ⟨S4096x8x64, .f32⟩

abbrev hbmTy (i : Nat) : BufTy := match i / 128 with
  | 0 => hbmTy0_0 i
  | 1 => hbmTy0_1 i
  | _ => ⟨S4096x8x64, .f32⟩

abbrev bufTy : (tb : Table) → Fin (tcTables nBuf tb) → BufTy
  | .hbm, ⟨i, _⟩ => hbmTy i
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v13 : Ref sig .tc := ⟨.hbm, 44, rfl⟩
abbrev main_c_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst : Ref sig .tc := ⟨.hbm, 50, rfl⟩
abbrev main_call1_v0 : Ref sig .tc := ⟨.hbm, 51, rfl⟩
abbrev main_v18_1 : Ref sig .tc := ⟨.hbm, 52, rfl⟩
abbrev main_call1_v2 : Ref sig .tc := ⟨.hbm, 53, rfl⟩
abbrev main_v18_0 : Ref sig .tc := ⟨.hbm, 54, rfl⟩
abbrev main_call1_cst : Ref sig .tc := ⟨.hbm, 55, rfl⟩
abbrev main_v18_2 : Ref sig .tc := ⟨.hbm, 56, rfl⟩
abbrev main_cst_3 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_4 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_5 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_6 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_7 : Ref sig .tc := ⟨.hbm, 88, rfl⟩
abbrev main_v46 : Ref sig .tc := ⟨.hbm, 89, rfl⟩
abbrev main_cst_8 : Ref sig .tc := ⟨.hbm, 90, rfl⟩
abbrev main_v47 : Ref sig .tc := ⟨.hbm, 91, rfl⟩
abbrev main_cst_9 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_10 : Ref sig .tc := ⟨.hbm, 98, rfl⟩
abbrev main_v53 : Ref sig .tc := ⟨.hbm, 99, rfl⟩
abbrev main_cst_11 : Ref sig .tc := ⟨.hbm, 100, rfl⟩
abbrev main_v54 : Ref sig .tc := ⟨.hbm, 101, rfl⟩
abbrev main_v55 : Ref sig .tc := ⟨.hbm, 102, rfl⟩
abbrev main_cst_12 : Ref sig .tc := ⟨.hbm, 103, rfl⟩
abbrev main_v56 : Ref sig .tc := ⟨.hbm, 104, rfl⟩
abbrev main_v57 : Ref sig .tc := ⟨.hbm, 105, rfl⟩
abbrev main_cst_13 : Ref sig .tc := ⟨.hbm, 106, rfl⟩
abbrev main_v58 : Ref sig .tc := ⟨.hbm, 107, rfl⟩
abbrev main_v59 : Ref sig .tc := ⟨.hbm, 108, rfl⟩
abbrev main_cst_14 : Ref sig .tc := ⟨.hbm, 109, rfl⟩
abbrev main_v60 : Ref sig .tc := ⟨.hbm, 110, rfl⟩
abbrev main_cst_15 : Ref sig .tc := ⟨.hbm, 111, rfl⟩
abbrev main_v61 : Ref sig .tc := ⟨.hbm, 112, rfl⟩
abbrev main_cst_16 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_17 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_18 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_19 : Ref sig .tc := ⟨.hbm, 135, rfl⟩
abbrev main_v81 : Ref sig .tc := ⟨.hbm, 136, rfl⟩
abbrev main_cst_20 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_21 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_22 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_23 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_24 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_25 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst_26 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_27 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_28 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_cst_29 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_call2_cst : Ref sig .tc := ⟨.hbm, 211, rfl⟩
abbrev main_call2_v0 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S8x128 : Shape := ⟨2, ![8, 128]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x1024, .bf16⟩
  | .hbm, ⟨6, _⟩ => ⟨S4096x4096, .bf16⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S_, .f32⟩
  | .hbm, ⟨11, _⟩ => ⟨S8x128, .f32⟩
  | .hbm, ⟨12, _⟩ => ⟨S4096x4096, .bf16⟩
  | .hbm, ⟨13, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .i1⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x1024, .f32⟩
  | .hbm, ⟨37, _⟩ => ⟨S1024x4096, .f32⟩
  | .hbm, ⟨38, _⟩ => ⟨S4096x1024, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x1024, .f32⟩
  | .hbm, ⟨45, _⟩ => ⟨S1024x4096, .f32⟩
  | .hbm, ⟨46, _⟩ => ⟨S4096x1024, .f32⟩
  | .hbm, ⟨47, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_cst : Ref sig .tc := ⟨.hbm, 24, rfl⟩
abbrev main_call1_v0 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S4096x4096 : Shape := ⟨2, ![4096, 4096]⟩
abbrev S4096x512 : Shape := ⟨2, ![4096, 512]⟩
abbrev S512x1024 : Shape := ⟨2, ![512, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S1024x4096, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S1024x4096, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel4.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4096x512 : Shape := ⟨2, ![4096, 512]⟩
abbrev S512x1024 : Shape := ⟨2, ![512, 1024]⟩

abbrev nBuf : Space → Nat
  | .hbm => 26
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S4096x1024, .bf16⟩
  | .hbm, ⟨25, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S1024x4096, .f32⟩
  | .hbm, ⟨19, _⟩ => ⟨S4096x1024, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S1024x4096, .f32⟩
  | .hbm, ⟨27, _⟩ => ⟨S4096x1024, .f32⟩
  | .hbm, ⟨28, _⟩ => ⟨S4096x1024, .f32⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x2824 : Shape := ⟨2, ![1024, 2824]⟩
abbrev S4096x2824 : Shape := ⟨2, ![4096, 2824]⟩
abbrev S2824x1024 : Shape := ⟨2, ![2824, 1024]⟩
abbrev S776x1024 : Shape := ⟨2, ![776, 1024]⟩
abbrev S_ : Shape := ⟨0, ![]⟩
abbrev S896x1024 : Shape := ⟨2, ![896, 1024]⟩
abbrev S4096x2048 : Shape := ⟨2, ![4096, 2048]⟩
abbrev S4096x776 : Shape := ⟨2, ![4096, 776]⟩
abbrev S4096x896 : Shape := ⟨2, ![4096, 896]⟩
abbrev S2048x1024 : Shape := ⟨2, ![2048, 1024]⟩
abbrev S8x128 : Shape := ⟨2, ![8, 128]⟩
abbrev S512x2048 : Shape := ⟨2, ![512, 2048]⟩
abbrev S512x896 : Shape := ⟨2, ![512, 896]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2824, .f32⟩
  | .hbm, ⟨3, _⟩ => ⟨S4096x1024, .f32⟩
  | .hbm, ⟨4, _⟩ => ⟨S4096x2824, .f32⟩
  | .hbm, ⟨5, _⟩ => ⟨S2824x1024, .f32⟩
  | .hbm, ⟨6, _⟩ => ⟨S2824x1024, .bf16⟩
  | .hbm, ⟨7, _⟩ => ⟨S776x1024, .bf16⟩
  | .hbm, ⟨8, _⟩ => ⟨S_, .i32⟩
  | .hbm, ⟨9, _⟩ => ⟨S_, .bf16⟩
  | .hbm, ⟨10, _⟩ => ⟨S896x1024, .bf16⟩
  | .hbm, ⟨11, _⟩ => ⟨S4096x2048, .f32⟩
  | .hbm, ⟨12, _⟩ => ⟨S4096x2048, .bf16⟩
  | .hbm, ⟨13, _⟩ => ⟨S4096x776, .f32⟩
  | .hbm, ⟨14, _⟩ => ⟨S4096x776, .bf16⟩
  | .hbm, ⟨15, _⟩ => ⟨S_, .i32⟩
  | .hbm, ⟨16, _⟩ => ⟨S_, .bf16⟩
  | .hbm, ⟨17, _⟩ => ⟨S4096x896, .bf16⟩
  | .hbm, ⟨18, _⟩ => ⟨S2048x1024, .bf16⟩
  | .hbm, ⟨19, _⟩ => ⟨S_, .f32⟩
  | .hbm, ⟨20, _⟩ => ⟨S8x128, .f32⟩
  | .hbm, ⟨21, _⟩ => ⟨S4096x1024, .f32⟩
  | .hbm, ⟨22, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x896, .bf16⟩
  | .local _ .vmem, ⟨4, _⟩ => ⟨S512x896, .bf16⟩
  | .local _ .vmem, ⟨5, _⟩ => ⟨S896x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S896x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S4096x1024 : Shape := ⟨2, ![4096, 1024]⟩
abbrev S1x1024 : Shape := ⟨2, ![1, 1024]⟩
abbrev S1024x2824 : Shape := ⟨2, ![1024, 2824]⟩
abbrev S4096x2824 : Shape := ⟨2, ![4096, 2824]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2824, .f32⟩
  | .hbm, ⟨3, _⟩ => ⟨S4096x1024, .f32⟩
  | .hbm, ⟨4, _⟩ => ⟨S4096x2824, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2824, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel6.lean ====
abbrev S4096x1024 : Shape := ⟨2, ![4096, 1024]⟩
abbrev S1024x2824 : Shape := ⟨2, ![1024, 2824]⟩
abbrev S4096x2824 : Shape := ⟨2, ![4096, 2824]⟩
abbrev S4096x2048 : Shape := ⟨2, ![4096, 2048]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2824, .f32⟩
  | .hbm, ⟨2, _⟩ => ⟨S4096x2824, .f32⟩
  | .hbm, ⟨3, _⟩ => ⟨S4096x2048, .f32⟩
  | .hbm, ⟨4, _⟩ => ⟨S4096x2048, .bf16⟩
  | .hbm, ⟨5, _⟩ => ⟨S4096x1024, .bf16⟩
  | .hbm, ⟨6, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x2824 : Shape := ⟨2, ![1024, 2824]⟩
abbrev S4096x2824 : Shape := ⟨2, ![4096, 2824]⟩
abbrev S2824x1024 : Shape := ⟨2, ![2824, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2824, .f32⟩
  | .hbm, ⟨2, _⟩ => ⟨S4096x2824, .f32⟩
  | .hbm, ⟨3, _⟩ => ⟨S4096x2824, .f32⟩
  | .hbm, ⟨4, _⟩ => ⟨S2824x1024, .f32⟩
  | .hbm, ⟨5, _⟩ => ⟨S1024x2824, .f32⟩
  | .hbm, ⟨6, _⟩ => ⟨S2824x1024, .f32⟩
  | .hbm, ⟨7, _⟩ => ⟨S2048x1024, .f32⟩
  | .hbm, ⟨8, _⟩ => ⟨S2048x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024x2824 : Shape := ⟨2, ![1024, 2824]⟩
abbrev S4096x2824 : Shape := ⟨2, ![4096, 2824]⟩
abbrev S4096x776 : Shape := ⟨2, ![4096, 776]⟩
abbrev S_ : Shape := ⟨0, ![]⟩
abbrev S4096x896 : Shape := ⟨2, ![4096, 896]⟩
abbrev S896x1024 : Shape := ⟨2, ![896, 1024]⟩

abbrev nBuf : Space → Nat
  | .hbm => 10
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1024x2824, .f32⟩
  | .hbm, ⟨2, _⟩ => ⟨S4096x2824, .f32⟩
  | .hbm, ⟨3, _⟩ => ⟨S4096x776, .f32⟩
  | .hbm, ⟨4, _⟩ => ⟨S4096x776, .bf16⟩
  | .hbm, ⟨5, _⟩ => ⟨S_, .i32⟩
  | .hbm, ⟨6, _⟩ => ⟨S_, .bf16⟩
  | .hbm, ⟨7, _⟩ => ⟨S4096x896, .bf16⟩
  | .hbm, ⟨8, _⟩ => ⟨S4096x1024, .bf16⟩
  | .hbm, ⟨9, _⟩ => ⟨S896x1024, .bf16⟩
  | .local _ .vmem, ⟨0, _⟩ => ⟨S4096x896, .bf16⟩
  | .local _ .vmem, ⟨1, _⟩ => ⟨S4096x1024, .bf16⟩
  | .local _ .vmem, ⟨2, _⟩ => ⟨S896x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x896 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S896x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x2824 : Shape := ⟨2, ![1024, 2824]⟩
abbrev S4096x2824 : Shape := ⟨2, ![4096, 2824]⟩
abbrev S2824x1024 : Shape := ⟨2, ![2824, 1024]⟩
abbrev S776x1024 : Shape := ⟨2, ![776, 1024]⟩
abbrev S_ : Shape := ⟨0, ![]⟩
abbrev S896x1024 : Shape := ⟨2, ![896, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2824, .f32⟩
  | .hbm, ⟨2, _⟩ => ⟨S4096x2824, .f32⟩
  | .hbm, ⟨3, _⟩ => ⟨S4096x2824, .f32⟩
  | .hbm, ⟨4, _⟩ => ⟨S2824x1024, .f32⟩
  | .hbm, ⟨5, _⟩ => ⟨S1024x2824, .f32⟩
  | .hbm, ⟨6, _⟩ => ⟨S2824x1024, .f32⟩
  | .hbm, ⟨7, _⟩ => ⟨S776x1024, .f32⟩
  | .hbm, ⟨8, _⟩ => ⟨S_, .i32⟩
  | .hbm, ⟨9, _⟩ => ⟨S_, .f32⟩
  | .hbm, ⟨10, _⟩ => ⟨S896x1024, .f32⟩
  | .hbm, ⟨11, _⟩ => ⟨S896x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1024x1024, .bf16⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel10.lean ====
abbrev S4096x1024 : Shape := ⟨2, ![4096, 1024]⟩
abbrev S1024x2824 : Shape := ⟨2, ![1024, 2824]⟩
abbrev S2824x1024 : Shape := ⟨2, ![2824, 1024]⟩
abbrev S776x1024 : Shape := ⟨2, ![776, 1024]⟩
abbrev S_ : Shape := ⟨0, ![]⟩
abbrev S896x1024 : Shape := ⟨2, ![896, 1024]⟩
abbrev S2048x1024 : Shape := ⟨2, ![2048, 1024]⟩
abbrev S8x128 : Shape := ⟨2, ![8, 128]⟩
abbrev S4096x2048 : Shape := ⟨2, ![4096, 2048]⟩
abbrev S4096x896 : Shape := ⟨2, ![4096, 896]⟩
abbrev S512x1024 : Shape := ⟨2, ![512, 1024]⟩
abbrev S512x2048 : Shape := ⟨2, ![512, 2048]⟩
abbrev S512x896 : Shape := ⟨2, ![512, 896]⟩

abbrev nBuf : Space → Nat
  | .hbm => 14
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x2824, .f32⟩
  | .hbm, ⟨2, _⟩ => ⟨S2824x1024, .f32⟩
  | .hbm, ⟨3, _⟩ => ⟨S2824x1024, .bf16⟩
  | .hbm, ⟨4, _⟩ => ⟨S776x1024, .bf16⟩
  | .hbm, ⟨5, _⟩ => ⟨S_, .i32⟩
  | .hbm, ⟨6, _⟩ => ⟨S_, .bf16⟩
  | .hbm, ⟨7, _⟩ => ⟨S896x1024, .bf16⟩
  | .hbm, ⟨8, _⟩ => ⟨S4096x1024, .bf16⟩
  | .hbm, ⟨9, _⟩ => ⟨S2048x1024, .bf16⟩
  | .hbm, ⟨10, _⟩ => ⟨S_, .f32⟩
  | .hbm, ⟨11, _⟩ => ⟨S8x128, .f32⟩
  | .hbm, ⟨12, _⟩ => ⟨S4096x2048, .f32⟩
  | .hbm, ⟨13, _⟩ => ⟨S4096x896, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S896x1024, .bf16⟩
  | .local _ .vmem, ⟨6, _⟩ => ⟨S512x2048, .f32⟩
  | .local _ .vmem, ⟨7, _⟩ => ⟨S512x2048, .f32⟩
  | .local _ .vmem, ⟨8, _⟩ => ⟨S512x896, .f32⟩
  | .local _ .vmem, ⟨9, _⟩ => ⟨S512x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S896x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x1024 : Shape := ⟨2, ![4096, 1024]⟩
abbrev S1024x2824 : Shape := ⟨2, ![1024, 2824]⟩
abbrev S4096x2824 : Shape := ⟨2, ![4096, 2824]⟩
abbrev S4096x2048 : Shape := ⟨2, ![4096, 2048]⟩
abbrev S4096x776 : Shape := ⟨2, ![4096, 776]⟩
abbrev S_ : Shape := ⟨0, ![]⟩
abbrev S4096x896 : Shape := ⟨2, ![4096, 896]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2824, .f32⟩
  | .hbm, ⟨2, _⟩ => ⟨S4096x2824, .f32⟩
  | .hbm, ⟨3, _⟩ => ⟨S4096x2048, .f32⟩
  | .hbm, ⟨4, _⟩ => ⟨S4096x776, .f32⟩
  | .hbm, ⟨5, _⟩ => ⟨S_, .i32⟩
  | .hbm, ⟨6, _⟩ => ⟨S_, .f32⟩
  | .hbm, ⟨7, _⟩ => ⟨S4096x896, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel11.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S8x512x1024 : Shape := ⟨3, ![8, 512, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S1024x1024 : Shape := ⟨2, ![1024, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .f32⟩
  | .hbm, ⟨8, _⟩ => ⟨S4096x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel14.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S1024x353 : Shape := ⟨2, ![1024, 353]⟩
abbrev S256x353 : Shape := ⟨2, ![256, 353]⟩

abbrev nBuf : Space → Nat
  | .hbm => 7
  | .vmem => 14
  | .smem => 0
  | _ => 0

abbrev bufTy : (tb : Table) → Fin (tcTables nBuf tb) → BufTy
  | .hbm, ⟨0, _⟩ => ⟨S1024x353, .f32⟩
  | .hbm, ⟨1, _⟩ => ⟨S1024x353, .f32⟩
  | .hbm, ⟨2, _⟩ => ⟨S1024x353, .f32⟩
  | .hbm, ⟨3, _⟩ => ⟨S1024x353, .f32⟩
  | .hbm, ⟨4, _⟩ => ⟨S1024x353, .f32⟩
  | .hbm, ⟨5, _⟩ => ⟨S1024x353, .f32⟩
  | .hbm, ⟨6, _⟩ => ⟨S1024x353, .f32⟩
  | .local _ .vmem, ⟨0, _⟩ => ⟨S256x353, .f32⟩
  | .local _ .vmem, ⟨1, _⟩ => ⟨S256x353, .f32⟩
  | .local _ .vmem, ⟨2, _⟩ => ⟨S256x353, .f32⟩
  | .local _ .vmem, ⟨3, _⟩ => ⟨S256x353, .f32⟩
  | .local _ .vmem, ⟨4, _⟩ => ⟨S256x353, .f32⟩
  | .local _ .vmem, ⟨5, _⟩ => ⟨S256x353, .f32⟩
  | .local _ .vmem, ⟨6, _⟩ => ⟨S256x353, .f32⟩
  | .local _ .vmem, ⟨7, _⟩ => ⟨S256x353, .f32⟩
  | .local _ .vmem, ⟨8, _⟩ => ⟨S256x353, .f32⟩
  | .local _ .vmem, ⟨9, _⟩ => ⟨S256x353, .f32⟩
  | .local _ .vmem, ⟨10, _⟩ => ⟨S256x353, .f32⟩
  | .local _ .vmem, ⟨11, _⟩ => ⟨S256x353, .f32⟩
  | .local _ .vmem, ⟨12, _⟩ => ⟨S256x353, .f32⟩
  | .local _ .vmem, ⟨13, _⟩ => ⟨S256x353, .f32⟩
  | _, _ => ⟨S1024x353, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x353 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x353 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x353 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x353 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x353 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x353 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x353 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S1024x353 : Shape := ⟨2, ![1024, 353]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x353, .f32⟩
  | .hbm, ⟨1, _⟩ => ⟨S1024x353, .f32⟩
  | .hbm, ⟨2, _⟩ => ⟨S1024x353, .f32⟩
  | .hbm, ⟨3, _⟩ => ⟨S1024x353, .f32⟩
  | .hbm, ⟨4, _⟩ => ⟨S_, .f32⟩
  | .hbm, ⟨5, _⟩ => ⟨S1024x353, .f32⟩
  | .hbm, ⟨6, _⟩ => ⟨S1024x353, .f32⟩
  | .hbm, ⟨7, _⟩ => ⟨S_, .f32⟩
  | .hbm, ⟨8, _⟩ => ⟨S1024x353, .f32⟩
  | .hbm, ⟨9, _⟩ => ⟨S1024x353, .f32⟩
  | .hbm, ⟨10, _⟩ => ⟨S1024x353, .f32⟩
  | .hbm, ⟨11, _⟩ => ⟨S_, .f32⟩
  | .hbm, ⟨12, _⟩ => ⟨S1024x353, .f32⟩
  | .hbm, ⟨13, _⟩ => ⟨S1024x353, .f32⟩
  | .hbm, ⟨14, _⟩ => ⟨S1024x353, .f32⟩
  | .hbm, ⟨15, _⟩ => ⟨S_, .f32⟩
  | .hbm, ⟨16, _⟩ => ⟨S1024x353, .f32⟩
  | .hbm, ⟨17, _⟩ => ⟨S1024x353, .f32⟩
  | .hbm, ⟨18, _⟩ => ⟨S1024x353, .f32⟩
  | .hbm, ⟨19, _⟩ => ⟨S_, .f32⟩
  | .hbm, ⟨20, _⟩ => ⟨S1024x353, .f32⟩
  | .hbm, ⟨21, _⟩ => ⟨S1024x353, .f32⟩
  | .hbm, ⟨22, _⟩ => ⟨S_, .f32⟩
  | .hbm, ⟨23, _⟩ => ⟨S1024x353, .f32⟩
  | .hbm, ⟨24, _⟩ => ⟨S1024x353, .f32⟩
  | .hbm, ⟨25, _⟩ => ⟨S1024x353, .f32⟩
  | .hbm, ⟨26, _⟩ => ⟨S_, .f32⟩
  | .hbm, ⟨27, _⟩ => ⟨S1024x353, .f32⟩
  | .hbm, ⟨28, _⟩ => ⟨S1024x353, .f32⟩
  | .hbm, ⟨29, _⟩ => ⟨S1024x353, .f32⟩
  | .hbm, ⟨30, _⟩ => ⟨S_, .f32⟩
  | .hbm, ⟨31, _⟩ => ⟨S1024x353, .f32⟩
  | .hbm, ⟨32, _⟩ => ⟨S1024x353, .f32⟩
  | .hbm, ⟨33, _⟩ => ⟨S1024x353, .f32⟩
  | .hbm, ⟨34, _⟩ => ⟨S_, .f32⟩
  | .hbm, ⟨35, _⟩ => ⟨S1024x353, .f32⟩
  | .hbm, ⟨36, _⟩ => ⟨S1024x353, .f32⟩
  | _, _ => ⟨S1024x353, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S256x128 : Shape := ⟨2, ![256, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S4096x512 : Shape := ⟨2, ![4096, 512]⟩
abbrev S512x256 : Shape := ⟨2, ![512, 256]⟩

abbrev nBuf : Space → Nat
  | .hbm => 6
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .bf16⟩
  | .hbm, ⟨4, _⟩ => ⟨S4096x256, .bf16⟩
  | .hbm, ⟨5, _⟩ => ⟨S1024x256, .bf16⟩
  | .local _ .vmem, ⟨0, _⟩ => ⟨S4096x512, .bf16⟩
  | .local _ .vmem, ⟨1, _⟩ => ⟨S4096x512, .bf16⟩
  | .local _ .vmem, ⟨2, _⟩ => ⟨S4096x256, .bf16⟩
  | .local _ .vmem, ⟨3, _⟩ => ⟨S512x256, .bf16⟩
  | .local _ .vmem, ⟨4, _⟩ => ⟨S512x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .f32⟩
  | .hbm, ⟨4, _⟩ => ⟨S1024x256, .f32⟩
  | .hbm, ⟨5, _⟩ => ⟨S256x1024, .f32⟩
  | .hbm, ⟨6, _⟩ => ⟨S1024x256, .f32⟩
  | .hbm, ⟨7, _⟩ => ⟨S1024x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8x512x1024 : Shape := ⟨3, ![8, 512, 1024]⟩
abbrev S512x1024 : Shape := ⟨2, ![512, 1024]⟩
abbrev S1x512x1024 : Shape := ⟨3, ![1, 512, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .local _ .vmem, ⟨0, _⟩ => ⟨S8x512x1024, .bf16⟩
  | .local _ .vmem, ⟨1, _⟩ => ⟨S512x1024, .f32⟩
  | _, _ => ⟨S8x512x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference18Ideal.lean ====
abbrev S8x512x1024 : Shape := ⟨3, ![8, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .f32⟩
  | .hbm, ⟨2, _⟩ => ⟨S_, .f32⟩
  | .hbm, ⟨3, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S8x384x1024 : Shape := ⟨3, ![8, 384, 1024]⟩
abbrev S384x1024 : Shape := ⟨2, ![384, 1024]⟩
abbrev S1x384x1024 : Shape := ⟨3, ![1, 384, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .f32⟩
  | .local _ .vmem, ⟨0, _⟩ => ⟨S8x384x1024, .bf16⟩
  | .local _ .vmem, ⟨1, _⟩ => ⟨S384x1024, .f32⟩
  | _, _ => ⟨S8x384x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference19Ideal.lean ====
abbrev S8x384x1024 : Shape := ⟨3, ![8, 384, 1024]⟩
abbrev S_ : Shape := ⟨0, ![]⟩
abbrev S384x1024 : Shape := ⟨2, ![384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S8x384x1024, .f32⟩
  | .hbm, ⟨2, _⟩ => ⟨S_, .f32⟩
  | .hbm, ⟨3, _⟩ => ⟨S384x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x32x1024, .bf16⟩
  | .hbm, ⟨1, _⟩ => ⟨S32x1024, .f32⟩
  | .local _ .vmem, ⟨0, _⟩ => ⟨S8x32x1024, .bf16⟩
  | .local _ .vmem, ⟨1, _⟩ => ⟨S32x1024, .f32⟩
  | _, _ => ⟨S8x32x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference20Ideal.lean ====
abbrev S8x32x1024 : Shape := ⟨3, ![8, 32, 1024]⟩
abbrev S_ : Shape := ⟨0, ![]⟩
abbrev S32x1024 : Shape := ⟨2, ![32, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x32x1024, .bf16⟩
  | .hbm, ⟨1, _⟩ => ⟨S8x32x1024, .f32⟩
  | .hbm, ⟨2, _⟩ => ⟨S_, .f32⟩
  | .hbm, ⟨3, _⟩ => ⟨S32x1024, .f32⟩
  | _, _ => ⟨S8x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Attention.lean ====
/-
  The gradient of one dilated attention branch over the real numbers.

  A query at position `t` attends to the keys `t, t - d, …, t - 128 d`. The branch's output is mixed with two
  further outputs by a softmax over the logarithms of the three normalisers. `dqR`, `dkR`, `dvR` are the gradients
  as reverse differentiation writes them, through the softmax of the branch and the softmax of the mixture;
  `dqK`, `dkK`, `dvK` are the short form: one weight per pair, `exp (score - log of the whole normaliser)`, and one
  number `∑ ct · (mixed output)` per query. The three theorems at the end say the two agree.
-/
module

public import Idealize.ShloMosaic.Lib.Pointwise
public import Mathlib.Analysis.SpecialFunctions.Log.Basic

@[expose] public section

noncomputable section

namespace Attention

/-- The query at `t` attends to the key at `u`. -/
def valid (d : ℕ) (t u : Fin 4096) : Prop := u.val ≤ t.val ∧ t.val ≤ u.val + 128 * d ∧ d ∣ (t.val - u.val)

instance (d : ℕ) (t u : Fin 4096) : Decidable (valid d t u) := inferInstanceAs (Decidable (_ ∧ _ ∧ _))

theorem valid_self (d : ℕ) (t : Fin 4096) : valid d t t := ⟨le_refl _, by omega, by simp⟩

/-- The numbers the branch is computed from: queries, keys, values, the two other outputs with the logarithms of their
    normalisers, the gradient of the mixed output, and the two shifts subtracted before exponentials are taken (the
    largest score of a row, and the largest of the three logarithms; the gradients do not depend on them). -/
structure Data where
  d : ℕ
  (q k v o1 o16 ct : Fin 4096 → Fin 8 → Fin 64 → ℝ)
  (l1 l16 : Fin 4096 → Fin 8 → ℝ)
  top : Fin 8 → Fin 4096 → ℝ
  top3 : Fin 4096 → Fin 8 → ℝ

namespace Data

variable (D : Data)

/-- Score of the query at `t` and the key at `u` in head `h`. -/
def S (h : Fin 8) (t u : Fin 4096) : ℝ := ∑ e, D.q t h e * D.k u h e

/-- The exponential of a score, shifted; zero outside the window. -/
def E (h : Fin 8) (t u : Fin 4096) : ℝ := if valid D.d t u then Real.exp (D.S h t u - D.top h t) else 0

/-- The branch's normaliser. -/
def den (h : Fin 8) (t : Fin 4096) : ℝ := ∑ u, D.E h t u

/-- The branch's output. -/
def out (t : Fin 4096) (h : Fin 8) (e : Fin 64) : ℝ := ∑ u, D.v u h e * (D.E h t u / D.den h t)

/-- The logarithm of the branch's normaliser, the shift added back. -/
def L (t : Fin 4096) (h : Fin 8) : ℝ := D.top h t + Real.log (D.den h t)

/-- The three logarithms. -/
def l3 (i : Fin 3) (t : Fin 4096) (h : Fin 8) : ℝ := if i.val < 1 then D.l1 t h else if i.val - 1 < 1 then D.L t h else D.l16 t h

/-- The three outputs. -/
def o3 (i : Fin 3) (t : Fin 4096) (h : Fin 8) (e : Fin 64) : ℝ :=
  if i.val < 1 then D.o1 t h e else if i.val - 1 < 1 then D.out t h e else D.o16 t h e

/-- The exponentials of the three logarithms, shifted. -/
def x3 (i : Fin 3) (t : Fin 4096) (h : Fin 8) : ℝ := Real.exp (D.l3 i t h - D.top3 t h)

/-- Their sum. -/
def s3 (t : Fin 4096) (h : Fin 8) : ℝ := ∑ i, D.x3 i t h

/-- The mixture's weights. -/
def alpha (i : Fin 3) (t : Fin 4096) (h : Fin 8) : ℝ := D.x3 i t h / D.s3 t h

/-- The mixed output. -/
def mix (t : Fin 4096) (h : Fin 8) (e : Fin 64) : ℝ := ∑ i, D.alpha i t h * D.o3 i t h e

/-- The logarithm of the normaliser of all three branches together. -/
def lse (t : Fin 4096) (h : Fin 8) : ℝ := D.top3 t h + Real.log (D.s3 t h)

/-! ## As reverse differentiation writes it -/

/-- The gradient of weight `i`. -/
def g3 (i : Fin 3) (t : Fin 4096) (h : Fin 8) : ℝ := ∑ e, D.ct t h e * D.o3 i t h e

/-- The gradient of the branch's logarithm. -/
def gL (i : Fin 3) (t : Fin 4096) (h : Fin 8) : ℝ :=
  (D.g3 i t h / D.s3 t h + -(∑ j, D.g3 j t h * (1 / (D.s3 t h * D.s3 t h)) * D.x3 j t h)) * D.x3 i t h

/-- The gradient of the branch's output. -/
def gout (t : Fin 4096) (h : Fin 8) (e : Fin 64) : ℝ := D.alpha 1 t h * D.ct t h e

/-- The gradient of a normalised weight. -/
def dp (h : Fin 8) (t u : Fin 4096) : ℝ := ∑ e, D.gout t h e * D.v u h e

/-- The gradient of the branch's normaliser. -/
def gden (h : Fin 8) (t : Fin 4096) : ℝ :=
  D.gL 1 t h / D.den h t + -(∑ u, D.dp h t u * (1 / (D.den h t * D.den h t)) * D.E h t u)

/-- The gradient of a score. -/
def gS (h : Fin 8) (t u : Fin 4096) : ℝ := (D.dp h t u / D.den h t + D.gden h t) * D.E h t u

/-- The gradient of the queries. -/
def dqR (t : Fin 4096) (h : Fin 8) (e : Fin 64) : ℝ := ∑ u, D.gS h t u * D.k u h e

/-- The gradient of the keys. -/
def dkR (u : Fin 4096) (h : Fin 8) (e : Fin 64) : ℝ := ∑ t, D.gS h t u * D.q t h e

/-- The gradient of the values. -/
def dvR (u : Fin 4096) (h : Fin 8) (e : Fin 64) : ℝ := ∑ t, D.gout t h e * (D.E h t u / D.den h t)

/-! ## The short form -/

/-- A pair's share of the mixture. -/
def W (h : Fin 8) (t u : Fin 4096) : ℝ := Real.exp (D.S h t u - D.lse t h)

/-- The gradient of a score, without the window. -/
def G (h : Fin 8) (t u : Fin 4096) : ℝ :=
  D.W h t u * ((∑ e, D.ct t h e * D.v u h e) - ∑ e, D.ct t h e * D.mix t h e)

/-! ## They agree -/

theorem den_pos (h : Fin 8) (t : Fin 4096) : 0 < D.den h t := by
  unfold den
  refine Finset.sum_pos' (fun u _ => ?_) ⟨t, Finset.mem_univ _, ?_⟩
  · unfold E
    split
    · exact (Real.exp_pos _).le
    · exact le_refl _
  · unfold E
    rw [if_pos (valid_self _ _)]
    exact Real.exp_pos _

theorem s3_pos (t : Fin 4096) (h : Fin 8) : 0 < D.s3 t h :=
  Finset.sum_pos (fun _ _ => Real.exp_pos _) ⟨0, Finset.mem_univ _⟩

/-- The branch's weight in the mixture times a normalised weight is the pair's share. -/
theorem alpha_mul (h : Fin 8) (t u : Fin 4096) :
    D.alpha 1 t h * (D.E h t u / D.den h t) = if valid D.d t u then D.W h t u else 0 := by
  unfold E
  split
  · have hd := D.den_pos h t
    have hs := D.s3_pos t h
    have hl : D.l3 1 t h = D.L t h := by simp [l3]
    unfold alpha x3 W lse
    rw [hl, L, show D.top h t + Real.log (D.den h t) - D.top3 t h = Real.log (D.den h t) + (D.top h t - D.top3 t h) by ring,
      Real.exp_add (Real.log _), Real.exp_log hd,
      show D.S h t u - (D.top3 t h + Real.log (D.s3 t h)) = (D.S h t u - D.top h t) + (D.top h t - D.top3 t h) - Real.log (D.s3 t h) by ring,
      Real.exp_sub (D.S h t u - D.top h t + _), Real.exp_add (D.S h t u - D.top h t), Real.exp_log hs]
    field_simp
  · simp

/-- The gradient of the branch's logarithm: its weight times what its output exceeds the mixture by. -/
theorem gL_eq (t : Fin 4096) (h : Fin 8) :
    D.gL 1 t h = D.alpha 1 t h * (D.g3 1 t h - ∑ e, D.ct t h e * D.mix t h e) := by
  have hs := (D.s3_pos t h).ne'
  have hm : ∑ e, D.ct t h e * D.mix t h e = ∑ j, D.alpha j t h * D.g3 j t h := by
    unfold mix g3
    simp only [Finset.mul_sum]
    rw [Finset.sum_comm]
    exact Finset.sum_congr rfl fun _ _ => Finset.sum_congr rfl fun _ _ => by ring
  rw [hm]
  unfold gL alpha
  simp only [Fin.sum_univ_three]
  field_simp
  ring

/-- The sum of a row's normalised weights against their gradients. -/
theorem sum_dp (h : Fin 8) (t : Fin 4096) :
    ∑ u, D.dp h t u * D.E h t u = D.den h t * (D.alpha 1 t h * D.g3 1 t h) := by
  have hd := (D.den_pos h t).ne'
  have ho : ∀ e, D.o3 1 t h e = D.out t h e := fun e => by simp [o3]
  unfold g3 dp gout
  simp only [ho, out, Finset.mul_sum, Finset.sum_mul]
  rw [Finset.sum_comm]
  exact Finset.sum_congr rfl fun _ _ => Finset.sum_congr rfl fun _ _ => by field_simp

theorem gden_eq (h : Fin 8) (t : Fin 4096) :
    D.gden h t = -(D.alpha 1 t h * ∑ e, D.ct t h e * D.mix t h e) / D.den h t := by
  have hd := (D.den_pos h t).ne'
  have : ∑ u, D.dp h t u * (1 / (D.den h t * D.den h t)) * D.E h t u
      = (1 / (D.den h t * D.den h t)) * ∑ u, D.dp h t u * D.E h t u := by
    rw [Finset.mul_sum]
    exact Finset.sum_congr rfl fun _ _ => by ring
  unfold gden
  rw [this, sum_dp, gL_eq]
  field_simp
  ring

/-- The gradient of a score is the short form's, inside the window. -/
theorem gS_eq (h : Fin 8) (t u : Fin 4096) : D.gS h t u = if valid D.d t u then D.G h t u else 0 := by
  have hd := (D.den_pos h t).ne'
  have ha := D.alpha_mul h t u
  have hdp : D.dp h t u = D.alpha 1 t h * ∑ e, D.ct t h e * D.v u h e := by
    unfold dp gout
    rw [Finset.mul_sum]
    exact Finset.sum_congr rfl fun _ _ => by ring
  have : D.gS h t u = (D.alpha 1 t h * (D.E h t u / D.den h t))
      * ((∑ e, D.ct t h e * D.v u h e) - ∑ e, D.ct t h e * D.mix t h e) := by
    unfold gS
    rw [gden_eq, hdp]
    field_simp
    ring
  rw [this, ha]
  unfold G
  split <;> simp

/-- The row's gradients add up to the gradient of its logarithm: the shift has no gradient. -/
theorem gL_add_sum (h : Fin 8) (t : Fin 4096) : D.gL 1 t h + ∑ u, -(D.gS h t u) = 0 := by
  have hd := (D.den_pos h t).ne'
  have : ∑ u, -(D.gS h t u) = -((∑ u, D.dp h t u * D.E h t u) / D.den h t + D.gden h t * D.den h t) := by
    rw [Finset.sum_neg_distrib]
    congr 1
    conv_rhs => rw [show D.gden h t * D.den h t = D.gden h t * ∑ u, D.E h t u from rfl]
    rw [Finset.sum_div, Finset.mul_sum, ← Finset.sum_add_distrib]
    exact Finset.sum_congr rfl fun _ _ => by unfold gS; ring
  rw [this, sum_dp, gden_eq, gL_eq]
  field_simp
  ring

/-- The gradient of the queries, in the short form. -/
theorem dqR_eq (t : Fin 4096) (h : Fin 8) (e : Fin 64) :
    D.dqR t h e = ∑ u, if valid D.d t u then D.G h t u * D.k u h e else 0 :=
  Finset.sum_congr rfl fun u _ => by rw [gS_eq]; split <;> simp

/-- The gradient of the keys, in the short form. -/
theorem dkR_eq (u : Fin 4096) (h : Fin 8) (e : Fin 64) :
    D.dkR u h e = ∑ t, if valid D.d t u then D.G h t u * D.q t h e else 0 :=
  Finset.sum_congr rfl fun t _ => by rw [gS_eq]; split <;> simp

/-- The gradient of the values, in the short form. -/
theorem dvR_eq (u : Fin 4096) (h : Fin 8) (e : Fin 64) :
    D.dvR u h e = ∑ t, if valid D.d t u then D.W h t u * D.ct t h e else 0 :=
  Finset.sum_congr rfl fun t _ => by
    have := D.alpha_mul h t u
    unfold gout
    rw [mul_right_comm, this]
    split <;> simp

end Data

end Attention

end
-- ==== Proof.Reals.lean ====
/-
  Extended reals that are real numbers: sums, quotients and maxima of them, and the exponential of a masked score.
-/
module

public import proofs.«01_k».proof.Proof.Attention

@[expose] public section

noncomputable section

namespace Reals

open Idealize.ShloMosaic

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_ite (p : Prop) [Decidable p] (a : ℝ) : (if p then (a : EReal) else 0) = ((if p then a else 0 : ℝ) : EReal) := by
  split <;> simp

theorem div_coe_coe (x : ℝ) {y : ℝ} (h : y ≠ 0) : Ideal.div (x : EReal) (y : EReal) = ((x / y : ℝ) : EReal) := by
  rw [Ideal.div_coe h, ← EReal.coe_mul, mul_one_div]

/-- The maximum of finitely many extended reals, none of them `⊤` and one of them a real, is a real. -/
theorem fold_max_real {ι : Type*} [Fintype ι] (f : ι → EReal) (i₀ : ι) (h₀ : f i₀ ≠ ⊥) (ht : ∀ i, f i ≠ ⊤) :
    Finset.univ.fold max ⊥ f = (((Finset.univ.fold max ⊥ f).toReal : ℝ) : EReal) := by
  refine (EReal.coe_toReal ?_ ?_).symm
  · exact ((Finset.fold_max_lt _).2 ⟨bot_lt_top, fun i _ => lt_top_iff_ne_top.2 (ht i)⟩).ne
  · exact ((Finset.lt_fold_max _).2 (.inr ⟨i₀, Finset.mem_univ _, bot_lt_iff_ne_bot.2 h₀⟩)).ne'

/-- A maximum above `⊥` is one of the numbers. -/
theorem exists_eq_fold_max {ι : Type*} [Fintype ι] (f : ι → EReal) (h : Finset.univ.fold max ⊥ f ≠ ⊥) :
    ∃ i, f i = Finset.univ.fold max ⊥ f := by
  classical
  have : ∀ s : Finset ι, s.fold max ⊥ f = ⊥ ∨ ∃ i, f i = s.fold max ⊥ f := by
    intro s
    induction s using Finset.induction_on with
    | empty => exact .inl rfl
    | insert a s ha ih =>
      rw [Finset.fold_insert ha]
      rcases max_choice (f a) (s.fold max ⊥ f) with hm | hm
      · exact .inr ⟨a, hm.symm⟩
      · rw [hm]
        exact ih
  exact (this _).resolve_left h

theorem select_ofBool {α : Type} (p : Prop) [Decidable p] (a b : α) :
    Scalar.select (BitVec.ofBool (decide p)) a b = if p then a else b := by
  by_cases h : p <;> simp [Scalar.select, h]

/-- The exponential of a score that a mask may have sent to `⊥`, shifted by a real. -/
theorem exp_masked (p : Prop) [Decidable p] (s l : ℝ) :
    Ideal.exp ((if p then (s : EReal) else ⊥) - (l : EReal)) = ((if p then Real.exp (s - l) else 0 : ℝ) : EReal) := by
  split
  · rw [← EReal.coe_sub, Ideal.exp_coe]
  · rw [EReal.bot_sub, Ideal.exp_bot, EReal.coe_zero]

/-- A window read off one-bit words: the extended reals' `0` or `⊥` added to a score. -/
theorem add_bias (p : Prop) [Decidable p] (s : ℝ) :
    (s : EReal) + (if p then 0 else ⊥) = if p then (s : EReal) else ⊥ := by
  split <;> simp

end Reals

end
-- ==== Proof.Window.lean ====
/-
  The reference's window at a pair of positions: the bit it computes from the distance of query and key says whether
  the distance is non-negative, at most 512 and divisible by four.
-/
module

public import proofs.«01_k».proof.Proof.Gen.ReferenceIdeal.Read
public import proofs.«01_k».proof.Proof.Reals
public import Idealize.ShloMosaic.Lib.Pipeline.ValueKit

@[expose] public section

set_option maxRecDepth 16384

noncomputable section

namespace Cert.ReferenceIdeal.Values

open Cert.ReferenceIdeal Cert.ReferenceIdeal.Gen Cert.ReferenceIdeal.Read Idealize.ShloMosaic Idealize.SL.Sem
open Attention (Data valid)

/-- What the reference computes from the distance of a query and a key, a 32-bit word: whether the distance is
    non-negative, at most 512 and divisible by four. -/
def window (x : BitVec 32) : BitVec 1 :=
  let r := IntOp.remsi .host x (Scalar.select (IntOp.cmpi .eq 4#32 0#32) 1#32 4#32)
  let s := Scalar.select (IntOp.cmpi .eq 4#32 0#32) 1#32 4#32
  IntOp.andi (IntOp.andi (IntOp.cmpi .sge x 0#32) (IntOp.cmpi .sle x 512#32))
    (IntOp.cmpi .eq
      (Scalar.select (IntOp.andi (IntOp.cmpi .ne (IntOp.cmpi .slt r 0#32) (IntOp.cmpi .slt s 0#32)) (IntOp.cmpi .ne r 0#32))
        (IntOp.addi r s) r) 0#32)

theorem window_nonneg : ∀ n : Fin 4096, window (BitVec.ofNat 32 n) = BitVec.ofBool (decide (n.val ≤ 512 ∧ 4 ∣ n.val)) := by
  decide +kernel

theorem window_neg (n : Fin 4096) (hn : 0 < n.val) : window (BitVec.ofNat 32 (2 ^ 32 - n.val)) = 0 := by
  revert n
  decide +kernel

/-- Whether the key at `u` is in the window of the query at `t`, as a bit. -/
theorem valid_at (t u : Fin 4096) :
    val_main_v16 (F := Ideal) (ix2 t u) = BitVec.ofBool (decide (valid 4 t u)) := by
  pointwise [val_main_v1, val_main_v2, val_main_v3, val_main_v4, val_main_v5, val_main_v6, val_main_v7, val_main_c,
    val_main_v8, val_main_v9, val_main_c_0, val_main_v10, val_main_v11, val_main_v12, val_main_c_1, val_main_v13,
    val_main_call0_v0, val_main_call0_v1, val_main_call0_v2, val_main_call0_v3, val_main_call0_v4, val_main_call0_v5,
    val_main_call0_v6, val_main_call0_v7, val_main_call0_v8, val_main_call0_v9, val_main_call0_v10, val_main_call0_v11,
    val_main_call0_v12, val_main_call0_v13, val_main_call0_v14, val_main_call0_c, val_main_call0_c_0,
    val_main_call0_c_1, val_main_call0_c_2, val_main_call0_c_3, val_main_v14, val_main_v15, val_main_v16, val_main_c_2]
  show window (BitVec.ofNat 32 t.val - BitVec.ofNat 32 u.val) = _
  rcases le_or_gt u.val t.val with h | h
  · rw [show BitVec.ofNat 32 t.val - BitVec.ofNat 32 u.val = BitVec.ofNat 32 (⟨t.val - u.val, by omega⟩ : Fin 4096).val from by
      apply BitVec.eq_of_toNat_eq
      simp only [BitVec.toNat_sub, BitVec.toNat_ofNat]
      omega, window_nonneg]
    unfold valid
    congr 2
    exact propext ⟨fun ⟨a, b⟩ => ⟨h, by simp at a; omega, b⟩, fun ⟨_, a, b⟩ => ⟨by simp; omega, b⟩⟩
  · rw [show BitVec.ofNat 32 t.val - BitVec.ofNat 32 u.val = BitVec.ofNat 32 (2 ^ 32 - (⟨u.val - t.val, by omega⟩ : Fin 4096).val) from by
      apply BitVec.eq_of_toNat_eq
      simp only [BitVec.toNat_sub, BitVec.toNat_ofNat]
      omega, window_neg _ (by simp; omega)]
    have : ¬ valid 4 t u := fun ⟨a, _⟩ => by omega
    simp [this]

end Cert.ReferenceIdeal.Values

end
-- ==== Proof.RefForward.lean ====
/-
  The reference's forward pass at an index: each stage is the stage of `Attention` of the same meaning, a real number,
  when the arguments are arrays of real numbers.
-/
module

public import proofs.«01_k».proof.Proof.Gen.ReferenceIdeal.Read
public import proofs.«01_k».proof.Proof.Window
public import Idealize.ShloMosaic.Lib.Pipeline.ValueKit

@[expose] public section

set_option maxRecDepth 16384

noncomputable section

namespace Cert.ReferenceIdeal.Values

open Cert.ReferenceIdeal Cert.ReferenceIdeal.Gen Cert.ReferenceIdeal.Read Idealize.ShloMosaic Idealize.SL.Sem
open Attention (Data valid)

/-- An array of real numbers, position by head by channel. -/
def arr3 (f : Fin 4096 → Fin 8 → Fin 64 → ℝ) : (⟨S4096x8x64, .f32⟩ : BufTy).Contents (Elt Ideal) := fun i => ((f (i 0) (i 1) (i 2) : ℝ) : EReal)

/-- An array of real numbers, position by head. -/
def arr2 (f : Fin 4096 → Fin 8 → ℝ) : (⟨S4096x8, .f32⟩ : BufTy).Contents (Elt Ideal) := fun i => ((f (i 0) (i 1) : ℝ) : EReal)

theorem arr3_at (f : Fin 4096 → Fin 8 → Fin 64 → ℝ) (t : Fin 4096) (h : Fin 8) (e : Fin 64) :
    arr3 f (ix3 t h e) = ((f t h e : ℝ) : EReal) := rfl

theorem arr2_at (f : Fin 4096 → Fin 8 → ℝ) (t : Fin 4096) (h : Fin 8) : arr2 f (ix2 t h) = ((f t h : ℝ) : EReal) := rfl

theorem ninf : (Ideal.ofBits .f32 0xFF800000#32 : EReal) = ⊥ := by
  simp [Ideal.ofBits, Ideal.ieee]

variable (D : Data) (hd : D.d = 4)

/-- The scores' shifts are the maxima the reference takes. -/
structure Top : Prop where
  d : D.d = 4
  top : ∀ h t, val_main_v19 (F := Ideal) (arr3 D.q) (arr3 D.k) (ix2 h t) = ((D.top h t : ℝ) : EReal)

/-- So are the shifts of the three logarithms. -/
structure Shifts : Prop extends Top D where
  top3 : ∀ t h, val_main_v48 (F := Ideal) (arr3 D.q) (arr3 D.k) (arr2 D.l1) (arr2 D.l16) (ix2 t h) = ((D.top3 t h : ℝ) : EReal)

variable {D}

theorem bit_at (hd : D.d = 4) (t u : Fin 4096) :
    val_main_v16 (F := Ideal) (ix2 t u) = BitVec.ofBool (decide (valid D.d t u)) := by
  rw [valid_at, hd]

/-- The scores, `⊥` outside the window. -/
theorem masked_at (hd : D.d = 4) (h : Fin 8) (t u : Fin 4096) :
    val_main_v18_0 (F := Ideal) (arr3 D.q) (arr3 D.k) (ix3 h t u) = if valid D.d t u then ((D.S h t u : ℝ) : EReal) else ⊥ := by
  pointwise [val_main_v18_0, val_main_v18_1, val_main_v17, val_main_v0, bit_at hd, val_main_call1_v2, val_main_call1_v0,
    val_main_cst, arr3_at]
  simp only [← EReal.coe_mul, Reals.coe_sum, id_eq, constant, ninf]
  rfl

/-- The largest score of a row is a real number. -/
theorem top_real (hd : D.d = 4) (h : Fin 8) (t : Fin 4096) :
    val_main_v19 (F := Ideal) (arr3 D.q) (arr3 D.k) (ix2 h t)
      = (((val_main_v19 (F := Ideal) (arr3 D.q) (arr3 D.k) (ix2 h t)).toReal : ℝ) : EReal) := by
  pointwise [val_main_v19, masked_at hd, val_main_cst_3, ninf]
  refine Reals.fold_max_real _ t ?_ fun u => ?_
  · simp [Attention.valid_self]
  · split <;> simp

section

variable (hD : Top D)

include hD

/-- The exponentials of the shifted scores. -/
theorem e_at (h : Fin 8) (t u : Fin 4096) : val_main_v28 (F := Ideal) (arr3 D.q) (arr3 D.k) (ix3 h t u) = ((D.E h t u : ℝ) : EReal) := by
  pointwise [val_main_v28, val_main_v27, val_main_v26, val_main_v25, masked_at hD.d, hD.top]
  exact Reals.exp_masked _ _ _

/-- The normaliser. -/
theorem den_at (h : Fin 8) (t : Fin 4096) : val_main_v29 (F := Ideal) (arr3 D.q) (arr3 D.k) (ix2 h t) = ((D.den h t : ℝ) : EReal) := by
  pointwise [val_main_v29, val_main_cst_5, e_at hD]
  exact Reals.coe_sum _ _

/-- The normalised weights. -/
theorem p_at (h : Fin 8) (t u : Fin 4096) :
    val_main_v32 (F := Ideal) (arr3 D.q) (arr3 D.k) (ix3 h t u) = ((D.E h t u / D.den h t : ℝ) : EReal) := by
  pointwise [val_main_v32, val_main_v31, val_main_v30, e_at hD, den_at hD]
  exact Reals.div_coe_coe _ (D.den_pos h t).ne'

/-- The branch's output. -/
theorem out_at (t : Fin 4096) (h : Fin 8) (e : Fin 64) :
    val_main_v37 (F := Ideal) (arr3 D.q) (arr3 D.k) (arr3 D.v) (ix3 t h e) = ((D.out t h e : ℝ) : EReal) := by
  pointwise [val_main_v37, val_main_v36, p_at hD, arr3_at]
  simp only [← EReal.coe_mul, Reals.coe_sum]
  rfl

/-- The shift, and the logarithm of the shifted normaliser. -/
theorem top_at (h : Fin 8) (t : Fin 4096) :
    val_main_v25 (F := Ideal) (arr3 D.q) (arr3 D.k) (ix3 h t 0) = ((D.top h t : ℝ) : EReal) := by
  pointwise [val_main_v25, hD.top]

theorem log_den_at (h : Fin 8) (t : Fin 4096) :
    val_main_v38 (F := Ideal) (arr3 D.q) (arr3 D.k) (ix3 h t 0) = ((Real.log (D.den h t) : ℝ) : EReal) := by
  pointwise [val_main_v38, val_main_v30, den_at hD]
  rw [Ideal.log_coe, if_neg (D.den_pos h t).not_ge]

theorem L_add (h : Fin 8) (t : Fin 4096) :
    val_main_v39 (F := Ideal) (arr3 D.q) (arr3 D.k) (ix3 h t 0) = ((D.L t h : ℝ) : EReal) := by
  rw [val_main_v39_apply, Ideal.addf_def, top_at hD, log_den_at hD, ← EReal.coe_add]
  rfl

/-- The logarithm of the normaliser. -/
theorem L_at (t : Fin 4096) (h : Fin 8) :
    val_main_v41 (F := Ideal) (arr3 D.q) (arr3 D.k) (ix2 t h) = ((D.L t h : ℝ) : EReal) := by
  pointwise [val_main_v41, val_main_v40, L_add hD]

/-- The three logarithms. -/
theorem l3_at (i : Fin 3) (t : Fin 4096) (h : Fin 8) :
    val_main_v45 (F := Ideal) (arr3 D.q) (arr3 D.k) (arr2 D.l1) (arr2 D.l16) (ix3 i t h) = ((D.l3 i t h : ℝ) : EReal) := by
  pointwise [val_main_v45, val_main_v44, val_main_v43, val_main_v42, L_at hD, arr2_at]
  unfold Data.l3
  split
  · rfl
  · split <;> rfl

/-- The largest of the three logarithms is a real number. -/
theorem top3_real (t : Fin 4096) (h : Fin 8) :
    val_main_v48 (F := Ideal) (arr3 D.q) (arr3 D.k) (arr2 D.l1) (arr2 D.l16) (ix2 t h)
      = (((val_main_v48 (F := Ideal) (arr3 D.q) (arr3 D.k) (arr2 D.l1) (arr2 D.l16) (ix2 t h)).toReal : ℝ) : EReal) := by
  pointwise [val_main_v48, l3_at hD, val_main_cst_9, ninf]
  exact Reals.fold_max_real _ 0 (EReal.coe_ne_bot _) fun i => EReal.coe_ne_top _

end

variable (hD : Shifts D)

include hD

/-- The exponentials of the three shifted logarithms. -/
theorem x3_at (i : Fin 3) (t : Fin 4096) (h : Fin 8) :
    val_main_v68 (F := Ideal) (arr3 D.q) (arr3 D.k) (arr2 D.l1) (arr2 D.l16) (ix3 i t h) = ((D.x3 i t h : ℝ) : EReal) := by
  pointwise [val_main_v68, val_main_v67, val_main_v66, val_main_v65, val_main_v55, val_main_v54, val_main_cst_11, ninf,
    l3_at hD.toTop, hD.top3]
  rw [max_eq_right bot_le, ← EReal.coe_sub, Ideal.exp_coe]
  rfl

/-- Their sum. -/
theorem s3_at (t : Fin 4096) (h : Fin 8) :
    val_main_v69 (F := Ideal) (arr3 D.q) (arr3 D.k) (arr2 D.l1) (arr2 D.l16) (ix2 t h) = ((D.s3 t h : ℝ) : EReal) := by
  pointwise [val_main_v69, val_main_cst_17, x3_at hD]
  exact Reals.coe_sum _ _

/-- The mixture's weights. -/
theorem alpha_at (i : Fin 3) (t : Fin 4096) (h : Fin 8) :
    val_main_v72 (F := Ideal) (arr3 D.q) (arr3 D.k) (arr2 D.l1) (arr2 D.l16) (ix3 i t h) = ((D.alpha i t h : ℝ) : EReal) := by
  pointwise [val_main_v72, val_main_v71, val_main_v70, x3_at hD, s3_at hD]
  exact Reals.div_coe_coe _ (D.s3_pos t h).ne'

/-- The three outputs. -/
theorem o3_at (i : Fin 3) (t : Fin 4096) (h : Fin 8) (e : Fin 64) :
    val_main_v80 (F := Ideal) (arr3 D.q) (arr3 D.k) (arr3 D.v) (arr3 D.o1) (arr3 D.o16) (ix4 i t h e) = ((D.o3 i t h e : ℝ) : EReal) := by
  pointwise [val_main_v80, val_main_v79, val_main_v78, val_main_v77, out_at hD.toTop, arr3_at]
  unfold Data.o3
  split
  · rfl
  · split <;> rfl

/-- The mixed output. -/
theorem mix_at (t : Fin 4096) (h : Fin 8) (e : Fin 64) :
    val_main_v85 (F := Ideal) (arr3 D.q) (arr3 D.k) (arr3 D.v) (arr3 D.o1) (arr2 D.l1) (arr3 D.o16) (arr2 D.l16) (ix3 t h e)
      = ((D.mix t h e : ℝ) : EReal) := by
  pointwise [val_main_v85, val_main_cst_21, val_main_v84, val_main_v83, val_main_v76, alpha_at hD, o3_at hD]
  simp only [← EReal.coe_mul, Reals.coe_sum]
  rfl

end Cert.ReferenceIdeal.Values

end
-- ==== Proof.Prelude.lean ====
/-
  What the host operations before the kernel leave in its operands: the queries, keys, values and gradient laid out by
  residue, the mixed output the reference's forward pass computes, and the logarithm of the normaliser.
-/
module

public import proofs.«01_k».proof.Proof.Gen.KernelIdeal.Frame
public import proofs.«01_k».proof.Proof.RefForward
public import Idealize.ShloMosaic.Lib.Claim

@[expose] public section

set_option maxRecDepth 16384

noncomputable section

namespace Cert.KernelIdeal.Prelude

open Cert.KernelIdeal Cert.KernelIdeal.Gen Idealize.ShloMosaic Idealize.ShloMosaic.TcCoe Idealize.SL.Sem
open Attention (Data)
open Cert.ReferenceIdeal.Values (arr3 arr2 Shifts)

open Cert.ReferenceIdeal.Read

/-- The exponentials of the three logarithms less the largest of them. -/
def exps (x0 x1 : (⟨S4096x8x64, .f32⟩ : BufTy).Contents (Elt Ideal)) (x4 x6 : (⟨S4096x8, .f32⟩ : BufTy).Contents (Elt Ideal)) : (⟨S3x4096x8, .f32⟩ : BufTy).Contents (Elt Ideal) :=
  Host.exp (F := Ideal) (φ := .f32) (subf (F := Ideal) (φ := .f32) (val_main_v45 (F := Ideal) x0 x1 x4 x6) (broadcastInDim S3x4096x8 ![0, 1, 2] bcast_S1x4096x8_S3x4096x8_0_1_2
    (broadcastInDim S1x4096x8 ![1, 2] bcast_S4096x8_S1x4096x8_1_2 (val_main_v48 (F := Ideal) x0 x1 x4 x6))))

/-- The logarithm of the normaliser of all three branches together. -/
def total (x0 x1 : (⟨S4096x8x64, .f32⟩ : BufTy).Contents (Elt Ideal)) (x4 x6 : (⟨S4096x8, .f32⟩ : BufTy).Contents (Elt Ideal)) : (⟨S4096x8, .f32⟩ : BufTy).Contents (Elt Ideal) :=
  addf (F := Ideal) (φ := .f32) (val_main_v48 (F := Ideal) x0 x1 x4 x6) (Host.log (F := Ideal) (φ := .f32)
    (Host.reduceAdd (F := Ideal) (φ := .f32) (exps x0 x1 x4 x6) (constant S_ .f32 0x00000000#32) reducesTo_S3x4096x8_S4096x8_d0 h_S_))

/-- The same at every channel. -/
def lse (x0 x1 : (⟨S4096x8x64, .f32⟩ : BufTy).Contents (Elt Ideal)) (x4 x6 : (⟨S4096x8, .f32⟩ : BufTy).Contents (Elt Ideal)) : (⟨S4096x8x64, .f32⟩ : BufTy).Contents (Elt Ideal) :=
  broadcastInDim S4096x8x64 ![0, 1, 2] bcast_S4096x8x1_S4096x8x64_0_1_2 (broadcastInDim S4096x8x1 ![0, 1] bcast_S4096x8_S4096x8x1_0_1
    (total x0 x1 x4 x6))

variable (V0 : Valuation τ sig (Elt Ideal))

theorem s0_v0 : StableHlo.after hostOps0 V0 (Proc.devRef .tc main_v0) = val_main_v0 (F := Ideal) (V0 (Proc.devRef .tc main_arg0)) (V0 (Proc.devRef .tc main_arg1)) := by
  simp only [hostOps0]
  after_results_simp
  all_goals rfl

theorem s0_v7 : StableHlo.after hostOps0 V0 (Proc.devRef .tc main_v7) = val_main_v7 (F := Ideal) := by
  simp only [hostOps0]
  after_results_simp
  all_goals rfl

theorem s0_v12 : StableHlo.after hostOps0 V0 (Proc.devRef .tc main_v12) = val_main_v12 (F := Ideal) := by
  simp only [hostOps0]
  after_results_simp
  all_goals rfl

theorem s0_c_1 : StableHlo.after hostOps0 V0 (Proc.devRef .tc main_c_1) = val_main_c_1 (F := Ideal) := by
  simp only [hostOps0]
  after_results_simp
  all_goals rfl

theorem s1_v13 (h7 : V0 (Proc.devRef .tc main_v7) = val_main_v7 (F := Ideal)) (hc : V0 (Proc.devRef .tc main_c_1) = val_main_c_1 (F := Ideal)) :
    StableHlo.after hostOps0_1 V0 (Proc.devRef .tc main_v13) = val_main_v13 (F := Ideal) := by
  simp only [hostOps0_1, StableHlo.TRef.binary, StableHlo.TRef.nullary, StableHlo.TRef.ternary, StableHlo.TRef.unary, StableHlo.TRef.toBuf, StableHlo.TRef.ofBuf, cast_eq]
  after_results_simp
  rw [h7, hc]
  all_goals rfl

theorem s2_v17 (h12 : V0 (Proc.devRef .tc main_v12) = val_main_v12 (F := Ideal)) (h13 : V0 (Proc.devRef .tc main_v13) = val_main_v13 (F := Ideal)) :
    StableHlo.after hostOps0_2 V0 (Proc.devRef .tc main_v17) = val_main_v17 (F := Ideal) := by
  simp only [hostOps0_2]
  after_results_simp
  rw [h12, h13]
  all_goals rfl

theorem s2_cst : StableHlo.after hostOps0_2 V0 (Proc.devRef .tc main_cst) = val_main_cst (F := Ideal) := by
  simp only [hostOps0_2]
  after_results_simp
  all_goals rfl

theorem s3_v18 (x0 x1) (h0 : V0 (Proc.devRef .tc main_v0) = val_main_v0 (F := Ideal) x0 x1) (h17 : V0 (Proc.devRef .tc main_v17) = val_main_v17 (F := Ideal))
    (hc : V0 (Proc.devRef .tc main_cst) = val_main_cst (F := Ideal)) :
    StableHlo.after hostOps0_3 V0 (Proc.devRef .tc main_v18) = val_main_v18_0 (F := Ideal) x0 x1 := by
  simp only [hostOps0_3, StableHlo.TRef.binary, StableHlo.TRef.nullary, StableHlo.TRef.ternary, StableHlo.TRef.unary, StableHlo.TRef.toBuf,
    StableHlo.TRef.ofBuf, cast_eq]
  after_results_simp
  rw [h0, h17, hc]
  all_goals rfl

/-- A list of operations runs its first `n`, then the rest. -/
theorem after_cut (n : ℕ) (ops : List (HloOp τ sig (Elt Ideal))) (V : Valuation τ sig (Elt Ideal)) :
    StableHlo.after ops V = StableHlo.after (ops.drop n) (StableHlo.after (ops.take n) V) := by
  induction n generalizing ops V with
  | zero => rfl
  | succ n ih =>
    cases ops with
    | nil => rfl
    | cons op ops => exact ih ops _

/-- The operations from the first maximum on, cut before and after each of the two concatenations. -/
abbrev cut1 : List (HloOp τ sig (Elt Ideal)) := hostOps0_4.take 20
abbrev cut2 : List (HloOp τ sig (Elt Ideal)) := (hostOps0_4.drop 20).take 1
abbrev cut3 : List (HloOp τ sig (Elt Ideal)) := ((hostOps0_4.drop 20).drop 1).take 18
abbrev cut4 : List (HloOp τ sig (Elt Ideal)) := (((hostOps0_4.drop 20).drop 1).drop 18).take 1
abbrev cut5 : List (HloOp τ sig (Elt Ideal)) := (((hostOps0_4.drop 20).drop 1).drop 18).drop 1

theorem s4_cuts : StableHlo.after hostOps0_4 V0
    = StableHlo.after cut5 (StableHlo.after cut4 (StableHlo.after cut3 (StableHlo.after cut2 (StableHlo.after cut1 V0)))) := by
  rw [after_cut 20 hostOps0_4, after_cut 1 (hostOps0_4.drop 20), after_cut 18, after_cut 1 (((hostOps0_4.drop 20).drop 1).drop 18)]

theorem c1_v35 (x0 x1) (h18 : V0 (Proc.devRef .tc main_v18) = val_main_v18_0 (F := Ideal) x0 x1) :
    StableHlo.after cut1 V0 (Proc.devRef .tc main_v35) = val_main_v43 (F := Ideal) x0 x1 := by
  simp only [cut1, hostOps0_4, List.take_succ_cons, List.take_zero]
  after_results_simp
  rw [h18]
  all_goals rfl

theorem c1_v34 :
    StableHlo.after cut1 V0 (Proc.devRef .tc main_v34) = val_main_v42 (F := Ideal) (V0 (Proc.devRef .tc main_arg4)) := by
  simp only [cut1, hostOps0_4, List.drop_succ_cons, List.drop_zero, List.take_succ_cons, List.take_zero]
  after_results_simp
  all_goals rfl

theorem c1_v36 :
    StableHlo.after cut1 V0 (Proc.devRef .tc main_v36) = val_main_v44 (F := Ideal) (V0 (Proc.devRef .tc main_arg6)) := by
  simp only [cut1, hostOps0_4, List.drop_succ_cons, List.drop_zero, List.take_succ_cons, List.take_zero]
  after_results_simp
  all_goals rfl

theorem c1_v29 (x0 x1) (h18 : V0 (Proc.devRef .tc main_v18) = val_main_v18_0 (F := Ideal) x0 x1) :
    StableHlo.after cut1 V0 (Proc.devRef .tc main_v29) = val_main_v37 (F := Ideal) x0 x1 (V0 (Proc.devRef .tc main_arg2)) := by
  simp only [cut1, hostOps0_4, List.drop_succ_cons, List.drop_zero, List.take_succ_cons, List.take_zero]
  after_results_simp
  rw [h18]
  all_goals rfl

theorem c1_arg3 :
    StableHlo.after cut1 V0 (Proc.devRef .tc main_arg3) = V0 (Proc.devRef .tc main_arg3) := by
  simp only [cut1, hostOps0_4, List.drop_succ_cons, List.drop_zero, List.take_succ_cons, List.take_zero]
  after_results_simp

theorem c1_arg5 :
    StableHlo.after cut1 V0 (Proc.devRef .tc main_arg5) = V0 (Proc.devRef .tc main_arg5) := by
  simp only [cut1, hostOps0_4, List.drop_succ_cons, List.drop_zero, List.take_succ_cons, List.take_zero]
  after_results_simp

theorem c2_v37 (x0 x1 x4 x6) (h4 : V0 (Proc.devRef .tc main_v34) = val_main_v42 (F := Ideal) x4) (h1 : V0 (Proc.devRef .tc main_v35) = val_main_v43 (F := Ideal) x0 x1) (h6 : V0 (Proc.devRef .tc main_v36) = val_main_v44 (F := Ideal) x6) :
    StableHlo.after cut2 V0 (Proc.devRef .tc main_v37) = val_main_v45 (F := Ideal) x0 x1 x4 x6 := by
  simp only [cut2, hostOps0_4, List.drop_succ_cons, List.drop_zero, List.take_succ_cons, List.take_zero]
  after_results_simp
  show concatenate S3x4096x8 0 [⟨S1x4096x8, V0 (Proc.devRef .tc main_v34)⟩, ⟨S1x4096x8, V0 (Proc.devRef .tc main_v35)⟩,
    ⟨S1x4096x8, V0 (Proc.devRef .tc main_v36)⟩] concatenates_S1x4096x8_S1x4096x8_S1x4096x8_S3x4096x8_d0 = _
  rw [h4, h1, h6]
  rfl

theorem c2_v29 :
    StableHlo.after cut2 V0 (Proc.devRef .tc main_v29) = V0 (Proc.devRef .tc main_v29) := by
  simp only [cut2, hostOps0_4, List.drop_succ_cons, List.drop_zero, List.take_succ_cons, List.take_zero]
  after_results_simp

theorem c2_arg3 :
    StableHlo.after cut2 V0 (Proc.devRef .tc main_arg3) = V0 (Proc.devRef .tc main_arg3) := by
  simp only [cut2, hostOps0_4, List.drop_succ_cons, List.drop_zero, List.take_succ_cons, List.take_zero]
  after_results_simp

theorem c2_arg5 :
    StableHlo.after cut2 V0 (Proc.devRef .tc main_arg5) = V0 (Proc.devRef .tc main_arg5) := by
  simp only [cut2, hostOps0_4, List.drop_succ_cons, List.drop_zero, List.take_succ_cons, List.take_zero]
  after_results_simp

theorem c3_v49 (x0 x1 x4 x6) (h37 : V0 (Proc.devRef .tc main_v37) = val_main_v45 (F := Ideal) x0 x1 x4 x6) :
    StableHlo.after cut3 V0 (Proc.devRef .tc main_v49) = val_main_v76 (F := Ideal) x0 x1 x4 x6 := by
  simp only [cut3, hostOps0_4, List.drop_succ_cons, List.drop_zero, List.take_succ_cons, List.take_zero]
  after_results_simp
  rw [h37]
  all_goals rfl

theorem c3_v50 :
    StableHlo.after cut3 V0 (Proc.devRef .tc main_v50) = val_main_v77 (F := Ideal) (V0 (Proc.devRef .tc main_arg3)) := by
  simp only [cut3, hostOps0_4, List.drop_succ_cons, List.drop_zero, List.take_succ_cons, List.take_zero]
  after_results_simp
  all_goals rfl

theorem c3_v52 :
    StableHlo.after cut3 V0 (Proc.devRef .tc main_v52) = val_main_v79 (F := Ideal) (V0 (Proc.devRef .tc main_arg5)) := by
  simp only [cut3, hostOps0_4, List.drop_succ_cons, List.drop_zero, List.take_succ_cons, List.take_zero]
  after_results_simp
  all_goals rfl

theorem c3_v51 (x0 x1 x2) (h : V0 (Proc.devRef .tc main_v29) = val_main_v37 (F := Ideal) x0 x1 x2) :
    StableHlo.after cut3 V0 (Proc.devRef .tc main_v51) = val_main_v78 (F := Ideal) x0 x1 x2 := by
  simp only [cut3, hostOps0_4, List.drop_succ_cons, List.drop_zero, List.take_succ_cons, List.take_zero]
  after_results_simp
  rw [h]
  all_goals rfl

theorem c3_v37 :
    StableHlo.after cut3 V0 (Proc.devRef .tc main_v37) = V0 (Proc.devRef .tc main_v37) := by
  simp only [cut3, hostOps0_4, List.drop_succ_cons, List.drop_zero, List.take_succ_cons, List.take_zero]
  after_results_simp

theorem c4_v53 (x0 x1 x2 x3 x5) (h3 : V0 (Proc.devRef .tc main_v50) = val_main_v77 (F := Ideal) x3) (h1 : V0 (Proc.devRef .tc main_v51) = val_main_v78 (F := Ideal) x0 x1 x2) (h5 : V0 (Proc.devRef .tc main_v52) = val_main_v79 (F := Ideal) x5) :
    StableHlo.after cut4 V0 (Proc.devRef .tc main_v53) = val_main_v80 (F := Ideal) x0 x1 x2 x3 x5 := by
  simp only [cut4, hostOps0_4, List.drop_succ_cons, List.drop_zero, List.take_succ_cons, List.take_zero]
  after_results_simp
  show concatenate S3x4096x8x64 0 [⟨S1x4096x8x64, V0 (Proc.devRef .tc main_v50)⟩, ⟨S1x4096x8x64, V0 (Proc.devRef .tc main_v51)⟩,
    ⟨S1x4096x8x64, V0 (Proc.devRef .tc main_v52)⟩] concatenates_S1x4096x8x64_S1x4096x8x64_S1x4096x8x64_S3x4096x8x64_d0 = _
  rw [h3, h1, h5]
  rfl

theorem c4_v37 :
    StableHlo.after cut4 V0 (Proc.devRef .tc main_v37) = V0 (Proc.devRef .tc main_v37) := by
  simp only [cut4, hostOps0_4, List.drop_succ_cons, List.drop_zero, List.take_succ_cons, List.take_zero]
  after_results_simp

theorem c4_v49 :
    StableHlo.after cut4 V0 (Proc.devRef .tc main_v49) = V0 (Proc.devRef .tc main_v49) := by
  simp only [cut4, hostOps0_4, List.drop_succ_cons, List.drop_zero, List.take_succ_cons, List.take_zero]
  after_results_simp

theorem c5_v74 (x0 x1 x2 x3 x4 x5 x6) (h49 : V0 (Proc.devRef .tc main_v49) = val_main_v76 (F := Ideal) x0 x1 x4 x6) (h53 : V0 (Proc.devRef .tc main_v53) = val_main_v80 (F := Ideal) x0 x1 x2 x3 x5) :
    StableHlo.after cut5 V0 (Proc.devRef .tc main_v74) = shapeCast S1024x2048 (val_main_v85 (F := Ideal) x0 x1 x2 x3 x4 x5 x6) shapeCasts_S4096x8x64_S1024x2048 := by
  simp only [cut5, hostOps0_4, List.drop_succ_cons, List.drop_zero, List.take_succ_cons, List.take_zero]
  after_results_simp
  rw [h49, h53]
  all_goals rfl

theorem c5_v75 (x0 x1 x4 x6) (h37 : V0 (Proc.devRef .tc main_v37) = val_main_v45 (F := Ideal) x0 x1 x4 x6) :
    StableHlo.after cut5 V0 (Proc.devRef .tc main_v75) = shapeCast S1024x2048 (lse x0 x1 x4 x6) shapeCasts_S4096x8x64_S1024x2048 := by
  simp only [cut5, hostOps0_4, List.drop_succ_cons, List.drop_zero, List.take_succ_cons, List.take_zero]
  after_results_simp
  rw [h37]
  all_goals rfl

theorem s4_v74 (x0 x1) (h18 : V0 (Proc.devRef .tc main_v18) = val_main_v18_0 (F := Ideal) x0 x1) :
    StableHlo.after hostOps0_4 V0 (Proc.devRef .tc main_v74) = shapeCast S1024x2048
      (val_main_v85 (F := Ideal) x0 x1 (V0 (Proc.devRef .tc main_arg2)) (V0 (Proc.devRef .tc main_arg3)) (V0 (Proc.devRef .tc main_arg4))
        (V0 (Proc.devRef .tc main_arg5)) (V0 (Proc.devRef .tc main_arg6))) shapeCasts_S4096x8x64_S1024x2048 := by
  rw [s4_cuts]
  have h37 := c2_v37 (StableHlo.after cut1 V0) _ _ _ _ (c1_v34 V0) (c1_v35 V0 x0 x1 h18) (c1_v36 V0)
  refine c5_v74 _ _ _ _ _ _ _ _ ?_ ?_
  · rw [c4_v49]
    exact c3_v49 _ _ _ _ _ h37
  · refine c4_v53 _ _ _ _ _ _ ?_ ?_ ?_
    · rw [c3_v50, c2_arg3, c1_arg3]
    · refine c3_v51 _ _ _ _ ?_
      rw [c2_v29]
      exact c1_v29 V0 x0 x1 h18
    · rw [c3_v52, c2_arg5, c1_arg5]

theorem s4_v75 (x0 x1) (h18 : V0 (Proc.devRef .tc main_v18) = val_main_v18_0 (F := Ideal) x0 x1) :
    StableHlo.after hostOps0_4 V0 (Proc.devRef .tc main_v75) = shapeCast S1024x2048
      (lse x0 x1 (V0 (Proc.devRef .tc main_arg4)) (V0 (Proc.devRef .tc main_arg6))) shapeCasts_S4096x8x64_S1024x2048 := by
  rw [s4_cuts]
  have h37 := c2_v37 (StableHlo.after cut1 V0) _ _ _ _ (c1_v34 V0) (c1_v35 V0 x0 x1 h18) (c1_v36 V0)
  refine c5_v75 _ _ _ _ _ ?_
  rw [c4_v37, c3_v37]
  exact h37

theorem s4_v68 : StableHlo.after hostOps0_4 V0 (Proc.devRef .tc main_v68)
    = shapeCast S1024x2048 (V0 (Proc.devRef .tc main_arg0)) shapeCasts_S4096x8x64_S1024x2048 := by
  simp only [hostOps0_4]
  after_results_simp
  all_goals rfl

theorem s4_v70 : StableHlo.after hostOps0_4 V0 (Proc.devRef .tc main_v70)
    = shapeCast S1024x2048 (V0 (Proc.devRef .tc main_arg1)) shapeCasts_S4096x8x64_S1024x2048 := by
  simp only [hostOps0_4]
  after_results_simp
  all_goals rfl

theorem s4_v72 : StableHlo.after hostOps0_4 V0 (Proc.devRef .tc main_v72)
    = shapeCast S1024x2048 (V0 (Proc.devRef .tc main_arg2)) shapeCasts_S4096x8x64_S1024x2048 := by
  simp only [hostOps0_4]
  after_results_simp
  all_goals rfl

theorem s4_v73 : StableHlo.after hostOps0_4 V0 (Proc.devRef .tc main_v73)
    = shapeCast S1024x2048 (V0 (Proc.devRef .tc main_arg7)) shapeCasts_S4096x8x64_S1024x2048 := by
  simp only [hostOps0_4]
  after_results_simp
  all_goals rfl

theorem after_app (xs ys : List (HloOp τ sig (Elt Ideal))) (V : Valuation τ sig (Elt Ideal)) :
    StableHlo.after (xs ++ ys) V = StableHlo.after ys (StableHlo.after xs V) := by
  induction xs generalizing V with
  | nil => rfl
  | cons op xs ih => exact ih _

/-- What the operations before the last list leave. -/
abbrev before (V0 : Valuation τ sig (Elt Ideal)) : Valuation τ sig (Elt Ideal) :=
  StableHlo.after hostOps0_3 (StableHlo.after hostOps0_2 (StableHlo.after hostOps0_1 (StableHlo.after hostOps0 V0)))

theorem entry_eq : StableHlo.after (List.flatten [hostOps0, hostOps0_1, hostOps0_2, hostOps0_3, hostOps0_4]) V0
    = StableHlo.after hostOps0_4 (before V0) := by
  simp only [List.flatten_cons, List.flatten_nil, List.append_nil, after_app]

theorem before_arg0 : before V0 (Proc.devRef .tc main_arg0) = V0 (Proc.devRef .tc main_arg0) := by
  simp only [before, hostOps0, hostOps0_1, hostOps0_2, hostOps0_3]
  after_results_simp

theorem before_arg1 : before V0 (Proc.devRef .tc main_arg1) = V0 (Proc.devRef .tc main_arg1) := by
  simp only [before, hostOps0, hostOps0_1, hostOps0_2, hostOps0_3]
  after_results_simp

theorem before_arg2 : before V0 (Proc.devRef .tc main_arg2) = V0 (Proc.devRef .tc main_arg2) := by
  simp only [before, hostOps0, hostOps0_1, hostOps0_2, hostOps0_3]
  after_results_simp

theorem before_arg3 : before V0 (Proc.devRef .tc main_arg3) = V0 (Proc.devRef .tc main_arg3) := by
  simp only [before, hostOps0, hostOps0_1, hostOps0_2, hostOps0_3]
  after_results_simp

theorem before_arg4 : before V0 (Proc.devRef .tc main_arg4) = V0 (Proc.devRef .tc main_arg4) := by
  simp only [before, hostOps0, hostOps0_1, hostOps0_2, hostOps0_3]
  after_results_simp

theorem before_arg5 : before V0 (Proc.devRef .tc main_arg5) = V0 (Proc.devRef .tc main_arg5) := by
  simp only [before, hostOps0, hostOps0_1, hostOps0_2, hostOps0_3]
  after_results_simp

theorem before_arg6 : before V0 (Proc.devRef .tc main_arg6) = V0 (Proc.devRef .tc main_arg6) := by
  simp only [before, hostOps0, hostOps0_1, hostOps0_2, hostOps0_3]
  after_results_simp

theorem before_arg7 : before V0 (Proc.devRef .tc main_arg7) = V0 (Proc.devRef .tc main_arg7) := by
  simp only [before, hostOps0, hostOps0_1, hostOps0_2, hostOps0_3]
  after_results_simp

theorem s1_v0 : StableHlo.after hostOps0_1 V0 (Proc.devRef .tc main_v0) = V0 (Proc.devRef .tc main_v0) := by
  simp only [hostOps0_1]
  after_results_simp

theorem s1_v12 : StableHlo.after hostOps0_1 V0 (Proc.devRef .tc main_v12) = V0 (Proc.devRef .tc main_v12) := by
  simp only [hostOps0_1]
  after_results_simp

theorem s2_v0 : StableHlo.after hostOps0_2 V0 (Proc.devRef .tc main_v0) = V0 (Proc.devRef .tc main_v0) := by
  simp only [hostOps0_2]
  after_results_simp

theorem before_v18 : before V0 (Proc.devRef .tc main_v18)
    = val_main_v18_0 (F := Ideal) (V0 (Proc.devRef .tc main_arg0)) (V0 (Proc.devRef .tc main_arg1)) := by
  refine s3_v18 _ _ _ ?_ (s2_v17 _ ?_ (s1_v13 _ (s0_v7 V0) (s0_c_1 V0))) (s2_cst _)
  · rw [s2_v0, s1_v0, s0_v0]
  · rw [s1_v12, s0_v12]

variable (m : (ℓ : Loc nD τ sig) → Buf (Elt Ideal) ℓ) (c : Dev nD)

theorem V_v68 : V m c main_v68 = shapeCast S1024x2048 (m ((c : Thread nD τ).loc main_arg0)) shapeCasts_S4096x8x64_S1024x2048 := by
  unfold V
  rw [entry_eq, s4_v68, before_arg0]

theorem V_v70 : V m c main_v70 = shapeCast S1024x2048 (m ((c : Thread nD τ).loc main_arg1)) shapeCasts_S4096x8x64_S1024x2048 := by
  unfold V
  rw [entry_eq, s4_v70, before_arg1]

theorem V_v72 : V m c main_v72 = shapeCast S1024x2048 (m ((c : Thread nD τ).loc main_arg2)) shapeCasts_S4096x8x64_S1024x2048 := by
  unfold V
  rw [entry_eq, s4_v72, before_arg2]

theorem V_v73 : V m c main_v73 = shapeCast S1024x2048 (m ((c : Thread nD τ).loc main_arg7)) shapeCasts_S4096x8x64_S1024x2048 := by
  unfold V
  rw [entry_eq, s4_v73, before_arg7]

theorem V_v74 : V m c main_v74 = shapeCast S1024x2048
    (val_main_v85 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)))
    shapeCasts_S4096x8x64_S1024x2048 := by
  unfold V
  rw [entry_eq, s4_v74 _ _ _ (before_v18 _), before_arg2, before_arg3, before_arg4, before_arg5, before_arg6]

theorem V_v75 : V m c main_v75 = shapeCast S1024x2048
    (lse (m ((c : Thread nD τ).loc main_arg0)) (m ((c : Thread nD τ).loc main_arg1)) (m ((c : Thread nD τ).loc main_arg4)) (m ((c : Thread nD τ).loc main_arg6))) shapeCasts_S4096x8x64_S1024x2048 := by
  unfold V
  rw [entry_eq, s4_v75 _ _ _ (before_v18 _), before_arg4, before_arg6]

end Cert.KernelIdeal.Prelude

end
-- ==== Proof.Operands.lean ====
/-
  The kernel's operands at a place of the layout by residue: row `l` and column `c` stand for position `4 l + c / 512`,
  head `c / 64 % 8` and channel `c % 64`. When the arguments are arrays of real numbers, so are the operands.
-/
module

public import proofs.«01_k».proof.Proof.Prelude
public import Idealize.ShloMosaic.Lib.Pipeline.ValueKit

@[expose] public section

set_option maxRecDepth 16384

noncomputable section

namespace Cert.KernelIdeal.Operands

open Cert.KernelIdeal Cert.KernelIdeal.Gen Cert.KernelIdeal.Prelude Idealize.ShloMosaic Idealize.ShloMosaic.TcCoe Idealize.SL.Sem
open Cert.ReferenceIdeal.Read
open Attention (Data)
open Cert.ReferenceIdeal.Values

variable {D : Data} (hD : Shifts D)

include hD

theorem exps_at (i : Fin 3) (t : Fin 4096) (h : Fin 8) :
    exps (arr3 D.q) (arr3 D.k) (arr2 D.l1) (arr2 D.l16) (ix3 i t h) = ((D.x3 i t h : ℝ) : EReal) := by
  pointwise [exps, l3_at hD.toTop, hD.top3]
  rw [← EReal.coe_sub, Ideal.exp_coe]
  rfl

theorem total_at (t : Fin 4096) (h : Fin 8) :
    total (arr3 D.q) (arr3 D.k) (arr2 D.l1) (arr2 D.l16) (ix2 t h) = ((D.lse t h : ℝ) : EReal) := by
  pointwise [total, exps_at hD, hD.top3]
  rw [Reals.coe_sum, Ideal.log_coe, if_neg (show ¬ (∑ i, D.x3 i t h) ≤ 0 from (D.s3_pos t h).not_ge), ← EReal.coe_add]
  rfl

omit hD

/-- The position, head and channel of a place of the layout by residue. -/
def pos (l : Fin 1024) (y : Fin 2048) : Fin 4096 := ⟨l * 4 + y / 512, by omega⟩
def head (y : Fin 2048) : Fin 8 := ⟨y / 64 % 8, by omega⟩
def chan (y : Fin 2048) : Fin 64 := ⟨y % 64, by omega⟩

theorem cast_at (x : (⟨S4096x8x64, .f32⟩ : BufTy).Contents (Elt Ideal)) (l : Fin 1024) (y : Fin 2048) :
    shapeCast S1024x2048 x shapeCasts_S4096x8x64_S1024x2048 (ix2 l y) = x (ix3 (pos l y) (head y) (chan y)) := by
  pointwise [pos, head, chan]

variable (m : (ℓ : Loc nD τ sig) → Buf (Elt Ideal) ℓ) (c : Dev nD)

/-- The arguments on a device are arrays of the real numbers of `D`. -/
structure Args (D : Data) : Prop where
  q : m ((c : Thread nD τ).loc main_arg0) = arr3 D.q
  k : m ((c : Thread nD τ).loc main_arg1) = arr3 D.k
  v : m ((c : Thread nD τ).loc main_arg2) = arr3 D.v
  o1 : m ((c : Thread nD τ).loc main_arg3) = arr3 D.o1
  l1 : m ((c : Thread nD τ).loc main_arg4) = arr2 D.l1
  o16 : m ((c : Thread nD τ).loc main_arg5) = arr3 D.o16
  l16 : m ((c : Thread nD τ).loc main_arg6) = arr2 D.l16
  ct : m ((c : Thread nD τ).loc main_arg7) = arr3 D.ct

variable {m c} (hm : Args m c D)

include hm

theorem q_at (l : Fin 1024) (y : Fin 2048) : V m c main_v68 (ix2 l y) = ((D.q (pos l y) (head y) (chan y) : ℝ) : EReal) := by
  rw [V_v68, hm.q]
  exact cast_at _ l y

theorem k_at (l : Fin 1024) (y : Fin 2048) : V m c main_v70 (ix2 l y) = ((D.k (pos l y) (head y) (chan y) : ℝ) : EReal) := by
  rw [V_v70, hm.k]
  exact cast_at _ l y

theorem v_at (l : Fin 1024) (y : Fin 2048) : V m c main_v72 (ix2 l y) = ((D.v (pos l y) (head y) (chan y) : ℝ) : EReal) := by
  rw [V_v72, hm.v]
  exact cast_at _ l y

theorem ct_at (l : Fin 1024) (y : Fin 2048) : V m c main_v73 (ix2 l y) = ((D.ct (pos l y) (head y) (chan y) : ℝ) : EReal) := by
  rw [V_v73, hm.ct]
  exact cast_at _ l y

include hD

theorem mix_at' (l : Fin 1024) (y : Fin 2048) : V m c main_v74 (ix2 l y) = ((D.mix (pos l y) (head y) (chan y) : ℝ) : EReal) := by
  rw [V_v74, hm.q, hm.k, hm.v, hm.o1, hm.l1, hm.o16, hm.l16]
  exact (cast_at _ l y).trans (mix_at hD _ _ _)

theorem lse_at (l : Fin 1024) (y : Fin 2048) : V m c main_v75 (ix2 l y) = ((D.lse (pos l y) (head y) : ℝ) : EReal) := by
  rw [V_v75, hm.q, hm.k, hm.l1, hm.l16]
  refine (cast_at _ l y).trans ?_
  pointwise [lse, total_at hD]

end Cert.KernelIdeal.Operands

end
-- ==== Proof.Finite.lean ====
/-
  The precondition read back: when every entry of every argument is below infinity in absolute value, the arguments on
  each device are arrays of real numbers, and the shifts of the reference's two softmaxes are real numbers too.
-/
module

public import proofs.«01_k».proof.Defs
public import proofs.«01_k».proof.Proof.Operands

@[expose] public section

set_option maxRecDepth 16384

noncomputable section

namespace Cert.Pre_finite

open Idealize.ShloMosaic Idealize.SL.Sem

/-- The shapes the precondition's operations relate are related. -/
theorem facts : Facts where
  bcast_S_S4096x8x64 := by decide
  bcast_S_S4096x8 := by decide
  bcast_S4096x8_S4096x8x1_0_1 := by decide
  bcast_S4096x8x1_S4096x8x64_0_1_2 := by decide

variable [Facts]

/-- The bit that says an extended real is finite. -/
def bit (x : EReal) : BitVec 1 := Ideal.cmp .olt (max x (-x)) (Ideal.ofBits .f32 0x7F800000#32)

theorem real_of_bit {x : EReal} (h : bit x = 1#1) : x = ((x.toReal : ℝ) : EReal) := by
  have inf : Ideal.ofBits .f32 0x7F800000#32 = ⊤ := by simp [Ideal.ofBits, Ideal.ieee]
  unfold bit Ideal.cmp at h
  rw [inf] at h
  have lt : max x (-x) < ⊤ := by
    by_contra hn
    simp [hn] at h
  refine (EReal.coe_toReal (fun e => ?_) (fun e => ?_)).symm <;> subst e <;> simp at lt

theorem and_one {a b : BitVec 1} (h : a &&& b = 1#1) : a = 1#1 ∧ b = 1#1 := by
  revert a b
  decide

/-- The precondition at an index. -/
theorem fn_at (q k v o1 : FVec Ideal S4096x8x64 .f32) (l1 : FVec Ideal S4096x8 .f32) (o16 : FVec Ideal S4096x8x64 .f32)
    (l16 : FVec Ideal S4096x8 .f32) (ct : FVec Ideal S4096x8x64 .f32) (t : Fin 4096) (h : Fin 8) (e : Fin 64) :
    fn (F := Ideal) q k v o1 l1 o16 l16 ct (ix3 t h e)
      = bit (q (ix3 t h e)) &&& bit (k (ix3 t h e)) &&& bit (v (ix3 t h e)) &&& bit (o1 (ix3 t h e))
        &&& bit (o16 (ix3 t h e)) &&& bit (ct (ix3 t h e)) &&& bit (l1 (ix2 t h)) &&& bit (l16 (ix2 t h)) := by
  pointwise [fn, fn_part1]
  rfl

end Cert.Pre_finite

namespace Cert.KernelIdeal.Finite

open Cert.KernelIdeal Cert.KernelIdeal.Operands Idealize.ShloMosaic Idealize.ShloMosaic.TcCoe Idealize.SL.Sem
open Cert.ReferenceIdeal.Read Cert.ReferenceIdeal.Values
open Attention (Data)

/-- The real numbers of an array. -/
def real3 (x : (⟨S4096x8x64, .f32⟩ : BufTy).Contents (Elt Ideal)) (t : Fin 4096) (h : Fin 8) (e : Fin 64) : ℝ :=
  EReal.toReal (x (ix3 t h e))

def real2 (x : (⟨S4096x8, .f32⟩ : BufTy).Contents (Elt Ideal)) (t : Fin 4096) (h : Fin 8) : ℝ := EReal.toReal (x (ix2 t h))

theorem eq_arr3 {x : (⟨S4096x8x64, .f32⟩ : BufTy).Contents (Elt Ideal)}
    (h : ∀ t h e, x (ix3 t h e) = ((real3 x t h e : ℝ) : EReal)) : x = arr3 (real3 x) := by
  funext i
  obtain ⟨t, g, e, rfl⟩ : ∃ t g e, i = ix3 t g e := ⟨i 0, i 1, i 2, (eq_ix3 i)⟩
  exact h t g e

theorem eq_arr2 {x : (⟨S4096x8, .f32⟩ : BufTy).Contents (Elt Ideal)}
    (h : ∀ t h, x (ix2 t h) = ((real2 x t h : ℝ) : EReal)) : x = arr2 (real2 x) := by
  funext i
  obtain ⟨t, g, rfl⟩ : ∃ t g, i = ix2 t g := ⟨i 0, i 1, (eq_ix2 i)⟩
  exact h t g

/-- With the shifts the reference takes. -/
theorem exists_shifts (D : Data) (hd : D.d = 4) :
    ∃ D' : Data, Shifts D' ∧ D'.q = D.q ∧ D'.k = D.k ∧ D'.v = D.v ∧ D'.o1 = D.o1 ∧ D'.l1 = D.l1 ∧ D'.o16 = D.o16
      ∧ D'.l16 = D.l16 ∧ D'.ct = D.ct := by
  obtain ⟨τ, hτ⟩ : ∃ τ : Fin 8 → Fin 4096 → ℝ,
      ∀ h t, val_main_v19 (F := Ideal) (arr3 D.q) (arr3 D.k) (ix2 h t) = ((τ h t : ℝ) : EReal) := ⟨_, top_real hd⟩
  have hT : Top { D with top := τ } := ⟨hd, hτ⟩
  obtain ⟨σ, hσ⟩ : ∃ σ : Fin 4096 → Fin 8 → ℝ, ∀ t h,
      val_main_v48 (F := Ideal) (arr3 D.q) (arr3 D.k) (arr2 D.l1) (arr2 D.l16) (ix2 t h) = ((σ t h : ℝ) : EReal) :=
    ⟨_, top3_real (D := { D with top := τ }) hT⟩
  exact ⟨{ D with top := τ, top3 := σ }, ⟨⟨hd, hτ⟩, hσ⟩, rfl, rfl, rfl, rfl, rfl, rfl, rfl, rfl⟩

/-- Finite arguments are arrays of real numbers. -/
theorem exists_args [Cert.Pre_finite.Facts] (m : (ℓ : Loc nD τ sig) → Buf (Elt Ideal) ℓ) (hpre : Cert.Pre_KernelIdeal_finite m)
    (c : Dev nD) : ∃ D : Data, Shifts D ∧ Args m c D := by
  have bits : ∀ t h e, _ := fun t h e =>
    (Cert.Pre_finite.fn_at _ _ _ _ _ _ _ _ t h e).symm.trans (congrFun (hpre c) (ix3 t h e))
  obtain ⟨D, hD, eq, ek, ev, eo1, el1, eo16, el16, ect⟩ := exists_shifts
    { d := 4
      q := real3 (m ((c : Thread nD τ).loc main_arg0))
      k := real3 (m ((c : Thread nD τ).loc main_arg1))
      v := real3 (m ((c : Thread nD τ).loc main_arg2))
      o1 := real3 (m ((c : Thread nD τ).loc main_arg3))
      l1 := real2 (m ((c : Thread nD τ).loc main_arg4))
      o16 := real3 (m ((c : Thread nD τ).loc main_arg5))
      l16 := real2 (m ((c : Thread nD τ).loc main_arg6))
      ct := real3 (m ((c : Thread nD τ).loc main_arg7))
      top := fun _ _ => 0
      top3 := fun _ _ => 0 } rfl
  open Cert.Pre_finite in
  exact ⟨D, hD,
    { q := eq ▸ eq_arr3 fun t h e =>
        real_of_bit (and_one (and_one (and_one (and_one (and_one (and_one (and_one (bits t h e)).1).1).1).1).1).1).1
      k := ek ▸ eq_arr3 fun t h e =>
        real_of_bit (and_one (and_one (and_one (and_one (and_one (and_one (and_one (bits t h e)).1).1).1).1).1).1).2
      v := ev ▸ eq_arr3 fun t h e =>
        real_of_bit (and_one (and_one (and_one (and_one (and_one (and_one (bits t h e)).1).1).1).1).1).2
      o1 := eo1 ▸ eq_arr3 fun t h e => real_of_bit (and_one (and_one (and_one (and_one (and_one (bits t h e)).1).1).1).1).2
      o16 := eo16 ▸ eq_arr3 fun t h e => real_of_bit (and_one (and_one (and_one (and_one (bits t h e)).1).1).1).2
      ct := ect ▸ eq_arr3 fun t h e => real_of_bit (and_one (and_one (and_one (bits t h e)).1).1).2
      l1 := el1 ▸ eq_arr2 fun t h => real_of_bit (and_one (and_one (bits t h 0)).1).2
      l16 := el16 ▸ eq_arr2 fun t h => real_of_bit (and_one (bits t h 0)).2 }⟩

end Cert.KernelIdeal.Finite

end
-- ==== Proof.MlpMath.lean ====
/-
  The gradients of the network `max(u · wu, 0)² · wd` as sums over extended reals: of the weights, of the pre-activation
  and of the input, for a gradient `ct` of the result.
-/
module

public import Idealize.ShloMosaic.Lib.Pipeline.ValueKit
public import Idealize.ShloMosaic.Lib.ValueIdx
public import Idealize.ShloMosaic.PureOps.Ideal.Laws

@[expose] public section

set_option maxRecDepth 16384

noncomputable section

namespace Mlp

open Idealize.ShloMosaic

/-- An array of two axes. -/
abbrev Arr (n m : ℕ) : Type := (⟨2, ![n, m]⟩ : Shape).Idx → EReal

variable (u : Arr 4096 1024) (wu : Arr 1024 4096) (wd ct : Arr 4096 1024)

/-- The pre-activation. -/
def pre (t f : Fin 4096) : EReal := ∑ d : Fin 1024, u (ix2 t d) * wu (ix2 d f)

/-- The gradient of the activation. -/
def dact (t f : Fin 4096) : EReal := ∑ d : Fin 1024, ct (ix2 t d) * wd (ix2 f d)

/-- The gradient of the pre-activation. -/
def dpre (t f : Fin 4096) : EReal := dact wd ct t f * (2 * max (pre u wu t f) 0)

/-- The gradient of the input. -/
def dinput (t : Fin 4096) (d : Fin 1024) : EReal := ∑ f : Fin 4096, dpre u wu wd ct t f * wu (ix2 d f)

/-- The gradient of the second weight. -/
def dsecond (f : Fin 4096) (d : Fin 1024) : EReal :=
  ∑ t : Fin 4096, max (pre u wu t f) 0 * max (pre u wu t f) 0 * ct (ix2 t d)

/-- The gradient of the first weight, transposed. -/
def dfirst (f : Fin 4096) (d : Fin 1024) : EReal := ∑ t : Fin 4096, dpre u wu wd ct t f * u (ix2 t d)

theorem two : Ideal.ofBits .f32 0x40000000#32 = 2 := by
  rw [show (2 : EReal) = ((2 : ℝ) : EReal) from rfl]
  simp [Ideal.ofBits, Ideal.ieee, -EReal.coe_mul]
  norm_num

/-- Where the pre-activation is not positive its positive part is zero, so that choosing zero there changes nothing. -/
theorem choose_pos (a x : EReal) : (if 0 < a then x * (2 * max a 0) else 0) = x * (2 * max a 0) := by
  split
  · rfl
  · next h => rw [max_eq_right (not_lt.mp h), mul_zero, mul_zero]

/-- A term of the input's gradient, for every natural number: zero past the last. -/
def term (t : Fin 4096) (d : Fin 1024) (n : ℕ) : EReal :=
  if h : n < 4096 then dpre u wu wd ct t ⟨n, h⟩ * wu (ix2 d ⟨n, h⟩) else 0

theorem dinput_eq (t : Fin 4096) (d : Fin 1024) : dinput u wu wd ct t d = ∑ n ∈ Finset.range 4096, term u wu wd ct t d n := by
  rw [Finset.sum_range, dinput]
  exact Finset.sum_congr rfl fun f _ => by rw [term, dif_pos f.isLt]

/-- The terms of one more block of 512 added to those of the blocks before. -/
theorem sum_block (t : Fin 4096) (d : Fin 1024) (k : ℕ) (hk : k < 8) :
    (∑ n ∈ Finset.range (512 * k), term u wu wd ct t d n)
      + ∑ b : Fin 512, dpre u wu wd ct t ⟨512 * k + b, by omega⟩ * wu (ix2 d ⟨512 * k + b, by omega⟩)
      = ∑ n ∈ Finset.range (512 * (k + 1)), term u wu wd ct t d n := by
  rw [mul_add, mul_one, Finset.sum_range_add, Finset.sum_range (fun x => term u wu wd ct t d (512 * k + x))]
  exact congrArg _ (Finset.sum_congr rfl fun b _ => by rw [term, dif_pos])

end Mlp

end
-- ==== Proof.InMath.lean ====
/-
  The columns of an array of 2824 columns by natural numbers, zero past the last, and sums over them in two parts, the
  second filled up with zeros.
-/
module

public import proofs.«01_k».proof.Proof.MlpMath

@[expose] public section

set_option maxRecDepth 16384

noncomputable section

namespace InProj

open Idealize.ShloMosaic
open Mlp (Arr)

/-- A column, for every natural number: zero past the last. -/
def col {n : ℕ} (A : Arr n 2824) (t : Fin n) (k : ℕ) : EReal := if h : k < 2824 then A (ix2 t ⟨k, h⟩) else 0

theorem col_lt {n : ℕ} (A : Arr n 2824) (t : Fin n) (k : Fin 2824) : col A t k = A (ix2 t k) := dif_pos k.isLt

theorem sum_range {α : Type} [AddCommMonoid α] (f : ℕ → α) (h : ∀ k, 2824 ≤ k → f k = 0) :
    (∑ k : Fin 2048, f k) + ∑ k : Fin 896, f (2048 + k) = ∑ k : Fin 2824, f k := by
  rw [← Finset.sum_range, ← Finset.sum_range (fun k => f (2048 + k)), ← Finset.sum_range, ← Finset.sum_range_add,
    show 2048 + 896 = 2824 + 120 from rfl, Finset.sum_range_add]
  rw [Finset.sum_eq_zero (s := Finset.range 120) fun k _ => h _ (Nat.le_add_right _ _), add_zero]

/-- The number the padding is filled with. -/
theorem fill (φ : FTy) : (FloatOps.sitofp φ 0#32 : Ideal φ) = (0 : EReal) := by
  show (((0#32 : BitVec 32).toInt : ℝ) : EReal) = 0
  simp

/-- The gradient of the weight, transposed: a row by a natural number. -/
def dweight (u : Arr 4096 1024) (ct : Arr 4096 2824) (f : ℕ) (d : Fin 1024) : EReal := ∑ t : Fin 4096, col ct t f * u (ix2 t d)

/-- Its first 2048 rows. -/
def dweight0 (u : Arr 4096 1024) (ct : Arr 4096 2824) (f : Fin 2048) (d : Fin 1024) : EReal := dweight u ct f d

/-- Its other rows, filled up with zeros. -/
def dweight1 (u : Arr 4096 1024) (ct : Arr 4096 2824) (f : Fin 896) (d : Fin 1024) : EReal := dweight u ct (2048 + f) d

theorem dweight_past (u : Arr 4096 1024) (ct : Arr 4096 2824) (f : ℕ) (d : Fin 1024) (h : 2824 ≤ f) : dweight u ct f d = 0 :=
  Finset.sum_eq_zero fun t _ => by rw [col, dif_neg (Nat.not_lt.2 h), zero_mul]

end InProj

end
-- ==== Proof.InRms.lean ====
/-
  The gradient of `rms_norm(x)` with respect to `x` and to the scale `g`, as the kernels and as the references write it, and
  that of `rms_norm(x) · w`: the two ways agree where `x`, `g` and the gradient of the normalized row are real numbers.
-/
module

public import proofs.«01_k».proof.Proof.InMath
public import proofs.«01_k».proof.Proof.Reals

@[expose] public section

set_option maxRecDepth 16384

noncomputable section

namespace InProj

open Idealize.ShloMosaic
open Mlp (Arr)

/-! The constants. -/

abbrev width : EReal := Ideal.ofBits .f32 0x44800000#32
abbrev eps : EReal := Ideal.ofBits .f32 0x358637BD#32
abbrev half : EReal := Ideal.ofBits .f32 0xBF000000#32

theorem width_eq : width = ((1024 : ℝ) : EReal) := by
  simp [width, Ideal.ofBits, Ideal.ieee, -EReal.coe_mul]
  norm_num

theorem half_eq : half = ((-(1 / 2) : ℝ) : EReal) := by
  simp [half, Ideal.ofBits, Ideal.ieee, -EReal.coe_mul]
  norm_num

theorem eps_eq : ∃ e : ℝ, 0 < e ∧ eps = ((e : ℝ) : EReal) := by
  refine ⟨_, ?_, by simp [eps, Ideal.ofBits, Ideal.ieee, -EReal.coe_mul]; rfl⟩
  positivity

section Norm

variable (x : Arr 4096 1024) (D : Fin 1024 → EReal)

/-- The mean square of a row, plus the small constant. -/
def ms (t : Fin 4096) : EReal := Ideal.div (∑ d : Fin 1024, x (ix2 t d) * x (ix2 t d)) width + eps

def rstd (t : Fin 4096) : EReal := Ideal.rsqrt (ms x t)

def nrm (t : Fin 4096) (d : Fin 1024) : EReal := x (ix2 t d) * rstd x t

/-- The gradient of a row, from that of the normalized row, as the kernels write it. -/
def back (t : Fin 4096) (d : Fin 1024) : EReal :=
  rstd x t * (D d - nrm x t d * Ideal.div (∑ k : Fin 1024, D k * nrm x t k) width)

/-- The gradient of the mean square, from that of the normalized row, as the references write it. -/
def slope (t : Fin 4096) : EReal := ∑ _ : Fin 1, Ideal.div ((∑ k : Fin 1024, x (ix2 t k) * D k)
  * (half * Ideal.div (rstd x t) (ms x t))) width

end Norm

/-- The two forms over real numbers. -/
theorem row_real (X D : Fin 1024 → ℝ) (s r : ℝ) (hs : s ≠ 0) (hr : r * r * s = 1) (d : Fin 1024) :
    r * (D d - X d * r * ((∑ k, D k * (X k * r)) / 1024))
      = D d * r + (X d * ((∑ k, X k * D k) * (-(1 / 2) * (r / s)) / 1024) + (∑ k, X k * D k) * (-(1 / 2) * (r / s)) / 1024 * X d) := by
  have hq : r / s = r * r * r := by
    rw [div_eq_iff hs]
    linear_combination -r * hr
  have hp : ∑ k, D k * (X k * r) = (∑ k, X k * D k) * r := by
    rw [Finset.sum_mul]
    exact Finset.sum_congr rfl fun k _ => by ring
  rw [hq, hp]
  ring

theorem rsqrt_pos {s : ℝ} (h : 0 < s) : Ideal.rsqrt ((s : ℝ) : EReal) = (((Real.sqrt s)⁻¹ : ℝ) : EReal) := by
  show (if s < 0 then ⊥ else if s = 0 then ⊤ else (((Real.sqrt s)⁻¹ : ℝ) : EReal)) = _
  rw [if_neg h.not_gt, if_neg h.ne']

/-- The gradient of a row, as the references write it. -/
theorem back_eq (x : Arr 4096 1024) {E : Fin 1024 → EReal} (X D : Fin 1024 → ℝ) (t : Fin 4096)
    (hX : ∀ d, x (ix2 t d) = ((X d : ℝ) : EReal)) (hD : ∀ d, E d = ((D d : ℝ) : EReal)) (d : Fin 1024) :
    back x E t d = E d * rstd x t + (x (ix2 t d) * slope x E t + slope x E t * x (ix2 t d)) := by
  obtain ⟨e, he, heps⟩ := eps_eq
  obtain ⟨s, hs⟩ : ∃ s : ℝ, s = (∑ d, X d * X d) / 1024 + e := ⟨_, rfl⟩
  have hpos : 0 < s := by
    rw [hs]
    exact add_pos_of_nonneg_of_pos (div_nonneg (Finset.sum_nonneg fun k _ => mul_self_nonneg _) (by norm_num)) he
  have hms : ms x t = ((s : ℝ) : EReal) := by
    unfold ms
    simp only [hX, width_eq, heps, ← EReal.coe_mul, Reals.coe_sum, Reals.div_coe_coe _ (show (1024 : ℝ) ≠ 0 by norm_num), ← EReal.coe_add]
    rw [hs]
  obtain ⟨r, hr⟩ : ∃ r : ℝ, r = (Real.sqrt s)⁻¹ := ⟨_, rfl⟩
  have hrs : rstd x t = ((r : ℝ) : EReal) := by rw [rstd, hms, rsqrt_pos hpos, hr]
  have hr1 : r * r * s = 1 := by
    rw [hr, ← mul_inv, Real.mul_self_sqrt hpos.le, inv_mul_cancel₀ hpos.ne']
  unfold back slope nrm
  simp only [hX, hD, hrs, hms, width_eq, half_eq, ← EReal.coe_mul, Reals.coe_sum, Reals.div_coe_coe _ (show (1024 : ℝ) ≠ 0 by norm_num),
    Reals.div_coe_coe _ hpos.ne', ← EReal.coe_sub, Finset.univ_unique, Finset.sum_singleton]
  rw [← EReal.coe_add, ← EReal.coe_add, row_real X D s r hpos.ne' hr1]

/-! Sums over the rows, block after block. -/

/-- A term of a sum over the rows, for every natural number: zero past the last. -/
def upto (p : Fin 4096 → EReal) (n : ℕ) : EReal := if h : n < 4096 then p ⟨n, h⟩ else 0

theorem upto_total (p : Fin 4096 → EReal) : ∑ t : Fin 4096, p t = ∑ n ∈ Finset.range 4096, upto p n := by
  rw [Finset.sum_range]
  exact Finset.sum_congr rfl fun t _ => by rw [upto, dif_pos t.isLt]

/-- The terms of one more block of 512 added to those of the blocks before. -/
theorem upto_block (p : Fin 4096 → EReal) (k : ℕ) (hk : k < 8) :
    (∑ n ∈ Finset.range (512 * k), upto p n) + ∑ b : Fin 512, p ⟨512 * k + b, by omega⟩
      = ∑ n ∈ Finset.range (512 * (k + 1)), upto p n := by
  rw [mul_add, mul_one, Finset.sum_range_add, Finset.sum_range (fun i => upto p (512 * k + i))]
  exact congrArg _ (Finset.sum_congr rfl fun b _ => by rw [upto, dif_pos])

/-! The projection of the normalized row. -/

variable (x : Arr 4096 1024) (g : Arr 1 1024) (w : Arr 1024 2824) (dh : Arr 4096 1024) (ct : Arr 4096 2824)

/-- The gradient of the scaled row. -/
def du (t : Fin 4096) (d : Fin 1024) : EReal := ∑ k : Fin 2824, ct (ix2 t k) * w (ix2 d k)

/-- The gradient of the normalized row. -/
def dn (t : Fin 4096) (d : Fin 1024) : EReal := du w ct t d * g (ix2 0 d)

/-- The gradient of `x`, as the kernel writes it. -/
def dx (t : Fin 4096) (d : Fin 1024) : EReal := dh (ix2 t d) + back x (dn g w ct t) t d

/-- The gradient of the mean square, as the reference writes it. -/
def dms (t : Fin 4096) : EReal := slope x (dn g w ct t) t

/-- The gradient of `x`, as the reference writes it. -/
def dx' (t : Fin 4096) (d : Fin 1024) : EReal :=
  dh (ix2 t d) + dn g w ct t d * rstd x t + x (ix2 t d) * dms x g w ct t + dms x g w ct t * x (ix2 t d)

/-- The gradient of the scale. -/
def dg (d : Fin 1024) : EReal := ∑ t : Fin 4096, du w ct t d * nrm x t d

theorem dx_eq (X D : Fin 1024 → ℝ) (t : Fin 4096) (hX : ∀ d, x (ix2 t d) = ((X d : ℝ) : EReal))
    (hD : ∀ d, dn g w ct t d = ((D d : ℝ) : EReal)) (d : Fin 1024) : dx x g w dh ct t d = dx' x g w dh ct t d := by
  unfold dx dx' dms
  rw [back_eq x X D t hX hD, add_assoc, add_assoc]

/-- The reference's two sums in one: the columns of the product in two parts. -/
theorem du_eq (t : Fin 4096) (d : Fin 1024) :
    (∑ k : Fin 2048, col ct t k * col w d k) + ∑ k : Fin 896, col ct t (2048 + k) * col w d (2048 + k) = du w ct t d := by
  rw [sum_range (fun k => col ct t k * col w d k) fun k hk => by rw [col, dif_neg (Nat.not_lt.2 hk), zero_mul]]
  exact Finset.sum_congr rfl fun k _ => by rw [col_lt, col_lt]

/-- A term of the scale's gradient. -/
def term (d : Fin 1024) : ℕ → EReal := upto fun t => du w ct t d * nrm x t d

theorem dg_eq (d : Fin 1024) : dg x w ct d = ∑ n ∈ Finset.range 4096, term x w ct d n := upto_total _

/-- The terms of one more block of 512 added to those of the blocks before. -/
theorem dg_block (d : Fin 1024) (k : ℕ) (hk : k < 8) :
    (∑ n ∈ Finset.range (512 * k), term x w ct d n)
      + ∑ b : Fin 512, du w ct ⟨512 * k + b, by omega⟩ d * nrm x ⟨512 * k + b, by omega⟩ d
      = ∑ n ∈ Finset.range (512 * (k + 1)), term x w ct d n := upto_block (fun t => du w ct t d * nrm x t d) k hk

end InProj

end
-- ==== Proof.InDx.lean ====
/-
  The kernel for the gradient of the input projection's argument: its two arrays are the gradient of `x` and of the scale,
  and so are the reference's.
-/
module

public import proofs.«01_k».proof.Proof.InRms
public import proofs.«01_k».proof.Proof.Gen.Kernel5Ideal.Value
public import proofs.«01_k».proof.Proof.Gen.Reference5Ideal.Read
public import Idealize.ShloMosaic.Lib.Pointwise
public import Idealize.ShloMosaic.Lib.Pipeline.ReadBack
public import Idealize.ShloMosaic.Lib.Claim

@[expose] public section

set_option maxRecDepth 16384

noncomputable section

namespace Cert.Reference5Ideal.Dx

open Cert.Reference5Ideal Cert.Reference5Ideal.Gen Cert.Reference5Ideal.Read Idealize.ShloMosaic Idealize.ShloMosaic.TcCoe

variable (x : Mlp.Arr 4096 1024) (g : Mlp.Arr 1 1024) (w : Mlp.Arr 1024 2824) (dh : Mlp.Arr 4096 1024) (ct : Mlp.Arr 4096 2824)

theorem v6_at (t : Fin 4096) : val_main_v6 (F := Ideal) x (ix2 t 0) = InProj.ms x t := by
  pointwise [val_main_v6, val_main_v5, val_main_v4, val_main_v3, val_main_v2, val_main_v1, val_main_v0, val_main_cst, val_main_cst_0, val_main_cst_1]
  rfl

theorem v7_at (t : Fin 4096) : val_main_v7 (F := Ideal) x (ix2 t 0) = InProj.rstd x t := by
  pointwise [val_main_v7, v6_at]
  rfl

theorem v12_at (t : Fin 4096) (d : Fin 1024) : val_main_v12 (F := Ideal) x (ix2 t d) = InProj.nrm x t d := by
  pointwise [val_main_v12, val_main_v11, v7_at]
  rfl

theorem v10_at (t : Fin 4096) : val_main_v10 (F := Ideal) x (ix2 t 0) = InProj.half * Ideal.div (InProj.rstd x t) (InProj.ms x t) := by
  pointwise [val_main_v10, val_main_v9, val_main_v8, val_main_cst_2, v7_at, v6_at]

theorem v16_at (t : Fin 4096) (d : Fin 1024) : val_main_v16 (F := Ideal) w ct (ix2 t d) = InProj.du w ct t d := by
  pointwise [val_main_v16]
  rfl

theorem v21_at (t : Fin 4096) (d : Fin 1024) : val_main_v21 (F := Ideal) g w ct (ix2 t d) = InProj.dn g w ct t d := by
  pointwise [val_main_v21, val_main_v20, v16_at]
  rfl

theorem v32_at (t : Fin 4096) (d : Fin 1024) : val_main_v32 (F := Ideal) x g w ct (ix2 t d) = InProj.dms x g w ct t := by
  pointwise [val_main_v32, val_main_v31, val_main_v30, val_main_v29, val_main_v28, val_main_v24, val_main_v23, val_main_v22,
    val_main_cst_4, val_main_cst_5, val_main_cst_6, v21_at]
  unfold InProj.dms InProj.slope
  refine Finset.sum_congr rfl fun a _ => ?_
  rw [Fin.eq_zero a, v10_at]

theorem value (t : Fin 4096) (d : Fin 1024) : val_main_v36 (F := Ideal) x g w dh ct (ix2 t d) = InProj.dx' x g w dh ct t d := by
  pointwise [val_main_v36, val_main_v35, val_main_v34, val_main_v33, val_main_v27, val_main_v26, val_main_v25, v21_at, v7_at, v32_at]
  rfl

theorem value_scale (a : Fin 1) (d : Fin 1024) : val_main_v19 (F := Ideal) x w ct (ix2 a d) = InProj.dg x w ct d := by
  pointwise [val_main_v19, val_main_v18, val_main_v17, val_main_cst_3, v12_at, v16_at]
  exact Finset.sum_congr rfl fun t _ => mul_comm _ _

end Cert.Reference5Ideal.Dx

namespace Cert.Kernel5Ideal.Dx

open Cert.Kernel5Ideal Cert.Kernel5Ideal.Gen Idealize.ShloMosaic Idealize.ShloMosaic.TcCoe Idealize.SL.Sem

/-! What the payloads hold. -/

section Pay

variable (v0 : Vec Ideal S512x2048 .bf16) (v2 : Vec Ideal S2048x1024 .bf16) (v5 : Vec Ideal S512x896 .bf16)
  (v7 : Vec Ideal S896x1024 .bf16) (v10 v11 : Vec Ideal S512x1024 .f32) (v12 acc : Vec Ideal S1x1024 .f32)

theorem pay1_at (a : Fin 1) (d : Fin 1024) : k0_pay1 (F := Ideal) (ix2 a d) = 0 := by
  pointwise [k0_pay1]

theorem pay2_at (p : FVec Ideal S512x1024 .f32) (a : Fin 1) (d : Fin 1024) :
    k0_pay2 p acc (ix2 a d) = acc (ix2 a d) + ∑ b : Fin 512, p (ix2 b d) := by
  obtain rfl := Fin.eq_zero a
  pointwise [k0_pay2]

theorem pay3_at (b : Fin 512) : k0_pay3 v11 (ix2 b 0)
    = Ideal.rsqrt (Ideal.div (∑ k : Fin 1024, v11 (ix2 b k) * v11 (ix2 b k)) InProj.width + InProj.eps) := by
  pointwise [k0_pay3]

theorem pay4_at (b : Fin 512) (d : Fin 1024) : k0_pay4 v11 (ix2 b d) = v11 (ix2 b d) * k0_pay3 v11 (ix2 b 0) := by
  pointwise [k0_pay4]

theorem pay5_at (b : Fin 512) (d : Fin 1024) : k0_pay5 v0 v2 v5 v7 (ix2 b d)
    = (∑ k : Fin 2048, v0 (ix2 b k) * v2 (ix2 k d)) + ∑ k : Fin 896, v5 (ix2 b k) * v7 (ix2 k d) := by
  pointwise [k0_pay5]

theorem pay6_at (b : Fin 512) (d : Fin 1024) : k0_pay6 v0 v2 v5 v7 v10 v11 v12 (ix2 b d)
    = v10 (ix2 b d) + k0_pay3 v11 (ix2 b 0) * (k0_pay5 v0 v2 v5 v7 (ix2 b d) * v12 (ix2 0 d) - k0_pay4 v11 (ix2 b d)
      * Ideal.div (∑ k : Fin 1024, k0_pay5 v0 v2 v5 v7 (ix2 b k) * v12 (ix2 0 k) * k0_pay4 v11 (ix2 b k)) InProj.width) := by
  pointwise [k0_pay6]

theorem pay7_at (b : Fin 512) (d : Fin 1024) : k0_pay7 v0 v2 v5 v7 v11 (ix2 b d) = k0_pay5 v0 v2 v5 v7 (ix2 b d) * k0_pay4 v11 (ix2 b d) := by
  pointwise [k0_pay7]

end Pay

/-! The windows' blocks. -/

theorem idx : ∀ t : Fin cfg0.N, t.val < 8 ∧ win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] ∧ win0_8.index t = ![0, 0] :=
  (by decide +kernel : ∀ t : Fin grid0.N, _)

/-- The row of the whole arrays a block's row is. -/
def row (n : ℕ) (hn : n < 8) (a : Fin 512) : Fin 4096 := ⟨512 * n + a, by omega⟩

theorem blk0 (A : S4096x2048.Idx → EReal) (t : Fin cfg0.N) (a : Fin 512) (b : Fin 2048) :
    ((cfg0.win 0).blk t).view.read (Elt Ideal) A (ix2 a b) = A (ix2 (row t (idx t).1 a) b) := by
  blk_point [idx t, row]

theorem blk1 (A : S2048x1024.Idx → EReal) (t : Fin cfg0.N) (a : Fin 2048) (b : Fin 1024) :
    ((cfg0.win 1).blk t).view.read (Elt Ideal) A (ix2 a b) = A (ix2 a b) := by
  blk_point [idx t, row]

theorem blk2 (A : S4096x896.Idx → EReal) (t : Fin cfg0.N) (a : Fin 512) (b : Fin 896) :
    ((cfg0.win 2).blk t).view.read (Elt Ideal) A (ix2 a b) = A (ix2 (row t (idx t).1 a) b) := by
  blk_point [idx t, row]

theorem blk3 (A : S896x1024.Idx → EReal) (t : Fin cfg0.N) (a : Fin 896) (b : Fin 1024) :
    ((cfg0.win 3).blk t).view.read (Elt Ideal) A (ix2 a b) = A (ix2 a b) := by
  blk_point [idx t, row]

theorem blk4 (A : S4096x1024.Idx → EReal) (t : Fin cfg0.N) (a : Fin 512) (b : Fin 1024) :
    ((cfg0.win 4).blk t).view.read (Elt Ideal) A (ix2 a b) = A (ix2 (row t (idx t).1 a) b) := by
  blk_point [idx t, row]

theorem blk5 (A : S4096x1024.Idx → EReal) (t : Fin cfg0.N) (a : Fin 512) (b : Fin 1024) :
    ((cfg0.win 5).blk t).view.read (Elt Ideal) A (ix2 a b) = A (ix2 (row t (idx t).1 a) b) := by
  blk_point [idx t, row]

theorem blk6 (A : S1x1024.Idx → EReal) (t : Fin cfg0.N) (a : Fin 1) (b : Fin 1024) :
    ((cfg0.win 6).blk t).view.read (Elt Ideal) A (ix2 a b) = A (ix2 a b) := by
  blk_point [idx t]

/-! The host operations. -/

theorem padded_rows (A : Mlp.Arr 1024 2824) (f : Fin 896) (d : Fin 1024) :
    pad S896x1024 ![0, 0] ![120, 0] ![0, 0]
      (extractStridedSlice S776x1024 ![2048, 0] (transpose S2824x1024 [1, 0] A transposes_S1024x2824_S2824x1024_1_0) slices_S2824x1024_S776x1024_2048_0)
      (sitofp (F := Ideal) .bf16 (constantI S_ 32 0#32)) pads_S776x1024_S896x1024_01200_000 h_S_ (ix2 f d) = InProj.col A d (2048 + f) := by
  pointwise []
  split
  · rw [InProj.col, dif_pos (by omega)]
  · rw [InProj.fill, InProj.col, dif_neg (by omega)]

theorem padded_cols (A : Mlp.Arr 4096 2824) (t : Fin 4096) (f : Fin 896) :
    pad S4096x896 ![0, 0] ![0, 120] ![0, 0] (extractStridedSlice S4096x776 ![0, 2048] A slices_S4096x2824_S4096x776_0_2048)
      (sitofp (F := Ideal) .bf16 (constantI S_ 32 0#32)) pads_S4096x776_S4096x896_000_01200 h_S_ (ix2 t f) = InProj.col A t (2048 + f) := by
  pointwise []
  split
  · rw [InProj.col, dif_pos (by omega)]
  · rw [InProj.fill, InProj.col, dif_neg (by omega)]

section Host

variable (V0 : Valuation τ sig (Elt Ideal))

theorem s0 : StableHlo.after hostOps0 V0 (Proc.devRef .tc main_v2) = extractStridedSlice (α := EReal) S776x1024 ![2048, 0]
      (transpose (α := EReal) S2824x1024 [1, 0] (V0 (Proc.devRef .tc main_arg2)) transposes_S1024x2824_S2824x1024_1_0) slices_S2824x1024_S776x1024_2048_0
    ∧ StableHlo.after hostOps0 V0 (Proc.devRef .tc main_v1)
      = transpose (α := EReal) S2824x1024 [1, 0] (V0 (Proc.devRef .tc main_arg2)) transposes_S1024x2824_S2824x1024_1_0
    ∧ StableHlo.after hostOps0 V0 (Proc.devRef .tc main_c) = constantI S_ 32 0#32 := by
  simp only [hostOps0]
  refine ⟨?_, ?_, ?_⟩
  all_goals after_results_simp
  all_goals rfl

theorem s1 (x) (h0 : V0 (Proc.devRef .tc main_v2) = x) (h1 : V0 (Proc.devRef .tc main_c) = constantI S_ 32 0#32) :
    StableHlo.after hostOps0_1 V0 (Proc.devRef .tc main_v3)
      = pad S896x1024 ![0, 0] ![120, 0] ![0, 0] x (sitofp (F := Ideal) .bf16 (constantI S_ 32 0#32)) pads_S776x1024_S896x1024_01200_000 h_S_ := by
  simp only [hostOps0_1, StableHlo.TRef.binary, StableHlo.TRef.nullary, StableHlo.TRef.unary, StableHlo.TRef.toBuf, StableHlo.TRef.ofBuf, cast_eq]
  after_results_simp
  rw [h0, h1]

theorem s2 : StableHlo.after hostOps0_2 V0 (Proc.devRef .tc main_v7)
      = extractStridedSlice (α := EReal) S4096x776 ![0, 2048] (V0 (Proc.devRef .tc main_arg4)) slices_S4096x2824_S4096x776_0_2048
    ∧ StableHlo.after hostOps0_2 V0 (Proc.devRef .tc main_v5)
      = extractStridedSlice (α := EReal) S4096x2048 ![0, 0] (V0 (Proc.devRef .tc main_arg4)) slices_S4096x2824_S4096x2048_0_0
    ∧ StableHlo.after hostOps0_2 V0 (Proc.devRef .tc main_c_0) = constantI S_ 32 0#32 := by
  simp only [hostOps0_2]
  refine ⟨?_, ?_, ?_⟩
  all_goals after_results_simp
  all_goals rfl

theorem s3 (x) (h0 : V0 (Proc.devRef .tc main_v7) = x) (h1 : V0 (Proc.devRef .tc main_c_0) = constantI S_ 32 0#32) :
    StableHlo.after hostOps0_3 V0 (Proc.devRef .tc main_v8)
      = pad S4096x896 ![0, 0] ![0, 120] ![0, 0] x (sitofp (F := Ideal) .bf16 (constantI S_ 32 0#32)) pads_S4096x776_S4096x896_000_01200 h_S_ := by
  simp only [hostOps0_3, StableHlo.TRef.binary, StableHlo.TRef.nullary, StableHlo.TRef.unary, StableHlo.TRef.toBuf, StableHlo.TRef.ofBuf, cast_eq]
  after_results_simp
  rw [h0, h1]

theorem s4 : StableHlo.after hostOps0_4 V0 (Proc.devRef .tc main_v9)
    = extractStridedSlice (α := EReal) S2048x1024 ![0, 0] (V0 (Proc.devRef .tc main_v1)) slices_S2824x1024_S2048x1024_0_0 := by
  simp only [hostOps0_4]
  after_results_simp
  all_goals rfl

/-- What the operations before the last list leave, the last two lists and the last three. -/
abbrev one : Valuation τ sig (Elt Ideal) := StableHlo.after hostOps0_1 (StableHlo.after hostOps0 V0)
abbrev two : Valuation τ sig (Elt Ideal) := StableHlo.after hostOps0_2 (one V0)
abbrev three : Valuation τ sig (Elt Ideal) := StableHlo.after hostOps0_3 (two V0)

theorem entry_eq : StableHlo.after (List.flatten [hostOps0, hostOps0_1, hostOps0_2, hostOps0_3, hostOps0_4]) V0
    = StableHlo.after hostOps0_4 (three V0) := by
  simp only [List.flatten_cons, List.flatten_nil, List.append_nil, StableHlo.after_append]

theorem one_kept : one V0 (Proc.devRef .tc main_arg4) = V0 (Proc.devRef .tc main_arg4) := by
  simp only [one, hostOps0, hostOps0_1]
  after_results_simp

theorem three_v1 : three V0 (Proc.devRef .tc main_v1) = StableHlo.after hostOps0 V0 (Proc.devRef .tc main_v1) := by
  simp only [three, two, one, hostOps0_1, hostOps0_2, hostOps0_3]
  after_results_simp

theorem last_v3 : StableHlo.after hostOps0_4 (three V0) (Proc.devRef .tc main_v3) = one V0 (Proc.devRef .tc main_v3) := by
  simp only [three, two, hostOps0_2, hostOps0_3, hostOps0_4]
  after_results_simp

theorem last_v5 : StableHlo.after hostOps0_4 (three V0) (Proc.devRef .tc main_v5) = two V0 (Proc.devRef .tc main_v5) := by
  simp only [three, hostOps0_3, hostOps0_4]
  after_results_simp

theorem last_v8 : StableHlo.after hostOps0_4 (three V0) (Proc.devRef .tc main_v8) = three V0 (Proc.devRef .tc main_v8) := by
  simp only [hostOps0_4]
  after_results_simp

end Host

variable (m : (ℓ : Loc nD τ sig) → Buf (Elt Ideal) ℓ) (c : Dev nD)

/-! The arguments on a device. -/

abbrev x : Mlp.Arr 4096 1024 := m ((c : Thread nD τ).loc main_arg0)
abbrev g : Mlp.Arr 1 1024 := m ((c : Thread nD τ).loc main_arg1)
abbrev w : Mlp.Arr 1024 2824 := m ((c : Thread nD τ).loc main_arg2)
abbrev dh : Mlp.Arr 4096 1024 := m ((c : Thread nD τ).loc main_arg3)
abbrev ct : Mlp.Arr 4096 2824 := m ((c : Thread nD τ).loc main_arg4)

theorem v5_at (t : Fin 4096) (k : Fin 2048) : V m c main_v5 (ix2 t k) = InProj.col (ct m c) t k := by
  unfold V
  rw [entry_eq, last_v5, two, (s2 _).2.1, one_kept]
  refine Eq.trans ?_ (InProj.col_lt (ct m c) t ⟨k, by omega⟩).symm
  pointwise []

theorem v9_at (k : Fin 2048) (d : Fin 1024) : V m c main_v9 (ix2 k d) = InProj.col (w m c) d k := by
  unfold V
  rw [entry_eq, s4, three_v1, (s0 _).2.1]
  refine Eq.trans ?_ (InProj.col_lt (w m c) d ⟨k, by omega⟩).symm
  pointwise []

theorem v8_at (t : Fin 4096) (k : Fin 896) : V m c main_v8 (ix2 t k) = InProj.col (ct m c) t (2048 + k) := by
  unfold V
  rw [entry_eq, last_v8, three, s3 _ _ (s2 _).1 (s2 _).2.2, one_kept]
  exact padded_cols _ t k

theorem v3_at (k : Fin 896) (d : Fin 1024) : V m c main_v3 (ix2 k d) = InProj.col (w m c) d (2048 + k) := by
  unfold V
  rw [entry_eq, last_v3, one, s1 _ _ (s0 _).1 (s0 _).2.2]
  exact padded_rows _ k d

/-! What a grid point computes. -/

theorem x_at (t : Fin cfg0.N) (a : Fin 512) (d : Fin 1024) : iblk m c 5 t (ix2 a d) = x m c (ix2 (row t (idx t).1 a) d) :=
  (blk5 (V m c main_arg0) t a d).trans (congrFun (V_main_arg0 m c) _)

theorem g_at (t : Fin cfg0.N) (d : Fin 1024) : iblk m c 6 t (ix2 0 d) = g m c (ix2 0 d) :=
  (blk6 (V m c main_arg1) t 0 d).trans (congrFun (V_main_arg1 m c) _)

theorem dh_at (t : Fin cfg0.N) (a : Fin 512) (d : Fin 1024) : iblk m c 4 t (ix2 a d) = dh m c (ix2 (row t (idx t).1 a) d) :=
  (blk4 (V m c main_arg3) t a d).trans (congrFun (V_main_arg3 m c) _)

theorem rstd_at (t : Fin cfg0.N) (a : Fin 512) : k0_pay3 (iblk m c 5 t) (ix2 a 0) = InProj.rstd (x m c) (row t (idx t).1 a) := by
  rw [pay3_at]
  simp only [x_at]
  rfl

theorem nrm_at (t : Fin cfg0.N) (a : Fin 512) (d : Fin 1024) :
    k0_pay4 (iblk m c 5 t) (ix2 a d) = InProj.nrm (x m c) (row t (idx t).1 a) d := by
  rw [pay4_at, rstd_at, x_at]
  rfl

theorem du_at (t : Fin cfg0.N) (a : Fin 512) (d : Fin 1024) :
    k0_pay5 (iblk m c 0 t) (iblk m c 1 t) (iblk m c 2 t) (iblk m c 3 t) (ix2 a d) = InProj.du (w m c) (ct m c) (row t (idx t).1 a) d := by
  rw [pay5_at, ← InProj.du_eq]
  have h0 : ∀ k, iblk m c 0 t (ix2 a k) = _ := fun k => (blk0 (V m c main_v5) t a k).trans (v5_at m c _ _)
  have h1 : ∀ k, iblk m c 1 t (ix2 k d) = _ := fun k => (blk1 (V m c main_v9) t k d).trans (v9_at m c _ _)
  have h2 : ∀ k, iblk m c 2 t (ix2 a k) = _ := fun k => (blk2 (V m c main_v8) t a k).trans (v8_at m c _ _)
  have h3 : ∀ k, iblk m c 3 t (ix2 k d) = _ := fun k => (blk3 (V m c main_v3) t k d).trans (v3_at m c _ _)
  simp only [h0, h1, h2, h3]

theorem dx_at (t : Fin cfg0.N) (a : Fin 512) (d : Fin 1024) :
    k0_pay6 (iblk m c 0 t) (iblk m c 1 t) (iblk m c 2 t) (iblk m c 3 t) (iblk m c 4 t) (iblk m c 5 t) (iblk m c 6 t) (ix2 a d)
      = InProj.dx (x m c) (g m c) (w m c) (dh m c) (ct m c) (row t (idx t).1 a) d := by
  rw [pay6_at]
  simp only [rstd_at, nrm_at, du_at, g_at, dh_at]
  rfl

/-- The sum of the rows up to a grid point's own, from the sum of those before it. -/
theorem scale_at (t : Fin cfg0.N) (acc : Vec Ideal S1x1024 .f32)
    (hacc : ∀ a d, acc (ix2 a d) = ∑ n ∈ Finset.range (512 * t.val), InProj.term (x m c) (w m c) (ct m c) d n) (a : Fin 1) (d : Fin 1024) :
    k0_pay2 (k0_pay7 (iblk m c 0 t) (iblk m c 1 t) (iblk m c 2 t) (iblk m c 3 t) (iblk m c 5 t)) acc (ix2 a d)
      = ∑ n ∈ Finset.range (512 * (t.val + 1)), InProj.term (x m c) (w m c) (ct m c) d n := by
  rw [pay2_at, hacc, ← InProj.dg_block _ _ _ _ _ (idx t).1]
  refine congrArg _ (Finset.sum_congr rfl fun b _ => ?_)
  rw [pay7_at, du_at, nrm_at]
  rfl

/-! What a grid point leaves, in each of the two cases. -/

theorem first (t : Fin cfg0.N) (h0 : t.val % 8 = 0) :
    (outsAt0 m c t.val t.isLt).1
      = k0_pay6 (iblk m c 0 t) (iblk m c 1 t) (iblk m c 2 t) (iblk m c 3 t) (iblk m c 4 t) (iblk m c 5 t) (iblk m c 6 t)
    ∧ (outsAt0 m c t.val t.isLt).2
      = k0_pay2 (k0_pay7 (iblk m c 0 t) (iblk m c 1 t) (iblk m c 2 t) (iblk m c 3 t) (iblk m c 5 t)) (k0_pay1 (F := Ideal)) := by
  rw [outsAt0_A m c t h0]
  refine ⟨?_, ?_⟩
  · frame_out
  · frame_out

theorem later (t : Fin cfg0.N) (h0 : ¬t.val % 8 = 0) :
    (outsAt0 m c t.val t.isLt).1
      = k0_pay6 (iblk m c 0 t) (iblk m c 1 t) (iblk m c 2 t) (iblk m c 3 t) (iblk m c 4 t) (iblk m c 5 t) (iblk m c 6 t)
    ∧ (outsAt0 m c t.val t.isLt).2
      = k0_pay2 (k0_pay7 (iblk m c 0 t) (iblk m c 1 t) (iblk m c 2 t) (iblk m c 3 t) (iblk m c 5 t))
        (outsAt0 m c (t.val - 1) (Nat.lt_of_le_of_lt (Nat.sub_le _ _) t.isLt)).2 := by
  rw [outsAt0_B m c t h0]
  refine ⟨?_, ?_⟩
  · frame_out
  · frame_out

/-- The scale's array holds the sum of the rows so far. -/
theorem carried : ∀ (n : ℕ) (hn : n < cfg0.N) (a : Fin 1) (d : Fin 1024), (outsAt0 m c n hn).2 (ix2 a d)
    = ∑ i ∈ Finset.range (512 * (n + 1)), InProj.term (x m c) (w m c) (ct m c) d i := by
  intro n
  induction n using Nat.strong_induction_on with
  | _ n ih =>
    intro hn
    have hN := (idx ⟨n, hn⟩).1
    by_cases h0 : n % 8 = 0
    · have h2 := (first m c ⟨n, hn⟩ h0).2
      dsimp only at h2
      rw [h2]
      refine scale_at m c ⟨n, hn⟩ _ fun a d => ?_
      dsimp only
      rw [pay1_at, show 512 * n = 0 by dsimp only at hN; omega, Finset.sum_range_zero]
    · have h2 := (later m c ⟨n, hn⟩ h0).2
      dsimp only at h2
      rw [h2]
      refine scale_at m c ⟨n, hn⟩ _ fun a d => ?_
      refine (ih (n - 1) (by omega) (Nat.lt_of_le_of_lt (Nat.sub_le _ _) hn) a d).trans ?_
      rw [show n - 1 + 1 = n by omega]

theorem out_dx (t : Fin cfg0.N) (a : Fin 512) (d : Fin 1024) : (outsAt0 m c t.val t.isLt).1 (ix2 a d)
    = InProj.dx (x m c) (g m c) (w m c) (dh m c) (ct m c) (row t (idx t).1 a) d := by
  rw [← dx_at]
  by_cases h0 : t.val % 8 = 0
  · rw [(first m c t h0).1]
  · rw [(later m c t h0).1]

theorem final_dx : (dats m 0 c).arrAt 7 cfg0.N = fun j : S4096x1024.Idx =>
    InProj.dx (x m c) (g m c) (w m c) (dh m c) (ct m c) (j 0) (j 1) := by
  refine (dats m 0 c).arrAt_eq_of_covers 7 _ (by decide +kernel) fun t _ y => ?_
  blk_simp
  rw [after0_7]
  obtain ⟨ρ, γ, rfl⟩ : ∃ (ρ : Fin 512) (γ : Fin 1024), y = ix2 ρ γ := ⟨y 0, y 1, by blk_ext []⟩
  have e0 : (((cfg0.win 7).blk t).view.emb (ix2 ρ γ) 0 : ℕ) = 512 * t.val + ρ := by
    blk_simp [idx t]
    omega
  have e1 : (((cfg0.win 7).blk t).view.emb (ix2 ρ γ) 1 : ℕ) = γ := by
    blk_simp [idx t]
  exact (out_dx m c t ρ γ).trans (congrArg₂ (InProj.dx _ _ _ _ _) (Fin.ext e0 : _ = row t (idx t).1 ρ) (Fin.ext e1 : _ = γ)).symm

theorem flush_last : ∀ t : Fin cfg0.N, (cfg0.win 8).flush t = true → t.val = 7 :=
  (by decide +kernel : ∀ t : Fin grid0.N, _)

theorem final_scale : (dats m 0 c).arrAt 8 cfg0.N = fun j : S1x1024.Idx => InProj.dg (x m c) (w m c) (ct m c) (j 1) := by
  refine (dats m 0 c).arrAt_eq_of_covers 8 _ (by decide +kernel) fun t hf y => ?_
  blk_simp
  rw [after0_8]
  obtain ⟨ρ, γ, rfl⟩ : ∃ (ρ : Fin 1) (γ : Fin 1024), y = ix2 ρ γ := ⟨y 0, y 1, by blk_ext []⟩
  have e1 : (((cfg0.win 8).blk t).view.emb (ix2 ρ γ) 1 : ℕ) = γ := by
    blk_simp [idx t]
  refine ((carried m c t.val t.isLt ρ γ).trans ?_).trans (congrArg (InProj.dg _ _ _) (Fin.ext e1 : _ = γ)).symm
  rw [flush_last t hf, InProj.dg_eq]

end Cert.Kernel5Ideal.Dx

end
-- ==== Proof.InFinite.lean ====
/-
  The precondition of the input projection's call read back: when the entries of `x`, of the scale, of the weight and of
  the result's gradient are below infinity in absolute value, they are real numbers.
-/
module

public import proofs.«01_k».proof.Proof.Finite
public import proofs.«01_k».proof.Proof.InDx

@[expose] public section

set_option maxRecDepth 16384

noncomputable section

namespace Cert.Pre_finite_in

open Idealize.ShloMosaic Idealize.SL.Sem
open Cert.Pre_finite (bit real_of_bit and_one)

/-- The shapes the precondition's operations relate are related. -/
theorem facts : Facts where
  bcast_S_S4096x1024 := by decide
  bcast_S_S1x1024 := by decide
  bcast_S1x1024_S4096x1024_0_1 := by decide
  reducesTo_S4096x2824_S4096_d1 := by decide
  h_S_ := by decide
  bcast_S4096_S4096x1_0 := by decide
  bcast_S_S4096x1 := by decide
  bcast_S4096x1_S4096x1024_0_1 := by decide
  reducesTo_S1024x2824_S1024_d1 := by decide
  bcast_S_S1024 := by decide
  bcast_S1024_S1x1024_1 := by decide

variable [Facts]

/-- The largest absolute value of an array's row, or `b`. -/
def top (b : EReal) {n r : ℕ} (A : Mlp.Arr n r) (t : Fin n) : EReal :=
  Finset.univ.fold max b fun k : Fin r => FloatOps.absf (F := Ideal) (φ := .f32) (A (ix2 t k))

theorem real_of_top {b : EReal} {n r : ℕ} {A : Mlp.Arr n r} {t : Fin n} (h : bit (top b A t) = 1#1) (k : Fin r) :
    A (ix2 t k) = ((A (ix2 t k)).toReal : ℝ) := by
  haveI := Cert.Pre_finite.facts
  have h1 : top b A t < ⊤ := by
    rw [real_of_bit h]
    exact EReal.coe_lt_top _
  have h2 := ((Finset.fold_max_lt _).1 h1).2 k (Finset.mem_univ _)
  have h2 : max (A (ix2 t k)) (-A (ix2 t k)) < ⊤ := h2
  refine (EReal.coe_toReal (fun e => ?_) (fun e => ?_)).symm <;> rw [e] at h2 <;> simp at h2

theorem top_ct (b : FVec Ideal S_ .f32) (ct : FVec Ideal S4096x2824 .f32) (h : S4096x2824.ReducesTo [1] S4096) (hu : 0 < S_.numel) :
    Host.reduce FloatOps.maximumf (Host.absf ct) b h hu
      = fun i : S4096.Idx => top (b (Shape.Idx.first hu)) ct (i 0) := by
  funext i
  simp only [pointwise, top]

theorem top_w (b : FVec Ideal S_ .f32) (w : FVec Ideal S1024x2824 .f32) (h : S1024x2824.ReducesTo [1] S1024) (hu : 0 < S_.numel) :
    Host.reduce FloatOps.maximumf (Host.absf w) b h hu
      = fun i : S1024.Idx => top (b (Shape.Idx.first hu)) w (i 0) := by
  funext i
  simp only [pointwise, top]

/-- The precondition at an index. -/
theorem fn_at (x : Mlp.Arr 4096 1024) (g : Mlp.Arr 1 1024) (w : Mlp.Arr 1024 2824) (dh : Mlp.Arr 4096 1024)
    (ct : Mlp.Arr 4096 2824) : ∃ b : EReal, ∀ (t : Fin 4096) (d : Fin 1024), fn (F := Ideal) x g w dh ct (ix2 t d)
      = bit (x (ix2 t d)) &&& bit (g (ix2 0 d)) &&& bit (top b ct t) &&& bit (top b w d) := by
  refine ⟨(constant (F := Ideal) S_ .f32 0xFF800000#32) (Shape.Idx.first (by decide)), fun t d => ?_⟩
  unfold fn fn_part1
  dsimp only
  rw [top_ct, top_w]
  generalize (constant (F := Ideal) S_ .f32 0xFF800000#32) (Shape.Idx.first _) = b
  obtain ⟨p, hp⟩ : ∃ p, p = top b ct := ⟨_, rfl⟩
  obtain ⟨q, hq⟩ : ∃ q, q = top b w := ⟨_, rfl⟩
  rw [← hp, ← hq]
  pointwise []
  rfl

end Cert.Pre_finite_in

namespace Cert.Kernel5Ideal.Dx

open Cert.Kernel5Ideal Cert.Kernel5Ideal.Gen Idealize.ShloMosaic Idealize.ShloMosaic.TcCoe Idealize.SL.Sem
open Cert.Pre_finite (bit real_of_bit and_one)
open Cert.Pre_finite_in (real_of_top)

/-- Under the precondition the two ways of writing the gradient of `x` agree. -/
theorem dx_eq [Cert.Pre_finite_in.Facts] (m : (ℓ : Loc nD τ sig) → Buf (Elt Ideal) ℓ) (hpre : Cert.Pre_Kernel5Ideal_finite_in m)
    (c : Dev nD) (t : Fin 4096) (d : Fin 1024) : InProj.dx (x m c) (g m c) (w m c) (dh m c) (ct m c) t d
      = InProj.dx' (x m c) (g m c) (w m c) (dh m c) (ct m c) t d := by
  haveI := Cert.Pre_finite.facts
  obtain ⟨b, fn_at⟩ := Cert.Pre_finite_in.fn_at (x m c) (g m c) (w m c) (dh m c) (ct m c)
  have bits := fun d => (fn_at t d).symm.trans (congrFun (hpre c) (ix2 t d))
  have hw := fun d => real_of_top (and_one (bits d)).2
  have hc := real_of_top (and_one (and_one (bits 0)).1).2
  have hg := fun d => real_of_bit (and_one (and_one (and_one (bits d)).1).1).2
  have hx := fun d => real_of_bit (and_one (and_one (and_one (bits d)).1).1).1
  refine InProj.dx_eq _ _ _ _ _ _ (fun d => (∑ k : Fin 2824, (ct m c (ix2 t k)).toReal * (w m c (ix2 d k)).toReal)
    * (g m c (ix2 0 d)).toReal) t hx (fun d => ?_) d
  unfold InProj.dn InProj.du
  rw [EReal.coe_mul, ← Reals.coe_sum, ← hg d]
  refine congrArg (· * g m c (ix2 0 d)) (Finset.sum_congr rfl fun k _ => ?_)
  rw [EReal.coe_mul, ← hc k, ← hw d k]

end Cert.Kernel5Ideal.Dx

end
-- ==== Proof.GateDx.lean ====
/-
  The kernel for the gradient before the gate's projection: its three arrays are the gradient of the gate's argument, that
  of the row the norm takes and that of the norm's scale, and so are the reference's.
-/
module

public import proofs.«01_k».proof.Proof.InRms
public import proofs.«01_k».proof.Proof.Gen.Kernel9Ideal.Value
public import proofs.«01_k».proof.Proof.Gen.Reference9Ideal.Read
public import Idealize.ShloMosaic.Lib.Pointwise
public import Idealize.ShloMosaic.Lib.Pipeline.ReadBack
public import Idealize.ShloMosaic.Lib.Claim

@[expose] public section

set_option maxRecDepth 16384

noncomputable section

namespace Gate

open Idealize.ShloMosaic
open Mlp (Arr)

variable (f : Arr 4096 1024) (g : Arr 1 1024) (w : Arr 1024 1024) (d3 dp : Arr 4096 1024)

/-- The gradient of the gate's argument. -/
def dh (t : Fin 4096) (d : Fin 1024) : EReal := d3 (ix2 t d) + ∑ k : Fin 1024, dp (ix2 t k) * w (ix2 d k)

/-- The gradient of the normalized row. -/
def dn (t : Fin 4096) (d : Fin 1024) : EReal := dh w d3 dp t d * g (ix2 0 d)

/-- The gradient of `f`, as the kernel writes it. -/
def df (t : Fin 4096) (d : Fin 1024) : EReal := InProj.back f (dn g w d3 dp t) t d

/-- The gradient of `f`, as the reference writes it. -/
def df' (t : Fin 4096) (d : Fin 1024) : EReal := dn g w d3 dp t d * InProj.rstd f t
  + (f (ix2 t d) * InProj.slope f (dn g w d3 dp t) t + InProj.slope f (dn g w d3 dp t) t * f (ix2 t d))

/-- A term of the scale's gradient, and the gradient. -/
def part (d : Fin 1024) (t : Fin 4096) : EReal := dh w d3 dp t d * InProj.nrm f t d

def dscale (d : Fin 1024) : EReal := ∑ t : Fin 4096, part f w d3 dp d t

end Gate

namespace Cert.Reference9Ideal.Dx

open Cert.Reference9Ideal Cert.Reference9Ideal.Gen Cert.Reference9Ideal.Read Idealize.ShloMosaic Idealize.ShloMosaic.TcCoe

variable (f : Mlp.Arr 4096 1024) (g : Mlp.Arr 1 1024) (w : Mlp.Arr 1024 1024) (d3 dp : Mlp.Arr 4096 1024)

theorem v6_at (t : Fin 4096) : val_main_v6 (F := Ideal) f (ix2 t 0) = InProj.ms f t := by
  pointwise [val_main_v6, val_main_v5, val_main_v4, val_main_v3, val_main_v2, val_main_v1, val_main_v0, val_main_cst, val_main_cst_0, val_main_cst_1]
  rfl

theorem v7_at (t : Fin 4096) : val_main_v7 (F := Ideal) f (ix2 t 0) = InProj.rstd f t := by
  pointwise [val_main_v7, v6_at]
  rfl

theorem v12_at (t : Fin 4096) (d : Fin 1024) : val_main_v12 (F := Ideal) f (ix2 t d) = InProj.nrm f t d := by
  pointwise [val_main_v12, val_main_v11, v7_at]
  rfl

theorem v10_at (t : Fin 4096) : val_main_v10 (F := Ideal) f (ix2 t 0) = InProj.half * Ideal.div (InProj.rstd f t) (InProj.ms f t) := by
  pointwise [val_main_v10, val_main_v9, val_main_v8, val_main_cst_2, v7_at, v6_at]

theorem value_dh (t : Fin 4096) (d : Fin 1024) : val_main_v18 (F := Ideal) w d3 dp (ix2 t d) = Gate.dh w d3 dp t d := by
  pointwise [val_main_v18, val_main_v17]
  rfl

theorem v19_at (t : Fin 4096) (d : Fin 1024) : val_main_v19 (F := Ideal) w d3 dp (ix2 t d) = Gate.dh w d3 dp t d := by
  pointwise [val_main_v19, value_dh]

theorem v24_at (t : Fin 4096) (d : Fin 1024) : val_main_v24 (F := Ideal) g w d3 dp (ix2 t d) = Gate.dn g w d3 dp t d := by
  pointwise [val_main_v24, val_main_v23, v19_at]
  rfl

theorem v34_at (t : Fin 4096) (d : Fin 1024) :
    val_main_v34 (F := Ideal) f g w d3 dp (ix2 t d) = InProj.slope f (Gate.dn g w d3 dp t) t := by
  pointwise [val_main_v34, val_main_v33, val_main_v32, val_main_v31, val_main_v30, val_main_v27, val_main_v26, val_main_v25,
    val_main_cst_4, val_main_cst_5, val_main_cst_6, v24_at]
  unfold InProj.slope
  refine Finset.sum_congr rfl fun a _ => ?_
  rw [Fin.eq_zero a, v10_at]

theorem value_df (t : Fin 4096) (d : Fin 1024) : val_main_v39 (F := Ideal) f g w d3 dp (ix2 t d) = Gate.df' f g w d3 dp t d := by
  pointwise [val_main_v39, val_main_v38, val_main_v37, val_main_v36, val_main_v35, val_main_v29, val_main_v28, v24_at, v7_at, v34_at]
  exact add_assoc _ _ _

theorem value_scale (a : Fin 1) (d : Fin 1024) : val_main_v22 (F := Ideal) f w d3 dp (ix2 a d) = Gate.dscale f w d3 dp d := by
  pointwise [val_main_v22, val_main_v21, val_main_v20, val_main_cst_3, v12_at, v19_at]
  exact Finset.sum_congr rfl fun t _ => mul_comm _ _

end Cert.Reference9Ideal.Dx

namespace Cert.Kernel9Ideal.Dx

open Cert.Kernel9Ideal Cert.Kernel9Ideal.Gen Idealize.ShloMosaic Idealize.ShloMosaic.TcCoe Idealize.SL.Sem

/-! What the payloads hold. -/

section Pay

variable (v0 : Vec Ideal S512x1024 .bf16) (v2 : Vec Ideal S1024x1024 .bf16) (v5 v6 : Vec Ideal S512x1024 .f32)
  (v7 acc : Vec Ideal S1x1024 .f32)

theorem pay1_at (a : Fin 1) (d : Fin 1024) : k0_pay1 (F := Ideal) (ix2 a d) = 0 := by
  pointwise [k0_pay1]

theorem pay2_at (p : FVec Ideal S1x1024 .f32) (a : Fin 1) (d : Fin 1024) :
    k0_pay2 p acc (ix2 a d) = acc (ix2 a d) + p (ix2 a d) := by
  pointwise [k0_pay2]

theorem pay3_at (b : Fin 512) (d : Fin 1024) : k0_pay3 v0 v2 v5 (ix2 b d)
    = v5 (ix2 b d) + ∑ k : Fin 1024, v0 (ix2 b k) * v2 (ix2 d k) := by
  pointwise [k0_pay3]

theorem pay4_at (b : Fin 512) : k0_pay4 v6 (ix2 b 0)
    = Ideal.rsqrt (Ideal.div (∑ k : Fin 1024, v6 (ix2 b k) * v6 (ix2 b k)) InProj.width + InProj.eps) := by
  pointwise [k0_pay4]

theorem pay5_at (b : Fin 512) (d : Fin 1024) : k0_pay5 v6 (ix2 b d) = v6 (ix2 b d) * k0_pay4 v6 (ix2 b 0) := by
  pointwise [k0_pay5]

theorem pay6_at (a : Fin 1) (d : Fin 1024) : k0_pay6 v0 v2 v5 v6 (ix2 a d)
    = ∑ b : Fin 512, k0_pay3 v0 v2 v5 (ix2 b d) * k0_pay5 v6 (ix2 b d) := by
  obtain rfl := Fin.eq_zero a
  pointwise [k0_pay6]

theorem pay7_at (b : Fin 512) (d : Fin 1024) : k0_pay7 v0 v2 v5 v6 v7 (ix2 b d)
    = k0_pay4 v6 (ix2 b 0) * (k0_pay3 v0 v2 v5 (ix2 b d) * v7 (ix2 0 d) - k0_pay5 v6 (ix2 b d)
      * Ideal.div (∑ k : Fin 1024, k0_pay3 v0 v2 v5 (ix2 b k) * v7 (ix2 0 k) * k0_pay5 v6 (ix2 b k)) InProj.width) := by
  pointwise [k0_pay7]

end Pay

/-! The windows' blocks. -/

theorem idx : ∀ t : Fin cfg0.N, t.val < 8 ∧ win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

/-- The row of the whole arrays a block's row is. -/
def row (n : ℕ) (hn : n < 8) (a : Fin 512) : Fin 4096 := ⟨512 * n + a, by omega⟩

theorem blk0 (A : S4096x1024.Idx → EReal) (t : Fin cfg0.N) (a : Fin 512) (b : Fin 1024) :
    ((cfg0.win 0).blk t).view.read (Elt Ideal) A (ix2 a b) = A (ix2 (row t (idx t).1 a) b) := by
  blk_point [idx t, row]

theorem blk1 (A : S1024x1024.Idx → EReal) (t : Fin cfg0.N) (a : Fin 1024) (b : Fin 1024) :
    ((cfg0.win 1).blk t).view.read (Elt Ideal) A (ix2 a b) = A (ix2 a b) := by
  blk_point [idx t]

theorem blk2 (A : S4096x1024.Idx → EReal) (t : Fin cfg0.N) (a : Fin 512) (b : Fin 1024) :
    ((cfg0.win 2).blk t).view.read (Elt Ideal) A (ix2 a b) = A (ix2 (row t (idx t).1 a) b) := by
  blk_point [idx t, row]

theorem blk3 (A : S4096x1024.Idx → EReal) (t : Fin cfg0.N) (a : Fin 512) (b : Fin 1024) :
    ((cfg0.win 3).blk t).view.read (Elt Ideal) A (ix2 a b) = A (ix2 (row t (idx t).1 a) b) := by
  blk_point [idx t, row]

theorem blk4 (A : S1x1024.Idx → EReal) (t : Fin cfg0.N) (a : Fin 1) (b : Fin 1024) :
    ((cfg0.win 4).blk t).view.read (Elt Ideal) A (ix2 a b) = A (ix2 a b) := by
  blk_point [idx t]

variable (m : (ℓ : Loc nD τ sig) → Buf (Elt Ideal) ℓ) (c : Dev nD)

/-! The arguments on a device. -/

abbrev f : Mlp.Arr 4096 1024 := m ((c : Thread nD τ).loc main_arg1)
abbrev g : Mlp.Arr 1 1024 := m ((c : Thread nD τ).loc main_arg2)
abbrev w : Mlp.Arr 1024 1024 := m ((c : Thread nD τ).loc main_arg3)
abbrev d3 : Mlp.Arr 4096 1024 := m ((c : Thread nD τ).loc main_arg4)
abbrev dp : Mlp.Arr 4096 1024 := m ((c : Thread nD τ).loc main_arg5)

theorem host_dp : V m c main_v0 = dp m c := by
  unfold V
  simp only [hostOps0]
  after_results_simp
  all_goals rfl

theorem host_w : V m c main_v1 = w m c := by
  unfold V
  simp only [hostOps0]
  after_results_simp
  all_goals rfl

/-! What a grid point computes. -/

theorem dp_at (t : Fin cfg0.N) (a : Fin 512) (d : Fin 1024) : iblk m c 0 t (ix2 a d) = dp m c (ix2 (row t (idx t).1 a) d) :=
  (blk0 (V m c main_v0) t a d).trans (congrFun (host_dp m c) _)

theorem w_at (t : Fin cfg0.N) (a : Fin 1024) (d : Fin 1024) : iblk m c 1 t (ix2 a d) = w m c (ix2 a d) :=
  (blk1 (V m c main_v1) t a d).trans (congrFun (host_w m c) _)

theorem d3_at (t : Fin cfg0.N) (a : Fin 512) (d : Fin 1024) : iblk m c 2 t (ix2 a d) = d3 m c (ix2 (row t (idx t).1 a) d) :=
  (blk2 (V m c main_arg4) t a d).trans (congrFun (V_main_arg4 m c) _)

theorem f_at (t : Fin cfg0.N) (a : Fin 512) (d : Fin 1024) : iblk m c 3 t (ix2 a d) = f m c (ix2 (row t (idx t).1 a) d) :=
  (blk3 (V m c main_arg1) t a d).trans (congrFun (V_main_arg1 m c) _)

theorem g_at (t : Fin cfg0.N) (d : Fin 1024) : iblk m c 4 t (ix2 0 d) = g m c (ix2 0 d) :=
  (blk4 (V m c main_arg2) t 0 d).trans (congrFun (V_main_arg2 m c) _)

theorem rstd_at (t : Fin cfg0.N) (a : Fin 512) : k0_pay4 (iblk m c 3 t) (ix2 a 0) = InProj.rstd (f m c) (row t (idx t).1 a) := by
  rw [pay4_at]
  simp only [f_at]
  rfl

theorem nrm_at (t : Fin cfg0.N) (a : Fin 512) (d : Fin 1024) :
    k0_pay5 (iblk m c 3 t) (ix2 a d) = InProj.nrm (f m c) (row t (idx t).1 a) d := by
  rw [pay5_at, rstd_at, f_at]
  rfl

theorem dh_at (t : Fin cfg0.N) (a : Fin 512) (d : Fin 1024) :
    k0_pay3 (iblk m c 0 t) (iblk m c 1 t) (iblk m c 2 t) (ix2 a d) = Gate.dh (w m c) (d3 m c) (dp m c) (row t (idx t).1 a) d := by
  rw [pay3_at]
  simp only [dp_at, w_at, d3_at]
  rfl

theorem df_at (t : Fin cfg0.N) (a : Fin 512) (d : Fin 1024) :
    k0_pay7 (iblk m c 0 t) (iblk m c 1 t) (iblk m c 2 t) (iblk m c 3 t) (iblk m c 4 t) (ix2 a d)
      = Gate.df (f m c) (g m c) (w m c) (d3 m c) (dp m c) (row t (idx t).1 a) d := by
  rw [pay7_at]
  simp only [rstd_at, nrm_at, dh_at, g_at]
  rfl

/-- A term of the scale's gradient. -/
abbrev term (d : Fin 1024) : ℕ → EReal := InProj.upto (Gate.part (f m c) (w m c) (d3 m c) (dp m c) d)

/-- The sum of the rows up to a grid point's own, from the sum of those before it. -/
theorem scale_at (t : Fin cfg0.N) (acc : Vec Ideal S1x1024 .f32)
    (hacc : ∀ a d, acc (ix2 a d) = ∑ n ∈ Finset.range (512 * t.val), term m c d n) (a : Fin 1) (d : Fin 1024) :
    k0_pay2 (k0_pay6 (iblk m c 0 t) (iblk m c 1 t) (iblk m c 2 t) (iblk m c 3 t)) acc (ix2 a d)
      = ∑ n ∈ Finset.range (512 * (t.val + 1)), term m c d n := by
  rw [pay2_at, hacc, pay6_at, ← InProj.upto_block _ _ (idx t).1]
  refine congrArg _ (Finset.sum_congr rfl fun b _ => ?_)
  rw [dh_at, nrm_at]
  rfl

/-! What a grid point leaves, in each of the two cases. -/

theorem first (t : Fin cfg0.N) (h0 : t.val % 8 = 0) :
    (outsAt0 m c t.val t.isLt).1 = k0_pay3 (iblk m c 0 t) (iblk m c 1 t) (iblk m c 2 t)
    ∧ (outsAt0 m c t.val t.isLt).2.1 = k0_pay7 (iblk m c 0 t) (iblk m c 1 t) (iblk m c 2 t) (iblk m c 3 t) (iblk m c 4 t)
    ∧ (outsAt0 m c t.val t.isLt).2.2
      = k0_pay2 (k0_pay6 (iblk m c 0 t) (iblk m c 1 t) (iblk m c 2 t) (iblk m c 3 t)) (k0_pay1 (F := Ideal)) := by
  rw [outsAt0_A m c t h0]
  refine ⟨?_, ?_, ?_⟩
  · frame_out
  · frame_out
  · frame_out

theorem later (t : Fin cfg0.N) (h0 : ¬t.val % 8 = 0) :
    (outsAt0 m c t.val t.isLt).1 = k0_pay3 (iblk m c 0 t) (iblk m c 1 t) (iblk m c 2 t)
    ∧ (outsAt0 m c t.val t.isLt).2.1 = k0_pay7 (iblk m c 0 t) (iblk m c 1 t) (iblk m c 2 t) (iblk m c 3 t) (iblk m c 4 t)
    ∧ (outsAt0 m c t.val t.isLt).2.2
      = k0_pay2 (k0_pay6 (iblk m c 0 t) (iblk m c 1 t) (iblk m c 2 t) (iblk m c 3 t))
        (outsAt0 m c (t.val - 1) (Nat.lt_of_le_of_lt (Nat.sub_le _ _) t.isLt)).2.2 := by
  rw [outsAt0_B m c t h0]
  refine ⟨?_, ?_, ?_⟩
  · frame_out
  · frame_out
  · frame_out

/-- The scale's array holds the sum of the rows so far. -/
theorem carried : ∀ (n : ℕ) (hn : n < cfg0.N) (a : Fin 1) (d : Fin 1024), (outsAt0 m c n hn).2.2 (ix2 a d)
    = ∑ i ∈ Finset.range (512 * (n + 1)), term m c d i := by
  intro n
  induction n using Nat.strong_induction_on with
  | _ n ih =>
    intro hn
    have hN := (idx ⟨n, hn⟩).1
    by_cases h0 : n % 8 = 0
    · have h2 := (first m c ⟨n, hn⟩ h0).2.2
      dsimp only at h2
      rw [h2]
      refine scale_at m c ⟨n, hn⟩ _ fun a d => ?_
      dsimp only
      rw [pay1_at, show 512 * n = 0 by dsimp only at hN; omega, Finset.sum_range_zero]
    · have h2 := (later m c ⟨n, hn⟩ h0).2.2
      dsimp only at h2
      rw [h2]
      refine scale_at m c ⟨n, hn⟩ _ fun a d => ?_
      refine (ih (n - 1) (by omega) (Nat.lt_of_le_of_lt (Nat.sub_le _ _) hn) a d).trans ?_
      rw [show n - 1 + 1 = n by omega]

theorem out_rows (t : Fin cfg0.N) (a : Fin 512) (d : Fin 1024) :
    (outsAt0 m c t.val t.isLt).1 (ix2 a d) = Gate.dh (w m c) (d3 m c) (dp m c) (row t (idx t).1 a) d
    ∧ (outsAt0 m c t.val t.isLt).2.1 (ix2 a d) = Gate.df (f m c) (g m c) (w m c) (d3 m c) (dp m c) (row t (idx t).1 a) d := by
  rw [← dh_at, ← df_at]
  by_cases h0 : t.val % 8 = 0
  · rw [(first m c t h0).1, (first m c t h0).2.1]
    exact ⟨rfl, rfl⟩
  · rw [(later m c t h0).1, (later m c t h0).2.1]
    exact ⟨rfl, rfl⟩

theorem final_dh : (dats m 0 c).arrAt 5 cfg0.N = fun j : S4096x1024.Idx => Gate.dh (w m c) (d3 m c) (dp m c) (j 0) (j 1) := by
  refine (dats m 0 c).arrAt_eq_of_covers 5 _ (by decide +kernel) fun t _ y => ?_
  blk_simp
  rw [after0_5]
  obtain ⟨ρ, γ, rfl⟩ : ∃ (ρ : Fin 512) (γ : Fin 1024), y = ix2 ρ γ := ⟨y 0, y 1, by blk_ext []⟩
  have e0 : (((cfg0.win 5).blk t).view.emb (ix2 ρ γ) 0 : ℕ) = 512 * t.val + ρ := by
    blk_simp [idx t]
    omega
  have e1 : (((cfg0.win 5).blk t).view.emb (ix2 ρ γ) 1 : ℕ) = γ := by
    blk_simp [idx t]
  exact (out_rows m c t ρ γ).1.trans (congrArg₂ (Gate.dh _ _ _) (Fin.ext e0 : _ = row t (idx t).1 ρ) (Fin.ext e1 : _ = γ)).symm

theorem final_df : (dats m 0 c).arrAt 6 cfg0.N = fun j : S4096x1024.Idx =>
    Gate.df (f m c) (g m c) (w m c) (d3 m c) (dp m c) (j 0) (j 1) := by
  refine (dats m 0 c).arrAt_eq_of_covers 6 _ (by decide +kernel) fun t _ y => ?_
  blk_simp
  rw [after0_6]
  obtain ⟨ρ, γ, rfl⟩ : ∃ (ρ : Fin 512) (γ : Fin 1024), y = ix2 ρ γ := ⟨y 0, y 1, by blk_ext []⟩
  have e0 : (((cfg0.win 6).blk t).view.emb (ix2 ρ γ) 0 : ℕ) = 512 * t.val + ρ := by
    blk_simp [idx t]
    omega
  have e1 : (((cfg0.win 6).blk t).view.emb (ix2 ρ γ) 1 : ℕ) = γ := by
    blk_simp [idx t]
  exact (out_rows m c t ρ γ).2.trans
    (congrArg₂ (Gate.df _ _ _ _ _) (Fin.ext e0 : _ = row t (idx t).1 ρ) (Fin.ext e1 : _ = γ)).symm

theorem flush_last : ∀ t : Fin cfg0.N, (cfg0.win 7).flush t = true → t.val = 7 :=
  (by decide +kernel : ∀ t : Fin grid0.N, _)

theorem final_scale : (dats m 0 c).arrAt 7 cfg0.N = fun j : S1x1024.Idx => Gate.dscale (f m c) (w m c) (d3 m c) (dp m c) (j 1) := by
  refine (dats m 0 c).arrAt_eq_of_covers 7 _ (by decide +kernel) fun t hf y => ?_
  blk_simp
  rw [after0_7]
  obtain ⟨ρ, γ, rfl⟩ : ∃ (ρ : Fin 1) (γ : Fin 1024), y = ix2 ρ γ := ⟨y 0, y 1, by blk_ext []⟩
  have e1 : (((cfg0.win 7).blk t).view.emb (ix2 ρ γ) 1 : ℕ) = γ := by
    blk_simp [idx t]
  refine ((carried m c t.val t.isLt ρ γ).trans ?_).trans (congrArg (Gate.dscale _ _ _ _) (Fin.ext e1 : _ = γ)).symm
  rw [flush_last t hf, Gate.dscale, InProj.upto_total]

end Cert.Kernel9Ideal.Dx

end
-- ==== Proof.GateFinite.lean ====
/-
  The precondition of the call before the gate read back: when the entries of the row the norm takes, of its scale, of the
  weight and of the two gradients are below infinity in absolute value, they are real numbers.
-/
module

public import proofs.«01_k».proof.Proof.InFinite
public import proofs.«01_k».proof.Proof.GateDx

@[expose] public section

set_option maxRecDepth 16384

noncomputable section

namespace Cert.Pre_finite_gate

open Idealize.ShloMosaic Idealize.SL.Sem
open Cert.Pre_finite (bit real_of_bit and_one)
open Cert.Pre_finite_in (top real_of_top)

/-- The shapes the precondition's operations relate are related. -/
theorem facts : Facts where
  bcast_S_S4096x1024 := by decide
  bcast_S_S1x1024 := by decide
  bcast_S1x1024_S4096x1024_0_1 := by decide
  reducesTo_S1024x1024_S1024_d1 := by decide
  h_S_ := by decide
  bcast_S_S1024 := by decide
  bcast_S1024_S1x1024_1 := by decide

variable [Facts]

theorem top_w (b : FVec Ideal S_ .f32) (w : FVec Ideal S1024x1024 .f32) (h : S1024x1024.ReducesTo [1] S1024) (hu : 0 < S_.numel) :
    Host.reduce FloatOps.maximumf (Host.absf w) b h hu
      = fun i : S1024.Idx => top (b (Shape.Idx.first hu)) w (i 0) := by
  funext i
  simp only [pointwise, top]

/-- The precondition at an index. -/
theorem fn_at (h f : Mlp.Arr 4096 1024) (g : Mlp.Arr 1 1024) (w : Mlp.Arr 1024 1024) (d3 dp : Mlp.Arr 4096 1024) :
    ∃ b : EReal, ∀ (t : Fin 4096) (d : Fin 1024), fn (F := Ideal) h f g w d3 dp (ix2 t d)
      = bit (f (ix2 t d)) &&& bit (g (ix2 0 d)) &&& bit (d3 (ix2 t d)) &&& bit (dp (ix2 t d)) &&& bit (top b w d) := by
  refine ⟨(constant (F := Ideal) S_ .f32 0xFF800000#32) (Shape.Idx.first (by decide)), fun t d => ?_⟩
  unfold fn fn_part1
  dsimp only
  rw [top_w]
  generalize (constant (F := Ideal) S_ .f32 0xFF800000#32) (Shape.Idx.first _) = b
  obtain ⟨p, hp⟩ : ∃ p, p = top b w := ⟨_, rfl⟩
  rw [← hp]
  pointwise []
  rfl

end Cert.Pre_finite_gate

namespace Cert.Kernel9Ideal.Dx

open Cert.Kernel9Ideal Cert.Kernel9Ideal.Gen Idealize.ShloMosaic Idealize.ShloMosaic.TcCoe Idealize.SL.Sem
open Cert.Pre_finite (bit real_of_bit and_one)
open Cert.Pre_finite_in (real_of_top)

/-- Under the precondition the two ways of writing the gradient of the row the norm takes agree. -/
theorem df_eq [Cert.Pre_finite_gate.Facts] (m : (ℓ : Loc nD τ sig) → Buf (Elt Ideal) ℓ) (hpre : Cert.Pre_Kernel9Ideal_finite_gate m)
    (c : Dev nD) (t : Fin 4096) (d : Fin 1024) : Gate.df (f m c) (g m c) (w m c) (d3 m c) (dp m c) t d
      = Gate.df' (f m c) (g m c) (w m c) (d3 m c) (dp m c) t d := by
  haveI := Cert.Pre_finite.facts
  haveI := Cert.Pre_finite_in.facts
  obtain ⟨b, fn_at⟩ := Cert.Pre_finite_gate.fn_at (m ((c : Thread nD τ).loc main_arg0)) (f m c) (g m c) (w m c) (d3 m c) (dp m c)
  have bits := fun d => (fn_at t d).symm.trans (congrFun (hpre c) (ix2 t d))
  have hw := fun d => real_of_top (and_one (bits d)).2
  have hp := fun d => real_of_bit (and_one (and_one (bits d)).1).2
  have h3 := fun d => real_of_bit (and_one (and_one (and_one (bits d)).1).1).2
  have hg := fun d => real_of_bit (and_one (and_one (and_one (and_one (bits d)).1).1).1).2
  have hf := fun d => real_of_bit (and_one (and_one (and_one (and_one (bits d)).1).1).1).1
  refine InProj.back_eq _ _ (fun d => ((d3 m c (ix2 t d)).toReal + ∑ k : Fin 1024, (dp m c (ix2 t k)).toReal * (w m c (ix2 d k)).toReal)
    * (g m c (ix2 0 d)).toReal) t hf (fun d => ?_) d
  unfold Gate.dn Gate.dh
  rw [EReal.coe_mul, EReal.coe_add, ← Reals.coe_sum, ← hg d, ← h3 d]
  refine congrArg (fun s => (d3 m c (ix2 t d) + s) * g m c (ix2 0 d)) (Finset.sum_congr rfl fun k _ => ?_)
  rw [EReal.coe_mul, ← hp k, ← hw d k]

end Cert.Kernel9Ideal.Dx

end
-- ==== Proof.OutWeight.lean ====
/-
  The kernel for the gradient of a weight of 1024 by 1024: its array is the sum over positions of the products of the rows,
  and so is the reference's.
-/
module

public import proofs.«01_k».proof.Proof.MlpMath
public import proofs.«01_k».proof.Proof.Gen.Kernel8Ideal.Value
public import proofs.«01_k».proof.Proof.Gen.Reference8Ideal.Read
public import Idealize.ShloMosaic.Lib.Pointwise
public import Idealize.ShloMosaic.Lib.Claim

@[expose] public section

set_option maxRecDepth 16384

noncomputable section

/-- The gradient of the weight of `u · w`. -/
def Mlp.square (u ct : Mlp.Arr 4096 1024) (f d : Fin 1024) : EReal :=
  ∑ t : Fin 4096, u (Idealize.ShloMosaic.ix2 t f) * ct (Idealize.ShloMosaic.ix2 t d)

namespace Cert.Reference8Ideal.Rows

open Cert.Reference8Ideal Cert.Reference8Ideal.Gen Cert.Reference8Ideal.Read Idealize.ShloMosaic Idealize.ShloMosaic.TcCoe

theorem value (u ct : Mlp.Arr 4096 1024) (f d : Fin 1024) : val_main_v3 (F := Ideal) u ct (ix2 f d) = Mlp.square u ct f d := by
  pointwise [val_main_v3, val_main_v2, val_main_v1]
  exact Finset.sum_congr rfl fun t _ => mul_comm _ _

end Cert.Reference8Ideal.Rows

namespace Cert.Kernel8Ideal.Rows

open Cert.Kernel8Ideal Cert.Kernel8Ideal.Gen Idealize.ShloMosaic Idealize.ShloMosaic.TcCoe Idealize.SL.Sem

variable (m : (ℓ : Loc nD τ sig) → Buf (Elt Ideal) ℓ) (c : Dev nD)

theorem u_at : V m c main_v0 = m ((c : Thread nD τ).loc main_arg0) := by
  unfold V
  simp only [hostOps0]
  after_results_simp
  all_goals rfl

theorem ct_at : V m c main_v1 = m ((c : Thread nD τ).loc main_arg2) := by
  unfold V
  simp only [hostOps0]
  after_results_simp
  all_goals rfl

theorem pay (x : Vec Ideal S4096x512 .bf16) (y : Vec Ideal S4096x1024 .bf16) (a : Fin 512) (b : Fin 1024) :
    out0_2 x y (ix2 a b) = ∑ t : Fin 4096, x (ix2 t a) * y (ix2 t b) := by
  frame_out
  pointwise [k0_pay1]

theorem idx : ∀ t : Fin cfg0.N, t.val < 2 ∧ win0_0.index t = ![0, t.val] ∧ win0_1.index t = ![0, 0] ∧ win0_2.index t = ![t.val, 0] :=
  (by decide +kernel : ∀ t : Fin grid0.N, _)

theorem blk0 (A : S4096x1024.Idx → EReal) (t : Fin cfg0.N) (a : Fin 4096) (b : Fin 512) :
    ((cfg0.win 0).blk t).view.read (Elt Ideal) A (ix2 a b) = A (ix2 a ⟨512 * t.val + b, by have := (idx t).1; omega⟩) := by
  blk_point [idx t]

theorem blk1 (A : S4096x1024.Idx → EReal) (t : Fin cfg0.N) (a : Fin 4096) (b : Fin 1024) :
    ((cfg0.win 1).blk t).view.read (Elt Ideal) A (ix2 a b) = A (ix2 a b) := by
  blk_point [idx t]

theorem final : (dats m 0 c).arrAt 2 cfg0.N = fun j : S1024x1024.Idx => Mlp.square (m ((c : Thread nD τ).loc main_arg0))
    (m ((c : Thread nD τ).loc main_arg2)) (j 0) (j 1) := by
  refine (dats m 0 c).arrAt_eq_of_covers 2 _ (by decide +kernel) fun t _ y => ?_
  blk_simp
  rw [after0_2]
  obtain ⟨ρ, γ, rfl⟩ : ∃ (ρ : Fin 512) (γ : Fin 1024), y = ix2 ρ γ := ⟨y 0, y 1, by blk_ext []⟩
  have ht := (idx t).1
  have e0 : (((cfg0.win 2).blk t).view.emb (ix2 ρ γ) 0 : ℕ) = 512 * t.val + ρ := by
    blk_simp [idx t]
    omega
  have e1 : (((cfg0.win 2).blk t).view.emb (ix2 ρ γ) 1 : ℕ) = γ := by
    blk_simp [idx t]
  refine (pay _ _ ρ γ).trans (Eq.trans ?_ (congrArg₂ (Mlp.square _ _)
    (Fin.ext e0 : _ = (⟨512 * t.val + ρ, by omega⟩ : Fin 1024)) (Fin.ext e1 : _ = γ)).symm)
  simp only [Mlp.square]
  refine Finset.sum_congr rfl fun s _ => ?_
  have h0 : iblk m c 0 t (ix2 s ρ) = _ := (blk0 (V m c main_v0) t s ρ).trans (congrFun (u_at m c) _)
  have h1 : iblk m c 1 t (ix2 s γ) = _ := (blk1 (V m c main_v1) t s γ).trans (congrFun (ct_at m c) _)
  rw [h0, h1]

end Cert.Kernel8Ideal.Rows

end
-- ==== Proof.ProjIn.lean ====
/-
  The kernel of the input projection: its two arrays are the product of a row and the weight's columns, the second filled
  up with zeros, and so are the reference's.
-/
module

public import proofs.«01_k».proof.Proof.InMath
public import proofs.«01_k».proof.Proof.Gen.Kernel10Ideal.Value
public import proofs.«01_k».proof.Proof.Gen.Reference10Ideal.Read
public import Idealize.ShloMosaic.Lib.Pointwise
public import Idealize.ShloMosaic.Lib.Pipeline.ReadBack
public import Idealize.ShloMosaic.Lib.Claim

@[expose] public section

set_option maxRecDepth 16384

noncomputable section

namespace InProj

open Idealize.ShloMosaic
open Mlp (Arr)

/-- The product of a row and a column of the weight, the column by a natural number. -/
def prod (u : Arr 4096 1024) (w : Arr 1024 2824) (t : Fin 4096) (f : ℕ) : EReal := ∑ k : Fin 1024, u (ix2 t k) * col w k f

/-- The first 2048 columns. -/
def prod0 (u : Arr 4096 1024) (w : Arr 1024 2824) (t : Fin 4096) (f : Fin 2048) : EReal := prod u w t f

/-- The other columns, filled up with zeros. -/
def prod1 (u : Arr 4096 1024) (w : Arr 1024 2824) (t : Fin 4096) (f : Fin 896) : EReal := prod u w t (2048 + f)

theorem prod_lt (u : Arr 4096 1024) (w : Arr 1024 2824) (t : Fin 4096) (f : ℕ) (h : f < 2824) :
    prod u w t f = ∑ k : Fin 1024, u (ix2 t k) * w (ix2 k ⟨f, h⟩) :=
  Finset.sum_congr rfl fun k _ => congrArg _ (dif_pos h)

theorem prod_past (u : Arr 4096 1024) (w : Arr 1024 2824) (t : Fin 4096) (f : ℕ) (h : 2824 ≤ f) : prod u w t f = 0 :=
  Finset.sum_eq_zero fun k _ => by rw [col, dif_neg (Nat.not_lt.2 h), mul_zero]

end InProj

namespace Cert.Reference10Ideal.Prod

open Cert.Reference10Ideal Cert.Reference10Ideal.Gen Cert.Reference10Ideal.Read Idealize.ShloMosaic Idealize.ShloMosaic.TcCoe

variable (u : Mlp.Arr 4096 1024) (w : Mlp.Arr 1024 2824)

theorem v0_at (t : Fin 4096) (f : Fin 2824) : val_main_v0 (F := Ideal) u w (ix2 t f) = InProj.prod u w t f := by
  rw [InProj.prod_lt _ _ _ _ f.isLt]
  pointwise [val_main_v0]

theorem value0 (t : Fin 4096) (f : Fin 2048) : val_main_v1 (F := Ideal) u w (ix2 t f) = InProj.prod0 u w t f := by
  pointwise [val_main_v1, v0_at]
  rfl

theorem value1 (t : Fin 4096) (f : Fin 896) : val_main_v3 (F := Ideal) u w (ix2 t f) = InProj.prod1 u w t f := by
  pointwise [val_main_v3, val_main_v2, val_main_call0_v0, val_main_c]
  split
  · rw [v0_at]
    rfl
  · rw [InProj.fill, InProj.prod1, InProj.prod_past _ _ _ _ (by omega)]

section

variable {u u' : Mlp.Arr 4096 1024} {w w' : Mlp.Arr 1024 2824}

theorem value0_eq (hu : u' = u) (hw : w' = w) :
    val_main_v1 (F := Ideal) u' w' = fun j : S4096x2048.Idx => InProj.prod0 u w (j 0) (j 1) := by
  subst hu hw
  exact funext fun j => (congrArg _ (eq_ix2 j)).trans (value0 _ _ (j 0) (j 1))

theorem value1_eq (hu : u' = u) (hw : w' = w) :
    val_main_v3 (F := Ideal) u' w' = fun j : S4096x896.Idx => InProj.prod1 u w (j 0) (j 1) := by
  subst hu hw
  exact funext fun j => (congrArg _ (eq_ix2 j)).trans (value1 _ _ (j 0) (j 1))

end

end Cert.Reference10Ideal.Prod

namespace Cert.Kernel10Ideal.Prod

open Cert.Kernel10Ideal Cert.Kernel10Ideal.Gen Idealize.ShloMosaic Idealize.ShloMosaic.TcCoe Idealize.SL.Sem

theorem pay1_at (x : Vec Ideal S512x1024 .bf16) (y : Vec Ideal S2048x1024 .bf16) (a : Fin 512) (b : Fin 2048) :
    k0_pay1 x y (ix2 a b) = ∑ k : Fin 1024, x (ix2 a k) * y (ix2 b k) := by
  pointwise [k0_pay1]

theorem pay2_at (x : Vec Ideal S512x1024 .bf16) (y : Vec Ideal S896x1024 .bf16) (a : Fin 512) (b : Fin 896) :
    k0_pay2 x y (ix2 a b) = ∑ k : Fin 1024, x (ix2 a k) * y (ix2 b k) := by
  pointwise [k0_pay2]

theorem idx : ∀ t : Fin cfg0.N, t.val < 8 ∧ win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The row of the whole arrays a block's row is. -/
def row (n : ℕ) (hn : n < 8) (a : Fin 512) : Fin 4096 := ⟨512 * n + a, by omega⟩

theorem blk0 (A : S4096x1024.Idx → EReal) (t : Fin cfg0.N) (a : Fin 512) (b : Fin 1024) :
    ((cfg0.win 0).blk t).view.read (Elt Ideal) A (ix2 a b) = A (ix2 (row t (idx t).1 a) b) := by
  blk_point [idx t, row]

theorem blk1 (A : S2048x1024.Idx → EReal) (t : Fin cfg0.N) (a : Fin 2048) (b : Fin 1024) :
    ((cfg0.win 1).blk t).view.read (Elt Ideal) A (ix2 a b) = A (ix2 a b) := by
  blk_point [idx t]

theorem blk2 (A : S4096x1024.Idx → EReal) (t : Fin cfg0.N) (a : Fin 512) (b : Fin 1024) :
    ((cfg0.win 2).blk t).view.read (Elt Ideal) A (ix2 a b) = A (ix2 (row t (idx t).1 a) b) := by
  blk_point [idx t, row]

theorem blk3 (A : S896x1024.Idx → EReal) (t : Fin cfg0.N) (a : Fin 896) (b : Fin 1024) :
    ((cfg0.win 3).blk t).view.read (Elt Ideal) A (ix2 a b) = A (ix2 a b) := by
  blk_point [idx t]

theorem padded_rows (A : Mlp.Arr 1024 2824) (f : Fin 896) (d : Fin 1024) :
    pad S896x1024 ![0, 0] ![120, 0] ![0, 0]
      (extractStridedSlice S776x1024 ![2048, 0] (transpose S2824x1024 [1, 0] A transposes_S1024x2824_S2824x1024_1_0) slices_S2824x1024_S776x1024_2048_0)
      (sitofp (F := Ideal) .bf16 (constantI S_ 32 0#32)) pads_S776x1024_S896x1024_01200_000 h_S_ (ix2 f d) = InProj.col A d (2048 + f) := by
  pointwise []
  split
  · rw [InProj.col, dif_pos (by omega)]
  · rw [InProj.fill, InProj.col, dif_neg (by omega)]

section Host

variable (V0 : Valuation τ sig (Elt Ideal))

theorem s0 : StableHlo.after hostOps0 V0 (Proc.devRef .tc main_v2) = extractStridedSlice (α := EReal) S776x1024 ![2048, 0]
      (transpose (α := EReal) S2824x1024 [1, 0] (V0 (Proc.devRef .tc main_arg1)) transposes_S1024x2824_S2824x1024_1_0) slices_S2824x1024_S776x1024_2048_0
    ∧ StableHlo.after hostOps0 V0 (Proc.devRef .tc main_v1)
      = transpose (α := EReal) S2824x1024 [1, 0] (V0 (Proc.devRef .tc main_arg1)) transposes_S1024x2824_S2824x1024_1_0
    ∧ StableHlo.after hostOps0 V0 (Proc.devRef .tc main_c) = constantI S_ 32 0#32 := by
  simp only [hostOps0]
  refine ⟨?_, ?_, ?_⟩
  all_goals after_results_simp
  all_goals rfl

theorem s1 (x) (h0 : V0 (Proc.devRef .tc main_v2) = x) (h1 : V0 (Proc.devRef .tc main_c) = constantI S_ 32 0#32) :
    StableHlo.after hostOps0_1 V0 (Proc.devRef .tc main_v3)
      = pad S896x1024 ![0, 0] ![120, 0] ![0, 0] x (sitofp (F := Ideal) .bf16 (constantI S_ 32 0#32)) pads_S776x1024_S896x1024_01200_000 h_S_ := by
  simp only [hostOps0_1, StableHlo.TRef.binary, StableHlo.TRef.nullary, StableHlo.TRef.unary, StableHlo.TRef.toBuf, StableHlo.TRef.ofBuf, cast_eq]
  after_results_simp
  rw [h0, h1]

theorem s2 : StableHlo.after hostOps0_2 V0 (Proc.devRef .tc main_v4) = V0 (Proc.devRef .tc main_arg0)
    ∧ StableHlo.after hostOps0_2 V0 (Proc.devRef .tc main_v5)
      = extractStridedSlice (α := EReal) S2048x1024 ![0, 0] (V0 (Proc.devRef .tc main_v1)) slices_S2824x1024_S2048x1024_0_0
    ∧ StableHlo.after hostOps0_2 V0 (Proc.devRef .tc main_v3) = V0 (Proc.devRef .tc main_v3) := by
  simp only [hostOps0_2]
  refine ⟨?_, ?_, ?_⟩
  all_goals after_results_simp
  all_goals rfl

/-- What the operations before the last list leave. -/
abbrev before : Valuation τ sig (Elt Ideal) := StableHlo.after hostOps0_1 (StableHlo.after hostOps0 V0)

theorem entry_eq : StableHlo.after (List.flatten [hostOps0, hostOps0_1, hostOps0_2]) V0 = StableHlo.after hostOps0_2 (before V0) := by
  simp only [List.flatten_cons, List.flatten_nil, List.append_nil, StableHlo.after_append]

theorem before_kept : before V0 (Proc.devRef .tc main_arg0) = V0 (Proc.devRef .tc main_arg0) := by
  simp only [before, hostOps0, hostOps0_1]
  after_results_simp

theorem before_v1 : before V0 (Proc.devRef .tc main_v1) = StableHlo.after hostOps0 V0 (Proc.devRef .tc main_v1) := by
  simp only [before, hostOps0_1]
  after_results_simp

end Host

variable (m : (ℓ : Loc nD τ sig) → Buf (Elt Ideal) ℓ) (c : Dev nD)

abbrev u : Mlp.Arr 4096 1024 := m ((c : Thread nD τ).loc main_arg0)
abbrev w : Mlp.Arr 1024 2824 := m ((c : Thread nD τ).loc main_arg1)

theorem v4_at : V m c main_v4 = u m c := by
  unfold V
  rw [entry_eq, (s2 _).1, before_kept]

theorem v5_at (f : Fin 2048) (d : Fin 1024) : V m c main_v5 (ix2 f d) = InProj.col (w m c) d f := by
  unfold V
  rw [entry_eq, (s2 _).2.1, before_v1, (s0 _).2.1]
  refine Eq.trans ?_ (InProj.col_lt (w m c) d ⟨f, by omega⟩).symm
  pointwise []

theorem v3_at (f : Fin 896) (d : Fin 1024) : V m c main_v3 (ix2 f d) = InProj.col (w m c) d (2048 + f) := by
  unfold V
  rw [entry_eq, (s2 _).2.2, before, s1 _ _ (s0 _).1 (s0 _).2.2]
  exact padded_rows _ f d

theorem outs (t : Fin cfg0.N) : (outsAt0 m c t).1 = k0_pay1 (iblk m c 0 t) (iblk m c 1 t)
    ∧ (outsAt0 m c t).2 = k0_pay2 (iblk m c 2 t) (iblk m c 3 t) := by
  unfold outsAt0
  refine ⟨?_, ?_⟩
  · frame_out
  · frame_out

theorem out0 (t : Fin cfg0.N) (a : Fin 512) (f : Fin 2048) :
    (outsAt0 m c t).1 (ix2 a f) = InProj.prod0 (u m c) (w m c) (row t (idx t).1 a) f := by
  rw [(outs m c t).1, pay1_at, InProj.prod0, InProj.prod]
  refine Finset.sum_congr rfl fun k _ => ?_
  have h0 : iblk m c 0 t (ix2 a k) = _ := (blk0 (V m c main_v4) t a k).trans (congrFun (v4_at m c) _)
  have h1 : iblk m c 1 t (ix2 f k) = _ := (blk1 (V m c main_v5) t f k).trans (v5_at m c f k)
  rw [h0, h1]

theorem out1 (t : Fin cfg0.N) (a : Fin 512) (f : Fin 896) :
    (outsAt0 m c t).2 (ix2 a f) = InProj.prod1 (u m c) (w m c) (row t (idx t).1 a) f := by
  rw [(outs m c t).2, pay2_at, InProj.prod1, InProj.prod]
  refine Finset.sum_congr rfl fun k _ => ?_
  have h0 : iblk m c 2 t (ix2 a k) = _ := (blk2 (V m c main_v4) t a k).trans (congrFun (v4_at m c) _)
  have h1 : iblk m c 3 t (ix2 f k) = _ := (blk3 (V m c main_v3) t f k).trans (v3_at m c f k)
  rw [h0, h1]

theorem final0 : (dats m 0 c).arrAt 4 cfg0.N = fun j : S4096x2048.Idx => InProj.prod0 (u m c) (w m c) (j 0) (j 1) := by
  refine (dats m 0 c).arrAt_eq_of_covers 4 _ (by decide +kernel) fun t _ y => ?_
  blk_simp
  rw [after0_4]
  obtain ⟨ρ, γ, rfl⟩ : ∃ (ρ : Fin 512) (γ : Fin 2048), y = ix2 ρ γ := ⟨y 0, y 1, by blk_ext []⟩
  have e0 : (((cfg0.win 4).blk t).view.emb (ix2 ρ γ) 0 : ℕ) = 512 * t.val + ρ := by
    blk_simp [idx t]
    omega
  have e1 : (((cfg0.win 4).blk t).view.emb (ix2 ρ γ) 1 : ℕ) = γ := by
    blk_simp [idx t]
  exact (out0 m c t ρ γ).trans (congrArg₂ (InProj.prod0 _ _) (Fin.ext e0 : _ = row t (idx t).1 ρ) (Fin.ext e1 : _ = γ)).symm

theorem final1 : (dats m 0 c).arrAt 5 cfg0.N = fun j : S4096x896.Idx => InProj.prod1 (u m c) (w m c) (j 0) (j 1) := by
  refine (dats m 0 c).arrAt_eq_of_covers 5 _ (by decide +kernel) fun t _ y => ?_
  blk_simp
  rw [after0_5]
  obtain ⟨ρ, γ, rfl⟩ : ∃ (ρ : Fin 512) (γ : Fin 896), y = ix2 ρ γ := ⟨y 0, y 1, by blk_ext []⟩
  have e0 : (((cfg0.win 5).blk t).view.emb (ix2 ρ γ) 0 : ℕ) = 512 * t.val + ρ := by
    blk_simp [idx t]
    omega
  have e1 : (((cfg0.win 5).blk t).view.emb (ix2 ρ γ) 1 : ℕ) = γ := by
    blk_simp [idx t]
  exact (out1 m c t ρ γ).trans (congrArg₂ (InProj.prod1 _ _) (Fin.ext e0 : _ = row t (idx t).1 ρ) (Fin.ext e1 : _ = γ)).symm

end Cert.Kernel10Ideal.Prod

end
-- ==== Proof.Adam.lean ====
/-
  The kernels of the optimiser's step on a weight of 128 or 512 rows of 1024: their arrays are the sum of the eight slots,
  the change of the weight and the two new moments, and so are the reference's.
-/
module

public import proofs.«01_k».proof.Proof.MlpMath
public import proofs.«01_k».proof.Proof.Gen.Kernel11Ideal.Value
public import proofs.«01_k».proof.Proof.Gen.Kernel12Ideal.Value
public import proofs.«01_k».proof.Proof.Gen.Reference11Ideal.Read
public import proofs.«01_k».proof.Proof.Gen.Reference12Ideal.Read
public import Idealize.ShloMosaic.Lib.Pointwise
public import Idealize.ShloMosaic.Lib.Claim

@[expose] public section

set_option maxRecDepth 16384

noncomputable section

namespace Adam

open Idealize.ShloMosaic
open Mlp (Arr)

/-- The eight slots of a weight's gradient. -/
abbrev Slots (n : ℕ) : Type := (⟨3, ![8, n, 1024]⟩ : Shape).Idx → EReal

/-- The new first moment, of the gradient and the old one. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight. -/
def change (w g m v : EReal) : EReal := Ideal.ofBits .f32 0xBA83126F#32
  * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

variable {n : ℕ} (x : Slots n) (w m v : Arr n 1024) (r : Fin n) (d : Fin 1024)

/-- The gradient: the sum of the slots. -/
def grad : EReal := ∑ j : Fin 8, x (ix3 j r d)

/-- The two moments and the change at an index. -/
def first_at : EReal := first (grad x r d) (m (ix2 r d))

def second_at : EReal := second (grad x r d) (v (ix2 r d))

def change_at : EReal := change (w (ix2 r d)) (grad x r d) (m (ix2 r d)) (v (ix2 r d))

end Adam

namespace Cert.Reference11Ideal.Step

open Cert.Reference11Ideal Cert.Reference11Ideal.Gen Cert.Reference11Ideal.Read Idealize.ShloMosaic Idealize.ShloMosaic.TcCoe

variable (x : Adam.Slots 128) (w m v : Mlp.Arr 128 1024) (r : Fin 128) (d : Fin 1024)

theorem grad : val_main_v1 (F := Ideal) x (ix2 r d) = Adam.grad x r d := by
  pointwise [val_main_v1, val_main_v0, val_main_cst]
  rfl

theorem first : val_main_v6 (F := Ideal) x m (ix2 r d) = Adam.first_at x m r d := by
  pointwise [val_main_v6, val_main_v5, val_main_v4, val_main_v3, val_main_v2, val_main_cst_0, val_main_cst_1, grad]
  rfl

theorem second : val_main_v12 (F := Ideal) x v (ix2 r d) = Adam.second_at x v r d := by
  pointwise [val_main_v12, val_main_v11, val_main_v10, val_main_v9, val_main_v8, val_main_v7, val_main_cst_2, val_main_cst_3, grad]
  rfl

theorem change : val_main_v25 (F := Ideal) x w m v (ix2 r d) = Adam.change_at x w m v r d := by
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7,
    val_main_cst_8, first, second]
  rfl

section

variable {x x' : Adam.Slots 128} {w w' m m' v v' : Mlp.Arr 128 1024}

theorem grad_eq (hx : x' = x) : val_main_v1 (F := Ideal) x' = fun j : S128x1024.Idx => Adam.grad x (j 0) (j 1) := by
  subst hx
  exact funext fun j => (congrArg _ (eq_ix2 j)).trans (grad _ (j 0) (j 1))

theorem first_eq (hx : x' = x) (hm : m' = m) :
    val_main_v6 (F := Ideal) x' m' = fun j : S128x1024.Idx => Adam.first_at x m (j 0) (j 1) := by
  subst hx hm
  exact funext fun j => (congrArg _ (eq_ix2 j)).trans (first _ _ (j 0) (j 1))

theorem second_eq (hx : x' = x) (hv : v' = v) :
    val_main_v12 (F := Ideal) x' v' = fun j : S128x1024.Idx => Adam.second_at x v (j 0) (j 1) := by
  subst hx hv
  exact funext fun j => (congrArg _ (eq_ix2 j)).trans (second _ _ (j 0) (j 1))

theorem change_eq (hx : x' = x) (hw : w' = w) (hm : m' = m) (hv : v' = v) :
    val_main_v25 (F := Ideal) x' w' m' v' = fun j : S128x1024.Idx => Adam.change_at x w m v (j 0) (j 1) := by
  subst hx hw hm hv
  exact funext fun j => (congrArg _ (eq_ix2 j)).trans (change _ _ _ _ (j 0) (j 1))

end

end Cert.Reference11Ideal.Step

namespace Cert.Kernel11Ideal.Step

open Cert.Kernel11Ideal Cert.Kernel11Ideal.Gen Idealize.ShloMosaic Idealize.ShloMosaic.TcCoe Idealize.SL.Sem

section Pay

variable (x : Vec Ideal S8x128x1024 .bf16) (w m v : Vec Ideal S128x1024 .f32) (r : Fin 128) (d : Fin 1024)

theorem pay5_at : k0_pay5 x w m v (ix2 r d) = Adam.grad x r d := by
  pointwise [k0_pay5, k0_pay4]
  rw [Adam.grad, Fin.sum_univ_eight]

theorem out4 : out0_4 x w m v (ix2 r d) = Adam.grad x r d := by
  frame_out
  exact pay5_at x w m v r d

theorem out6 : out0_6 x w m v (ix2 r d) = Adam.first_at x m r d := by
  frame_out
  pointwise [k0_pay1, pay5_at]
  rfl

theorem out7 : out0_7 x w m v (ix2 r d) = Adam.second_at x v r d := by
  frame_out
  pointwise [k0_pay2, pay5_at]
  rfl

theorem out5 : out0_5 x w m v (ix2 r d) = Adam.change_at x w m v r d := by
  frame_out
  pointwise [k0_pay3, k0_pay1, k0_pay2, pay5_at]
  rfl

end Pay

theorem idx : ∀ t : Fin cfg0.N, t.val < 1 ∧ win0_0.index t = ![0, t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The row of the whole arrays a block's row is. -/
def row (n : ℕ) (hn : n < 1) (a : Fin 128) : Fin 128 := ⟨128 * n + a, by omega⟩

theorem blk0 (A : S8x128x1024.Idx → EReal) (t : Fin cfg0.N) (j : Fin 8) (a : Fin 128) (b : Fin 1024) :
    ((cfg0.win 0).blk t).view.read (Elt Ideal) A (ix3 j a b) = A (ix3 j (row t (idx t).1 a) b) := by
  blk_point [idx t, row]

theorem blk1 (A : S128x1024.Idx → EReal) (t : Fin cfg0.N) (a : Fin 128) (b : Fin 1024) :
    ((cfg0.win 1).blk t).view.read (Elt Ideal) A (ix2 a b) = A (ix2 (row t (idx t).1 a) b) := by
  blk_point [idx t, row]

theorem blk2 (A : S128x1024.Idx → EReal) (t : Fin cfg0.N) (a : Fin 128) (b : Fin 1024) :
    ((cfg0.win 2).blk t).view.read (Elt Ideal) A (ix2 a b) = A (ix2 (row t (idx t).1 a) b) := by
  blk_point [idx t, row]

theorem blk3 (A : S128x1024.Idx → EReal) (t : Fin cfg0.N) (a : Fin 128) (b : Fin 1024) :
    ((cfg0.win 3).blk t).view.read (Elt Ideal) A (ix2 a b) = A (ix2 (row t (idx t).1 a) b) := by
  blk_point [idx t, row]

variable (mem : (ℓ : Loc nD τ sig) → Buf (Elt Ideal) ℓ) (c : Dev nD)

abbrev x : Adam.Slots 128 := mem ((c : Thread nD τ).loc main_arg0)
abbrev w : Mlp.Arr 128 1024 := mem ((c : Thread nD τ).loc main_arg1)
abbrev m : Mlp.Arr 128 1024 := mem ((c : Thread nD τ).loc main_arg2)
abbrev v : Mlp.Arr 128 1024 := mem ((c : Thread nD τ).loc main_arg3)

theorem grad_at (t : Fin cfg0.N) (a : Fin 128) (d : Fin 1024) :
    Adam.grad (iblk mem c 0 t) a d = Adam.grad (x mem c) (row t (idx t).1 a) d := by
  rw [Adam.grad, Adam.grad]
  exact Finset.sum_congr rfl fun j _ => (blk0 (V mem c main_arg0) t j a d).trans (congrFun (V_main_arg0 mem c) _)

theorem w_at (t : Fin cfg0.N) (a : Fin 128) (d : Fin 1024) : iblk mem c 1 t (ix2 a d) = w mem c (ix2 (row t (idx t).1 a) d) :=
  (blk1 (V mem c main_arg1) t a d).trans (congrFun (V_main_arg1 mem c) _)

theorem m_at (t : Fin cfg0.N) (a : Fin 128) (d : Fin 1024) : iblk mem c 2 t (ix2 a d) = m mem c (ix2 (row t (idx t).1 a) d) :=
  (blk2 (V mem c main_arg2) t a d).trans (congrFun (V_main_arg2 mem c) _)

theorem v_at (t : Fin cfg0.N) (a : Fin 128) (d : Fin 1024) : iblk mem c 3 t (ix2 a d) = v mem c (ix2 (row t (idx t).1 a) d) :=
  (blk3 (V mem c main_arg3) t a d).trans (congrFun (V_main_arg3 mem c) _)

theorem final_grad : (dats mem 0 c).arrAt 4 cfg0.N = fun j : S128x1024.Idx => Adam.grad (x mem c) (j 0) (j 1) := by
  refine (dats mem 0 c).arrAt_eq_of_covers 4 _ (by decide +kernel) fun t _ y => ?_
  blk_simp
  rw [after0_4]
  obtain ⟨ρ, γ, rfl⟩ : ∃ (ρ : Fin 128) (γ : Fin 1024), y = ix2 ρ γ := ⟨y 0, y 1, by blk_ext []⟩
  have e0 : (((cfg0.win 4).blk t).view.emb (ix2 ρ γ) 0 : ℕ) = 128 * t.val + ρ := by
    blk_simp [idx t]
    omega
  have e1 : (((cfg0.win 4).blk t).view.emb (ix2 ρ γ) 1 : ℕ) = γ := by
    blk_simp [idx t]
  refine (out4 _ _ _ _ ρ γ).trans (Eq.trans ?_ (congrArg₂ (Adam.grad _)
    (Fin.ext e0 : _ = row t (idx t).1 ρ) (Fin.ext e1 : _ = γ)).symm)
  exact grad_at mem c t ρ γ

theorem final_change : (dats mem 0 c).arrAt 5 cfg0.N = fun j : S128x1024.Idx => Adam.change_at (x mem c) (w mem c) (m mem c) (v mem c) (j 0) (j 1) := by
  refine (dats mem 0 c).arrAt_eq_of_covers 5 _ (by decide +kernel) fun t _ y => ?_
  blk_simp
  rw [after0_5]
  obtain ⟨ρ, γ, rfl⟩ : ∃ (ρ : Fin 128) (γ : Fin 1024), y = ix2 ρ γ := ⟨y 0, y 1, by blk_ext []⟩
  have e0 : (((cfg0.win 5).blk t).view.emb (ix2 ρ γ) 0 : ℕ) = 128 * t.val + ρ := by
    blk_simp [idx t]
    omega
  have e1 : (((cfg0.win 5).blk t).view.emb (ix2 ρ γ) 1 : ℕ) = γ := by
    blk_simp [idx t]
  refine (out5 _ _ _ _ ρ γ).trans (Eq.trans ?_ (congrArg₂ (Adam.change_at _ _ _ _)
    (Fin.ext e0 : _ = row t (idx t).1 ρ) (Fin.ext e1 : _ = γ)).symm)
  rw [Adam.change_at, w_at, grad_at, m_at, v_at]
  rfl

theorem final_first : (dats mem 0 c).arrAt 6 cfg0.N = fun j : S128x1024.Idx => Adam.first_at (x mem c) (m mem c) (j 0) (j 1) := by
  refine (dats mem 0 c).arrAt_eq_of_covers 6 _ (by decide +kernel) fun t _ y => ?_
  blk_simp
  rw [after0_6]
  obtain ⟨ρ, γ, rfl⟩ : ∃ (ρ : Fin 128) (γ : Fin 1024), y = ix2 ρ γ := ⟨y 0, y 1, by blk_ext []⟩
  have e0 : (((cfg0.win 6).blk t).view.emb (ix2 ρ γ) 0 : ℕ) = 128 * t.val + ρ := by
    blk_simp [idx t]
    omega
  have e1 : (((cfg0.win 6).blk t).view.emb (ix2 ρ γ) 1 : ℕ) = γ := by
    blk_simp [idx t]
  refine (out6 _ _ _ _ ρ γ).trans (Eq.trans ?_ (congrArg₂ (Adam.first_at _ _)
    (Fin.ext e0 : _ = row t (idx t).1 ρ) (Fin.ext e1 : _ = γ)).symm)
  rw [Adam.first_at, grad_at, m_at]
  rfl

theorem final_second : (dats mem 0 c).arrAt 7 cfg0.N = fun j : S128x1024.Idx => Adam.second_at (x mem c) (v mem c) (j 0) (j 1) := by
  refine (dats mem 0 c).arrAt_eq_of_covers 7 _ (by decide +kernel) fun t _ y => ?_
  blk_simp
  rw [after0_7]
  obtain ⟨ρ, γ, rfl⟩ : ∃ (ρ : Fin 128) (γ : Fin 1024), y = ix2 ρ γ := ⟨y 0, y 1, by blk_ext []⟩
  have e0 : (((cfg0.win 7).blk t).view.emb (ix2 ρ γ) 0 : ℕ) = 128 * t.val + ρ := by
    blk_simp [idx t]
    omega
  have e1 : (((cfg0.win 7).blk t).view.emb (ix2 ρ γ) 1 : ℕ) = γ := by
    blk_simp [idx t]
  refine (out7 _ _ _ _ ρ γ).trans (Eq.trans ?_ (congrArg₂ (Adam.second_at _ _)
    (Fin.ext e0 : _ = row t (idx t).1 ρ) (Fin.ext e1 : _ = γ)).symm)
  rw [Adam.second_at, grad_at, v_at]
  rfl

end Cert.Kernel11Ideal.Step

namespace Cert.Reference12Ideal.Step

open Cert.Reference12Ideal Cert.Reference12Ideal.Gen Cert.Reference12Ideal.Read Idealize.ShloMosaic Idealize.ShloMosaic.TcCoe

variable (x : Adam.Slots 512) (w m v : Mlp.Arr 512 1024) (r : Fin 512) (d : Fin 1024)

theorem grad : val_main_v1 (F := Ideal) x (ix2 r d) = Adam.grad x r d := by
  pointwise [val_main_v1, val_main_v0, val_main_cst]
  rfl

theorem first : val_main_v6 (F := Ideal) x m (ix2 r d) = Adam.first_at x m r d := by
  pointwise [val_main_v6, val_main_v5, val_main_v4, val_main_v3, val_main_v2, val_main_cst_0, val_main_cst_1, grad]
  rfl

theorem second : val_main_v12 (F := Ideal) x v (ix2 r d) = Adam.second_at x v r d := by
  pointwise [val_main_v12, val_main_v11, val_main_v10, val_main_v9, val_main_v8, val_main_v7, val_main_cst_2, val_main_cst_3, grad]
  rfl

theorem change : val_main_v25 (F := Ideal) x w m v (ix2 r d) = Adam.change_at x w m v r d := by
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7,
    val_main_cst_8, first, second]
  rfl

section

variable {x x' : Adam.Slots 512} {w w' m m' v v' : Mlp.Arr 512 1024}

theorem grad_eq (hx : x' = x) : val_main_v1 (F := Ideal) x' = fun j : S512x1024.Idx => Adam.grad x (j 0) (j 1) := by
  subst hx
  exact funext fun j => (congrArg _ (eq_ix2 j)).trans (grad _ (j 0) (j 1))

theorem first_eq (hx : x' = x) (hm : m' = m) :
    val_main_v6 (F := Ideal) x' m' = fun j : S512x1024.Idx => Adam.first_at x m (j 0) (j 1) := by
  subst hx hm
  exact funext fun j => (congrArg _ (eq_ix2 j)).trans (first _ _ (j 0) (j 1))

theorem second_eq (hx : x' = x) (hv : v' = v) :
    val_main_v12 (F := Ideal) x' v' = fun j : S512x1024.Idx => Adam.second_at x v (j 0) (j 1) := by
  subst hx hv
  exact funext fun j => (congrArg _ (eq_ix2 j)).trans (second _ _ (j 0) (j 1))

theorem change_eq (hx : x' = x) (hw : w' = w) (hm : m' = m) (hv : v' = v) :
    val_main_v25 (F := Ideal) x' w' m' v' = fun j : S512x1024.Idx => Adam.change_at x w m v (j 0) (j 1) := by
  subst hx hw hm hv
  exact funext fun j => (congrArg _ (eq_ix2 j)).trans (change _ _ _ _ (j 0) (j 1))

end

end Cert.Reference12Ideal.Step

namespace Cert.Kernel12Ideal.Step

open Cert.Kernel12Ideal Cert.Kernel12Ideal.Gen Idealize.ShloMosaic Idealize.ShloMosaic.TcCoe Idealize.SL.Sem

section Pay

variable (x : Vec Ideal S8x256x1024 .bf16) (w m v : Vec Ideal S256x1024 .f32) (r : Fin 256) (d : Fin 1024)

theorem pay5_at : k0_pay5 x w m v (ix2 r d) = Adam.grad x r d := by
  pointwise [k0_pay5, k0_pay4]
  rw [Adam.grad, Fin.sum_univ_eight]

theorem out4 : out0_4 x w m v (ix2 r d) = Adam.grad x r d := by
  frame_out
  exact pay5_at x w m v r d

theorem out6 : out0_6 x w m v (ix2 r d) = Adam.first_at x m r d := by
  frame_out
  pointwise [k0_pay1, pay5_at]
  rfl

theorem out7 : out0_7 x w m v (ix2 r d) = Adam.second_at x v r d := by
  frame_out
  pointwise [k0_pay2, pay5_at]
  rfl

theorem out5 : out0_5 x w m v (ix2 r d) = Adam.change_at x w m v r d := by
  frame_out
  pointwise [k0_pay3, k0_pay1, k0_pay2, pay5_at]
  rfl

end Pay

theorem idx : ∀ t : Fin cfg0.N, t.val < 2 ∧ win0_0.index t = ![0, t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The row of the whole arrays a block's row is. -/
def row (n : ℕ) (hn : n < 2) (a : Fin 256) : Fin 512 := ⟨256 * n + a, by omega⟩

theorem blk0 (A : S8x512x1024.Idx → EReal) (t : Fin cfg0.N) (j : Fin 8) (a : Fin 256) (b : Fin 1024) :
    ((cfg0.win 0).blk t).view.read (Elt Ideal) A (ix3 j a b) = A (ix3 j (row t (idx t).1 a) b) := by
  blk_point [idx t, row]

theorem blk1 (A : S512x1024.Idx → EReal) (t : Fin cfg0.N) (a : Fin 256) (b : Fin 1024) :
    ((cfg0.win 1).blk t).view.read (Elt Ideal) A (ix2 a b) = A (ix2 (row t (idx t).1 a) b) := by
  blk_point [idx t, row]

theorem blk2 (A : S512x1024.Idx → EReal) (t : Fin cfg0.N) (a : Fin 256) (b : Fin 1024) :
    ((cfg0.win 2).blk t).view.read (Elt Ideal) A (ix2 a b) = A (ix2 (row t (idx t).1 a) b) := by
  blk_point [idx t, row]

theorem blk3 (A : S512x1024.Idx → EReal) (t : Fin cfg0.N) (a : Fin 256) (b : Fin 1024) :
    ((cfg0.win 3).blk t).view.read (Elt Ideal) A (ix2 a b) = A (ix2 (row t (idx t).1 a) b) := by
  blk_point [idx t, row]

variable (mem : (ℓ : Loc nD τ sig) → Buf (Elt Ideal) ℓ) (c : Dev nD)

abbrev x : Adam.Slots 512 := mem ((c : Thread nD τ).loc main_arg0)
abbrev w : Mlp.Arr 512 1024 := mem ((c : Thread nD τ).loc main_arg1)
abbrev m : Mlp.Arr 512 1024 := mem ((c : Thread nD τ).loc main_arg2)
abbrev v : Mlp.Arr 512 1024 := mem ((c : Thread nD τ).loc main_arg3)

theorem grad_at (t : Fin cfg0.N) (a : Fin 256) (d : Fin 1024) :
    Adam.grad (iblk mem c 0 t) a d = Adam.grad (x mem c) (row t (idx t).1 a) d := by
  rw [Adam.grad, Adam.grad]
  exact Finset.sum_congr rfl fun j _ => (blk0 (V mem c main_arg0) t j a d).trans (congrFun (V_main_arg0 mem c) _)

theorem w_at (t : Fin cfg0.N) (a : Fin 256) (d : Fin 1024) : iblk mem c 1 t (ix2 a d) = w mem c (ix2 (row t (idx t).1 a) d) :=
  (blk1 (V mem c main_arg1) t a d).trans (congrFun (V_main_arg1 mem c) _)

theorem m_at (t : Fin cfg0.N) (a : Fin 256) (d : Fin 1024) : iblk mem c 2 t (ix2 a d) = m mem c (ix2 (row t (idx t).1 a) d) :=
  (blk2 (V mem c main_arg2) t a d).trans (congrFun (V_main_arg2 mem c) _)

theorem v_at (t : Fin cfg0.N) (a : Fin 256) (d : Fin 1024) : iblk mem c 3 t (ix2 a d) = v mem c (ix2 (row t (idx t).1 a) d) :=
  (blk3 (V mem c main_arg3) t a d).trans (congrFun (V_main_arg3 mem c) _)

theorem final_grad : (dats mem 0 c).arrAt 4 cfg0.N = fun j : S512x1024.Idx => Adam.grad (x mem c) (j 0) (j 1) := by
  refine (dats mem 0 c).arrAt_eq_of_covers 4 _ (by decide +kernel) fun t _ y => ?_
  blk_simp
  rw [after0_4]
  obtain ⟨ρ, γ, rfl⟩ : ∃ (ρ : Fin 256) (γ : Fin 1024), y = ix2 ρ γ := ⟨y 0, y 1, by blk_ext []⟩
  have e0 : (((cfg0.win 4).blk t).view.emb (ix2 ρ γ) 0 : ℕ) = 256 * t.val + ρ := by
    blk_simp [idx t]
    omega
  have e1 : (((cfg0.win 4).blk t).view.emb (ix2 ρ γ) 1 : ℕ) = γ := by
    blk_simp [idx t]
  refine (out4 _ _ _ _ ρ γ).trans (Eq.trans ?_ (congrArg₂ (Adam.grad _)
    (Fin.ext e0 : _ = row t (idx t).1 ρ) (Fin.ext e1 : _ = γ)).symm)
  exact grad_at mem c t ρ γ

theorem final_change : (dats mem 0 c).arrAt 5 cfg0.N = fun j : S512x1024.Idx => Adam.change_at (x mem c) (w mem c) (m mem c) (v mem c) (j 0) (j 1) := by
  refine (dats mem 0 c).arrAt_eq_of_covers 5 _ (by decide +kernel) fun t _ y => ?_
  blk_simp
  rw [after0_5]
  obtain ⟨ρ, γ, rfl⟩ : ∃ (ρ : Fin 256) (γ : Fin 1024), y = ix2 ρ γ := ⟨y 0, y 1, by blk_ext []⟩
  have e0 : (((cfg0.win 5).blk t).view.emb (ix2 ρ γ) 0 : ℕ) = 256 * t.val + ρ := by
    blk_simp [idx t]
    omega
  have e1 : (((cfg0.win 5).blk t).view.emb (ix2 ρ γ) 1 : ℕ) = γ := by
    blk_simp [idx t]
  refine (out5 _ _ _ _ ρ γ).trans (Eq.trans ?_ (congrArg₂ (Adam.change_at _ _ _ _)
    (Fin.ext e0 : _ = row t (idx t).1 ρ) (Fin.ext e1 : _ = γ)).symm)
  rw [Adam.change_at, w_at, grad_at, m_at, v_at]
  rfl

theorem final_first : (dats mem 0 c).arrAt 6 cfg0.N = fun j : S512x1024.Idx => Adam.first_at (x mem c) (m mem c) (j 0) (j 1) := by
  refine (dats mem 0 c).arrAt_eq_of_covers 6 _ (by decide +kernel) fun t _ y => ?_
  blk_simp
  rw [after0_6]
  obtain ⟨ρ, γ, rfl⟩ : ∃ (ρ : Fin 256) (γ : Fin 1024), y = ix2 ρ γ := ⟨y 0, y 1, by blk_ext []⟩
  have e0 : (((cfg0.win 6).blk t).view.emb (ix2 ρ γ) 0 : ℕ) = 256 * t.val + ρ := by
    blk_simp [idx t]
    omega
  have e1 : (((cfg0.win 6).blk t).view.emb (ix2 ρ γ) 1 : ℕ) = γ := by
    blk_simp [idx t]
  refine (out6 _ _ _ _ ρ γ).trans (Eq.trans ?_ (congrArg₂ (Adam.first_at _ _)
    (Fin.ext e0 : _ = row t (idx t).1 ρ) (Fin.ext e1 : _ = γ)).symm)
  rw [Adam.first_at, grad_at, m_at]
  rfl

theorem final_second : (dats mem 0 c).arrAt 7 cfg0.N = fun j : S512x1024.Idx => Adam.second_at (x mem c) (v mem c) (j 0) (j 1) := by
  refine (dats mem 0 c).arrAt_eq_of_covers 7 _ (by decide +kernel) fun t _ y => ?_
  blk_simp
  rw [after0_7]
  obtain ⟨ρ, γ, rfl⟩ : ∃ (ρ : Fin 256) (γ : Fin 1024), y = ix2 ρ γ := ⟨y 0, y 1, by blk_ext []⟩
  have e0 : (((cfg0.win 7).blk t).view.emb (ix2 ρ γ) 0 : ℕ) = 256 * t.val + ρ := by
    blk_simp [idx t]
    omega
  have e1 : (((cfg0.win 7).blk t).view.emb (ix2 ρ γ) 1 : ℕ) = γ := by
    blk_simp [idx t]
  refine (out7 _ _ _ _ ρ γ).trans (Eq.trans ?_ (congrArg₂ (Adam.second_at _ _)
    (Fin.ext e0 : _ = row t (idx t).1 ρ) (Fin.ext e1 : _ = γ)).symm)
  rw [Adam.second_at, grad_at, v_at]
  rfl

end Cert.Kernel12Ideal.Step

end
-- ==== Proof.AdamStep.lean ====
/-
  The kernels of the optimiser's step on a weight whose gradient is already summed: their arrays are the change of the weight
  and the two new moments, entry by entry, and so are the reference's.
-/
module

public import proofs.«01_k».proof.Proof.Adam
public import proofs.«01_k».proof.Proof.Gen.Kernel14Ideal.Value
public import proofs.«01_k».proof.Proof.Gen.Kernel15Ideal.Value
public import proofs.«01_k».proof.Proof.Gen.Kernel16Ideal.Value
public import proofs.«01_k».proof.Proof.Gen.Reference14Ideal.Read
public import proofs.«01_k».proof.Proof.Gen.Reference15Ideal.Read
public import proofs.«01_k».proof.Proof.Gen.Reference16Ideal.Read

@[expose] public section

set_option maxRecDepth 16384

noncomputable section

namespace Adam

open Idealize.ShloMosaic
open Mlp (Arr)

variable {n k : ℕ} (w g m v : Arr n k)

/-- The two moments and the change, as arrays. -/
def firsts : Arr n k := fun j => first (g j) (m j)

def seconds : Arr n k := fun j => second (g j) (v j)

def changes : Arr n k := fun j => change (w j) (g j) (m j) (v j)

end Adam

namespace Cert.Reference14Ideal.Step

open Cert.Reference14Ideal Cert.Reference14Ideal.Gen Cert.Reference14Ideal.Read Idealize.ShloMosaic Idealize.ShloMosaic.TcCoe

variable {w w' g g' m m' v v' : Mlp.Arr 1024 512}

theorem first_eq (hg : g' = g) (hm : m' = m) : val_main_v4 (F := Ideal) g' m' = Adam.firsts g m := by
  subst hg hm
  funext j
  pointwise [val_main_v4, val_main_v3, val_main_v2, val_main_v1, val_main_v0, val_main_cst, val_main_cst_0]
  rfl

theorem second_eq (hg : g' = g) (hv : v' = v) : val_main_v10 (F := Ideal) g' v' = Adam.seconds g v := by
  subst hg hv
  funext j
  pointwise [val_main_v10, val_main_v9, val_main_v8, val_main_v7, val_main_v6, val_main_v5, val_main_cst_1, val_main_cst_2]
  rfl

theorem change_eq (hw : w' = w) (hg : g' = g) (hm : m' = m) (hv : v' = v) :
    val_main_v23 (F := Ideal) w' g' m' v' = Adam.changes w g m v := by
  subst hw
  funext j
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7, first_eq hg hm, second_eq hg hv]
  rfl

end Cert.Reference14Ideal.Step

namespace Cert.Kernel14Ideal.Step

open Cert.Kernel14Ideal Cert.Kernel14Ideal.Gen Idealize.ShloMosaic Idealize.ShloMosaic.TcCoe Idealize.SL.Sem

section Pay

variable (w g m v : Vec Ideal S256x512 .f32)

theorem out5 : out0_5 w g m v = Adam.firsts g m := by
  funext j
  frame_out
  rfl

theorem out6 : out0_6 w g m v = Adam.seconds g v := by
  funext j
  frame_out
  rfl

theorem out4 : out0_4 w g m v = Adam.changes w g m v := by
  funext j
  frame_out
  rfl

end Pay

variable (mem : (ℓ : Loc nD τ sig) → Buf (Elt Ideal) ℓ) (c : Dev nD)

abbrev w : Mlp.Arr 1024 512 := mem ((c : Thread nD τ).loc main_arg0)
abbrev g : Mlp.Arr 1024 512 := mem ((c : Thread nD τ).loc main_arg1)
abbrev m : Mlp.Arr 1024 512 := mem ((c : Thread nD τ).loc main_arg2)
abbrev v : Mlp.Arr 1024 512 := mem ((c : Thread nD τ).loc main_arg3)

theorem final_change : (dats mem 0 c).arrAt 4 cfg0.N = Adam.changes (w mem c) (g mem c) (m mem c) (v mem c) := by
  refine (dats mem 0 c).arrAt_eq_of_covers 4 _ (by decide +kernel) fun t _ y => ?_
  blk_simp
  rw [after0_4, out4]
  rfl

theorem final_first : (dats mem 0 c).arrAt 5 cfg0.N = Adam.firsts (g mem c) (m mem c) := by
  refine (dats mem 0 c).arrAt_eq_of_covers 5 _ (by decide +kernel) fun t _ y => ?_
  blk_simp
  rw [after0_5, out5]
  rfl

theorem final_second : (dats mem 0 c).arrAt 6 cfg0.N = Adam.seconds (g mem c) (v mem c) := by
  refine (dats mem 0 c).arrAt_eq_of_covers 6 _ (by decide +kernel) fun t _ y => ?_
  blk_simp
  rw [after0_6, out6]
  rfl

end Cert.Kernel14Ideal.Step

namespace Cert.Reference15Ideal.Step

open Cert.Reference15Ideal Cert.Reference15Ideal.Gen Cert.Reference15Ideal.Read Idealize.ShloMosaic Idealize.ShloMosaic.TcCoe

variable {w w' g g' m m' v v' : Mlp.Arr 1024 353}

theorem first_eq (hg : g' = g) (hm : m' = m) : val_main_v4 (F := Ideal) g' m' = Adam.firsts g m := by
  subst hg hm
  funext j
  pointwise [val_main_v4, val_main_v3, val_main_v2, val_main_v1, val_main_v0, val_main_cst, val_main_cst_0]
  rfl

theorem second_eq (hg : g' = g) (hv : v' = v) : val_main_v10 (F := Ideal) g' v' = Adam.seconds g v := by
  subst hg hv
  funext j
  pointwise [val_main_v10, val_main_v9, val_main_v8, val_main_v7, val_main_v6, val_main_v5, val_main_cst_1, val_main_cst_2]
  rfl

theorem change_eq (hw : w' = w) (hg : g' = g) (hm : m' = m) (hv : v' = v) :
    val_main_v23 (F := Ideal) w' g' m' v' = Adam.changes w g m v := by
  subst hw
  funext j
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7, first_eq hg hm, second_eq hg hv]
  rfl

end Cert.Reference15Ideal.Step

namespace Cert.Kernel15Ideal.Step

open Cert.Kernel15Ideal Cert.Kernel15Ideal.Gen Idealize.ShloMosaic Idealize.ShloMosaic.TcCoe Idealize.SL.Sem

section Pay

variable (w g m v : Vec Ideal S256x353 .f32)

theorem out5 : out0_5 w g m v = Adam.firsts g m := by
  funext j
  frame_out
  rfl

theorem out6 : out0_6 w g m v = Adam.seconds g v := by
  funext j
  frame_out
  rfl

theorem out4 : out0_4 w g m v = Adam.changes w g m v := by
  funext j
  frame_out
  rfl

end Pay

variable (mem : (ℓ : Loc nD τ sig) → Buf (Elt Ideal) ℓ) (c : Dev nD)

abbrev w : Mlp.Arr 1024 353 := mem ((c : Thread nD τ).loc main_arg0)
abbrev g : Mlp.Arr 1024 353 := mem ((c : Thread nD τ).loc main_arg1)
abbrev m : Mlp.Arr 1024 353 := mem ((c : Thread nD τ).loc main_arg2)
abbrev v : Mlp.Arr 1024 353 := mem ((c : Thread nD τ).loc main_arg3)

theorem final_change : (dats mem 0 c).arrAt 4 cfg0.N = Adam.changes (w mem c) (g mem c) (m mem c) (v mem c) := by
  refine (dats mem 0 c).arrAt_eq_of_covers 4 _ (by decide +kernel) fun t _ y => ?_
  blk_simp
  rw [after0_4, out4]
  rfl

theorem final_first : (dats mem 0 c).arrAt 5 cfg0.N = Adam.firsts (g mem c) (m mem c) := by
  refine (dats mem 0 c).arrAt_eq_of_covers 5 _ (by decide +kernel) fun t _ y => ?_
  blk_simp
  rw [after0_5, out5]
  rfl

theorem final_second : (dats mem 0 c).arrAt 6 cfg0.N = Adam.seconds (g mem c) (v mem c) := by
  refine (dats mem 0 c).arrAt_eq_of_covers 6 _ (by decide +kernel) fun t _ y => ?_
  blk_simp
  rw [after0_6, out6]
  rfl

end Cert.Kernel15Ideal.Step

namespace Cert.Reference16Ideal.Step

open Cert.Reference16Ideal Cert.Reference16Ideal.Gen Cert.Reference16Ideal.Read Idealize.ShloMosaic Idealize.ShloMosaic.TcCoe

variable {w w' g g' m m' v v' : Mlp.Arr 256 128}

theorem first_eq (hg : g' = g) (hm : m' = m) : val_main_v4 (F := Ideal) g' m' = Adam.firsts g m := by
  subst hg hm
  funext j
  pointwise [val_main_v4, val_main_v3, val_main_v2, val_main_v1, val_main_v0, val_main_cst, val_main_cst_0]
  rfl

theorem second_eq (hg : g' = g) (hv : v' = v) : val_main_v10 (F := Ideal) g' v' = Adam.seconds g v := by
  subst hg hv
  funext j
  pointwise [val_main_v10, val_main_v9, val_main_v8, val_main_v7, val_main_v6, val_main_v5, val_main_cst_1, val_main_cst_2]
  rfl

theorem change_eq (hw : w' = w) (hg : g' = g) (hm : m' = m) (hv : v' = v) :
    val_main_v23 (F := Ideal) w' g' m' v' = Adam.changes w g m v := by
  subst hw
  funext j
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7, first_eq hg hm, second_eq hg hv]
  rfl

end Cert.Reference16Ideal.Step

namespace Cert.Kernel16Ideal.Step

open Cert.Kernel16Ideal Cert.Kernel16Ideal.Gen Idealize.ShloMosaic Idealize.ShloMosaic.TcCoe Idealize.SL.Sem

section Pay

variable (w g m v : Vec Ideal S256x128 .f32)

theorem out5 : out0_5 w g m v = Adam.firsts g m := by
  funext j
  frame_out
  rfl

theorem out6 : out0_6 w g m v = Adam.seconds g v := by
  funext j
  frame_out
  rfl

theorem out4 : out0_4 w g m v = Adam.changes w g m v := by
  funext j
  frame_out
  rfl

end Pay

variable (mem : (ℓ : Loc nD τ sig) → Buf (Elt Ideal) ℓ) (c : Dev nD)

abbrev w : Mlp.Arr 256 128 := mem ((c : Thread nD τ).loc main_arg0)
abbrev g : Mlp.Arr 256 128 := mem ((c : Thread nD τ).loc main_arg1)
abbrev m : Mlp.Arr 256 128 := mem ((c : Thread nD τ).loc main_arg2)
abbrev v : Mlp.Arr 256 128 := mem ((c : Thread nD τ).loc main_arg3)

theorem final_change : (dats mem 0 c).arrAt 4 cfg0.N = Adam.changes (w mem c) (g mem c) (m mem c) (v mem c) := by
  refine (dats mem 0 c).arrAt_eq_of_covers 4 _ (by decide +kernel) fun t _ y => ?_
  blk_simp
  rw [after0_4, out4]
  rfl

theorem final_first : (dats mem 0 c).arrAt 5 cfg0.N = Adam.firsts (g mem c) (m mem c) := by
  refine (dats mem 0 c).arrAt_eq_of_covers 5 _ (by decide +kernel) fun t _ y => ?_
  blk_simp
  rw [after0_5, out5]
  rfl

theorem final_second : (dats mem 0 c).arrAt 6 cfg0.N = Adam.seconds (g mem c) (v mem c) := by
  refine (dats mem 0 c).arrAt_eq_of_covers 6 _ (by decide +kernel) fun t _ y => ?_
  blk_simp
  rw [after0_6, out6]
  rfl

end Cert.Kernel16Ideal.Step

end
-- ==== Proof.SlotSums.lean ====
/-
  The kernels of the sum of the eight slots of a gradient: their arrays are the sums, and so are the reference's.
-/
module

public import proofs.«01_k».proof.Proof.Adam
public import proofs.«01_k».proof.Proof.Gen.Kernel18Ideal.Value
public import proofs.«01_k».proof.Proof.Gen.Kernel19Ideal.Value
public import proofs.«01_k».proof.Proof.Gen.Kernel20Ideal.Value
public import proofs.«01_k».proof.Proof.Gen.Reference18Ideal.Read
public import proofs.«01_k».proof.Proof.Gen.Reference19Ideal.Read
public import proofs.«01_k».proof.Proof.Gen.Reference20Ideal.Read

@[expose] public section

set_option maxRecDepth 16384

noncomputable section

namespace Adam

open Idealize.ShloMosaic
open Mlp (Arr)

/-- The sum of the slots, as an array. -/
def grads {n : ℕ} (x : Slots n) : Arr n 1024 := fun j => grad x (j 0) (j 1)

/-- The sum read from two arrays of slots at rows where they agree. -/
theorem grad_congr {n n' : ℕ} (x : Slots n) (x' : Slots n') (r : Fin n) (r' : Fin n') (d d' : Fin 1024)
    (h : ∀ j, x (ix3 j r d) = x' (ix3 j r' d')) : grad x r d = grad x' r' d' :=
  Finset.sum_congr rfl fun j _ => h j

end Adam

namespace Cert.Reference18Ideal.Slots

open Cert.Reference18Ideal Cert.Reference18Ideal.Gen Cert.Reference18Ideal.Read Idealize.ShloMosaic Idealize.ShloMosaic.TcCoe

theorem sum_eq {x x' : Adam.Slots 512} (hx : x' = x) : val_main_v1 (F := Ideal) x' = Adam.grads x := by
  subst hx
  funext j
  obtain ⟨r, d, rfl⟩ : ∃ (r : Fin 512) (d : Fin 1024), j = ix2 r d := ⟨j 0, j 1, eq_ix2 j⟩
  pointwise [val_main_v1, val_main_v0, val_main_cst]
  rfl

end Cert.Reference18Ideal.Slots

namespace Cert.Kernel18Ideal.Slots

open Cert.Kernel18Ideal Cert.Kernel18Ideal.Gen Idealize.ShloMosaic Idealize.ShloMosaic.TcCoe Idealize.SL.Sem

theorem out (x : Vec Ideal S8x512x1024 .bf16) (r : Fin 512) (d : Fin 1024) : out0_1 x (ix2 r d) = Adam.grad x r d := by
  frame_out
  pointwise [k0_pay1]
  rw [Adam.grad, Fin.sum_univ_eight]

theorem idx : ∀ t : Fin cfg0.N, win0_0.index t = ![0, 0, 0] ∧ win0_1.index t = ![0, 0] := (by decide +kernel : ∀ t : Fin grid0.N, _)

theorem blk (A : S8x512x1024.Idx → EReal) (t : Fin cfg0.N) (j : Fin 8) (a : Fin 512) (b : Fin 1024) :
    ((cfg0.win 0).blk t).view.read (Elt Ideal) A (ix3 j a b) = A (ix3 j a b) := by
  blk_point [idx t]

theorem final (mem : (ℓ : Loc nD τ sig) → Buf (Elt Ideal) ℓ) (c : Dev nD) :
    (dats mem 0 c).arrAt 1 cfg0.N = Adam.grads (n := 512) (mem ((c : Thread nD τ).loc main_arg0)) := by
  refine (dats mem 0 c).arrAt_eq_of_covers 1 _ (by decide +kernel) fun t _ y => ?_
  blk_simp
  rw [after0_1]
  obtain ⟨ρ, γ, rfl⟩ : ∃ (ρ : Fin 512) (γ : Fin 1024), y = ix2 ρ γ := ⟨y 0, y 1, by blk_ext []⟩
  have e0 : (((cfg0.win 1).blk t).view.emb (ix2 ρ γ) 0 : ℕ) = ρ := by
    blk_simp [idx t]
  have e1 : (((cfg0.win 1).blk t).view.emb (ix2 ρ γ) 1 : ℕ) = γ := by
    blk_simp [idx t]
  refine (out _ ρ γ).trans (Eq.trans ?_ (congrArg₂ (Adam.grad _) (Fin.ext e0 : _ = ρ) (Fin.ext e1 : _ = γ)).symm)
  exact Adam.grad_congr _ _ _ _ _ _ fun j => (blk (V mem c main_arg0) t j ρ γ).trans (congrFun (V_main_arg0 mem c) _)

end Cert.Kernel18Ideal.Slots

namespace Cert.Reference19Ideal.Slots

open Cert.Reference19Ideal Cert.Reference19Ideal.Gen Cert.Reference19Ideal.Read Idealize.ShloMosaic Idealize.ShloMosaic.TcCoe

theorem sum_eq {x x' : Adam.Slots 384} (hx : x' = x) : val_main_v1 (F := Ideal) x' = Adam.grads x := by
  subst hx
  funext j
  obtain ⟨r, d, rfl⟩ : ∃ (r : Fin 384) (d : Fin 1024), j = ix2 r d := ⟨j 0, j 1, eq_ix2 j⟩
  pointwise [val_main_v1, val_main_v0, val_main_cst]
  rfl

end Cert.Reference19Ideal.Slots

namespace Cert.Kernel19Ideal.Slots

open Cert.Kernel19Ideal Cert.Kernel19Ideal.Gen Idealize.ShloMosaic Idealize.ShloMosaic.TcCoe Idealize.SL.Sem

theorem out (x : Vec Ideal S8x384x1024 .bf16) (r : Fin 384) (d : Fin 1024) : out0_1 x (ix2 r d) = Adam.grad x r d := by
  frame_out
  pointwise [k0_pay1]
  rw [Adam.grad, Fin.sum_univ_eight]

theorem idx : ∀ t : Fin cfg0.N, win0_0.index t = ![0, 0, 0] ∧ win0_1.index t = ![0, 0] := (by decide +kernel : ∀ t : Fin grid0.N, _)

theorem blk (A : S8x384x1024.Idx → EReal) (t : Fin cfg0.N) (j : Fin 8) (a : Fin 384) (b : Fin 1024) :
    ((cfg0.win 0).blk t).view.read (Elt Ideal) A (ix3 j a b) = A (ix3 j a b) := by
  blk_point [idx t]

theorem final (mem : (ℓ : Loc nD τ sig) → Buf (Elt Ideal) ℓ) (c : Dev nD) :
    (dats mem 0 c).arrAt 1 cfg0.N = Adam.grads (n := 384) (mem ((c : Thread nD τ).loc main_arg0)) := by
  refine (dats mem 0 c).arrAt_eq_of_covers 1 _ (by decide +kernel) fun t _ y => ?_
  blk_simp
  rw [after0_1]
  obtain ⟨ρ, γ, rfl⟩ : ∃ (ρ : Fin 384) (γ : Fin 1024), y = ix2 ρ γ := ⟨y 0, y 1, by blk_ext []⟩
  have e0 : (((cfg0.win 1).blk t).view.emb (ix2 ρ γ) 0 : ℕ) = ρ := by
    blk_simp [idx t]
  have e1 : (((cfg0.win 1).blk t).view.emb (ix2 ρ γ) 1 : ℕ) = γ := by
    blk_simp [idx t]
  refine (out _ ρ γ).trans (Eq.trans ?_ (congrArg₂ (Adam.grad _) (Fin.ext e0 : _ = ρ) (Fin.ext e1 : _ = γ)).symm)
  exact Adam.grad_congr _ _ _ _ _ _ fun j => (blk (V mem c main_arg0) t j ρ γ).trans (congrFun (V_main_arg0 mem c) _)

end Cert.Kernel19Ideal.Slots

namespace Cert.Reference20Ideal.Slots

open Cert.Reference20Ideal Cert.Reference20Ideal.Gen Cert.Reference20Ideal.Read Idealize.ShloMosaic Idealize.ShloMosaic.TcCoe

theorem sum_eq {x x' : Adam.Slots 32} (hx : x' = x) : val_main_v1 (F := Ideal) x' = Adam.grads x := by
  subst hx
  funext j
  obtain ⟨r, d, rfl⟩ : ∃ (r : Fin 32) (d : Fin 1024), j = ix2 r d := ⟨j 0, j 1, eq_ix2 j⟩
  pointwise [val_main_v1, val_main_v0, val_main_cst]
  rfl

end Cert.Reference20Ideal.Slots

namespace Cert.Kernel20Ideal.Slots

open Cert.Kernel20Ideal Cert.Kernel20Ideal.Gen Idealize.ShloMosaic Idealize.ShloMosaic.TcCoe Idealize.SL.Sem

theorem out (x : Vec Ideal S8x32x1024 .bf16) (r : Fin 32) (d : Fin 1024) : out0_1 x (ix2 r d) = Adam.grad x r d := by
  frame_out
  pointwise [k0_pay1]
  rw [Adam.grad, Fin.sum_univ_eight]

theorem idx : ∀ t : Fin cfg0.N, win0_0.index t = ![0, 0, 0] ∧ win0_1.index t = ![0, 0] := (by decide +kernel : ∀ t : Fin grid0.N, _)

theorem blk (A : S8x32x1024.Idx → EReal) (t : Fin cfg0.N) (j : Fin 8) (a : Fin 32) (b : Fin 1024) :
    ((cfg0.win 0).blk t).view.read (Elt Ideal) A (ix3 j a b) = A (ix3 j a b) := by
  blk_point [idx t]

theorem final (mem : (ℓ : Loc nD τ sig) → Buf (Elt Ideal) ℓ) (c : Dev nD) :
    (dats mem 0 c).arrAt 1 cfg0.N = Adam.grads (n := 32) (mem ((c : Thread nD τ).loc main_arg0)) := by
  refine (dats mem 0 c).arrAt_eq_of_covers 1 _ (by decide +kernel) fun t _ y => ?_
  blk_simp
  rw [after0_1]
  obtain ⟨ρ, γ, rfl⟩ : ∃ (ρ : Fin 32) (γ : Fin 1024), y = ix2 ρ γ := ⟨y 0, y 1, by blk_ext []⟩
  have e0 : (((cfg0.win 1).blk t).view.emb (ix2 ρ γ) 0 : ℕ) = ρ := by
    blk_simp [idx t]
  have e1 : (((cfg0.win 1).blk t).view.emb (ix2 ρ γ) 1 : ℕ) = γ := by
    blk_simp [idx t]
  refine (out _ ρ γ).trans (Eq.trans ?_ (congrArg₂ (Adam.grad _) (Fin.ext e0 : _ = ρ) (Fin.ext e1 : _ = γ)).symm)
  exact Adam.grad_congr _ _ _ _ _ _ fun j => (blk (V mem c main_arg0) t j ρ γ).trans (congrFun (V_main_arg0 mem c) _)

end Cert.Kernel20Ideal.Slots

end
-- ==== Proof.MixOut.lean ====
/-
  The kernel of the output projection and of the norm after it: its three arrays are the product, the sum of the residual and
  the normalized product, and the factor of the next norm, and so are the reference's.
-/
module

public import proofs.«01_k».proof.Proof.InRms
public import proofs.«01_k».proof.Proof.Gen.Kernel13Ideal.Value
public import proofs.«01_k».proof.Proof.Gen.Reference13Ideal.Read
public import Idealize.ShloMosaic.Lib.Pointwise
public import Idealize.ShloMosaic.Lib.Claim

@[expose] public section

set_option maxRecDepth 16384

noncomputable section

namespace Mix

open Idealize.ShloMosaic
open Mlp (Arr)

/-- The factor that makes a row's mean square one. -/
def rms (r : Fin 1024 → EReal) : EReal := Ideal.rsqrt (Ideal.div (∑ d : Fin 1024, r d * r d) InProj.width + InProj.eps)

/-- A row with the normalized row `r` added to it. -/
def add (r x g : Fin 1024 → EReal) (d : Fin 1024) : EReal := x d + r d * rms r * g d

variable (c x : Arr 4096 1024) (g : Arr 1 1024) (w : Arr 1024 1024) (t : Fin 4096)

/-- A row of the product, of the sum, and the factor of the sum's row. -/
def prod (d : Fin 1024) : EReal := ∑ k : Fin 1024, c (ix2 t k) * w (ix2 k d)

def sum (d : Fin 1024) : EReal := add (prod c w t) (fun d => x (ix2 t d)) (fun d => g (ix2 0 d)) d

def factor (_ : Fin 1) : EReal := rms (sum c x g w t)

end Mix

namespace Cert.Reference13Ideal.Mix

open Cert.Reference13Ideal Cert.Reference13Ideal.Gen Cert.Reference13Ideal.Read Idealize.ShloMosaic Idealize.ShloMosaic.TcCoe

variable (c x : Mlp.Arr 4096 1024) (g : Mlp.Arr 1 1024) (w : Mlp.Arr 1024 1024) (t : Fin 4096) (d : Fin 1024)

theorem v0_at : val_main_v0 (F := Ideal) c w (ix2 t d) = Mix.prod c w t d := by
  pointwise [val_main_v0]
  rfl

theorem v8_at : val_main_v8 (F := Ideal) c w (ix2 t 0) = Mix.rms (Mix.prod c w t) := by
  pointwise [val_main_v8, val_main_v7, val_main_v6, val_main_v5, val_main_v4, val_main_v3, val_main_v2, val_main_v1, val_main_cst,
    val_main_cst_0, val_main_cst_1, v0_at]
  rfl

theorem v13_at : val_main_v13 (F := Ideal) c x g w (ix2 t d) = Mix.sum c x g w t d := by
  pointwise [val_main_v13, val_main_v12, val_main_v11, val_main_v10, val_main_v9, v0_at, v8_at]
  rfl

theorem v21_at (a : Fin 1) : val_main_v21 (F := Ideal) c x g w (ix2 t a) = Mix.factor c x g w t a := by
  obtain rfl := Fin.eq_zero a
  pointwise [val_main_v21, val_main_v20, val_main_v19, val_main_v18, val_main_v17, val_main_v16, val_main_v15, val_main_v14,
    val_main_cst_2, val_main_cst_3, val_main_cst_4, v13_at]
  rfl

section

variable {c c' x x' : Mlp.Arr 4096 1024} {g g' : Mlp.Arr 1 1024} {w w' : Mlp.Arr 1024 1024}

theorem prod_eq (hc : c' = c) (hw : w' = w) :
    val_main_v0 (F := Ideal) c' w' = fun j : S4096x1024.Idx => Mix.prod c w (j 0) (j 1) := by
  subst hc hw
  exact funext fun j => (congrArg _ (eq_ix2 j)).trans (v0_at _ _ (j 0) (j 1))

theorem sum_eq (hc : c' = c) (hx : x' = x) (hg : g' = g) (hw : w' = w) :
    val_main_v13 (F := Ideal) c' x' g' w' = fun j : S4096x1024.Idx => Mix.sum c x g w (j 0) (j 1) := by
  subst hc hx hg hw
  exact funext fun j => (congrArg _ (eq_ix2 j)).trans (v13_at _ _ _ _ (j 0) (j 1))

theorem factor_eq (hc : c' = c) (hx : x' = x) (hg : g' = g) (hw : w' = w) :
    val_main_v21 (F := Ideal) c' x' g' w' = fun j : S4096x1.Idx => Mix.factor c x g w (j 0) (j 1) := by
  subst hc hx hg hw
  exact funext fun j => (congrArg _ (eq_ix2 j)).trans (v21_at _ _ _ _ (j 0) (j 1))

end

end Cert.Reference13Ideal.Mix

namespace Cert.Kernel13Ideal.Mix

open Cert.Kernel13Ideal Cert.Kernel13Ideal.Gen Idealize.ShloMosaic Idealize.ShloMosaic.TcCoe Idealize.SL.Sem

section Pay

variable (v0 : Vec Ideal S512x1024 .bf16) (v2 : Vec Ideal S1024x1024 .bf16) (v5 : Vec Ideal S512x1024 .f32)
  (v6 : Vec Ideal S1x1024 .f32) (b : Fin 512) (d : Fin 1024)

theorem pay1_at : k0_pay1 v0 v2 (ix2 b d) = ∑ k : Fin 1024, v0 (ix2 b k) * v2 (ix2 k d) := by
  pointwise [k0_pay1]

theorem pay2_at : k0_pay2 v0 v2 v5 v6 (ix2 b d)
    = Mix.add (fun d => k0_pay1 v0 v2 (ix2 b d)) (fun d => v5 (ix2 b d)) (fun d => v6 (ix2 0 d)) d := by
  pointwise [k0_pay2]
  rfl

theorem pay3_at : k0_pay3 v0 v2 v5 v6 (ix2 b 0) = Mix.rms fun d => k0_pay2 v0 v2 v5 v6 (ix2 b d) := by
  pointwise [k0_pay3]
  rfl

end Pay

theorem idx : ∀ t : Fin cfg0.N, t.val < 8 ∧ win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] :=
  (by decide +kernel : ∀ t : Fin grid0.N, _)

/-- The row of the whole arrays a block's row is. -/
def row (n : ℕ) (hn : n < 8) (a : Fin 512) : Fin 4096 := ⟨512 * n + a, by omega⟩

theorem blk0 (A : S4096x1024.Idx → EReal) (t : Fin cfg0.N) (a : Fin 512) (b : Fin 1024) :
    ((cfg0.win 0).blk t).view.read (Elt Ideal) A (ix2 a b) = A (ix2 (row t (idx t).1 a) b) := by
  blk_point [idx t, row]

theorem blk1 (A : S1024x1024.Idx → EReal) (t : Fin cfg0.N) (a : Fin 1024) (b : Fin 1024) :
    ((cfg0.win 1).blk t).view.read (Elt Ideal) A (ix2 a b) = A (ix2 a b) := by
  blk_point [idx t]

theorem blk2 (A : S4096x1024.Idx → EReal) (t : Fin cfg0.N) (a : Fin 512) (b : Fin 1024) :
    ((cfg0.win 2).blk t).view.read (Elt Ideal) A (ix2 a b) = A (ix2 (row t (idx t).1 a) b) := by
  blk_point [idx t, row]

theorem blk3 (A : S1x1024.Idx → EReal) (t : Fin cfg0.N) (a : Fin 1) (b : Fin 1024) :
    ((cfg0.win 3).blk t).view.read (Elt Ideal) A (ix2 a b) = A (ix2 a b) := by
  blk_point [idx t]

variable (m : (ℓ : Loc nD τ sig) → Buf (Elt Ideal) ℓ) (c : Dev nD)

abbrev cat : Mlp.Arr 4096 1024 := m ((c : Thread nD τ).loc main_arg0)
abbrev x : Mlp.Arr 4096 1024 := m ((c : Thread nD τ).loc main_arg1)
abbrev g : Mlp.Arr 1 1024 := m ((c : Thread nD τ).loc main_arg2)
abbrev w : Mlp.Arr 1024 1024 := m ((c : Thread nD τ).loc main_arg3)

theorem cat_at : V m c main_v0 = cat m c := by
  unfold V
  simp only [hostOps0]
  after_results_simp
  all_goals rfl

theorem w_at : V m c main_v1 = w m c := by
  unfold V
  simp only [hostOps0]
  after_results_simp
  all_goals rfl

variable (t : Fin cfg0.N) (a : Fin 512)

theorem prod_at (d : Fin 1024) :
    k0_pay1 (iblk m c 0 t) (iblk m c 1 t) (ix2 a d) = Mix.prod (cat m c) (w m c) (row t (idx t).1 a) d := by
  rw [pay1_at, Mix.prod]
  refine Finset.sum_congr rfl fun k _ => ?_
  have h0 : iblk m c 0 t (ix2 a k) = _ := (blk0 (V m c main_v0) t a k).trans (congrFun (cat_at m c) _)
  have h1 : iblk m c 1 t (ix2 k d) = _ := (blk1 (V m c main_v1) t k d).trans (congrFun (w_at m c) _)
  rw [h0, h1]

theorem x_at (d : Fin 1024) : iblk m c 2 t (ix2 a d) = x m c (ix2 (row t (idx t).1 a) d) :=
  (blk2 (V m c main_arg1) t a d).trans (congrFun (V_main_arg1 m c) _)

theorem g_at (d : Fin 1024) : iblk m c 3 t (ix2 0 d) = g m c (ix2 0 d) :=
  (blk3 (V m c main_arg2) t 0 d).trans (congrFun (V_main_arg2 m c) _)

theorem sum_at (d : Fin 1024) : k0_pay2 (iblk m c 0 t) (iblk m c 1 t) (iblk m c 2 t) (iblk m c 3 t) (ix2 a d)
    = Mix.sum (cat m c) (x m c) (g m c) (w m c) (row t (idx t).1 a) d := by
  rw [pay2_at, Mix.sum, funext (prod_at m c t a), funext (x_at m c t a), funext (g_at m c t)]

theorem factor_at (b : Fin 1) : k0_pay3 (iblk m c 0 t) (iblk m c 1 t) (iblk m c 2 t) (iblk m c 3 t) (ix2 a b)
    = Mix.factor (cat m c) (x m c) (g m c) (w m c) (row t (idx t).1 a) b := by
  obtain rfl := Fin.eq_zero b
  rw [pay3_at, Mix.factor, funext (sum_at m c t a)]

theorem out4 : out0_4 (iblk m c 0 t) (iblk m c 1 t) (iblk m c 2 t) (iblk m c 3 t) = k0_pay1 (iblk m c 0 t) (iblk m c 1 t) := by
  frame_out

theorem out5 : out0_5 (iblk m c 0 t) (iblk m c 1 t) (iblk m c 2 t) (iblk m c 3 t)
    = k0_pay2 (iblk m c 0 t) (iblk m c 1 t) (iblk m c 2 t) (iblk m c 3 t) := by
  frame_out

theorem out6 : out0_6 (iblk m c 0 t) (iblk m c 1 t) (iblk m c 2 t) (iblk m c 3 t)
    = k0_pay3 (iblk m c 0 t) (iblk m c 1 t) (iblk m c 2 t) (iblk m c 3 t) := by
  frame_out

theorem final_prod : (dats m 0 c).arrAt 4 cfg0.N = fun j : S4096x1024.Idx => Mix.prod (cat m c) (w m c) (j 0) (j 1) := by
  refine (dats m 0 c).arrAt_eq_of_covers 4 _ (by decide +kernel) fun t _ y => ?_
  blk_simp
  rw [after0_4, out4]
  obtain ⟨ρ, γ, rfl⟩ : ∃ (ρ : Fin 512) (γ : Fin 1024), y = ix2 ρ γ := ⟨y 0, y 1, by blk_ext []⟩
  have e0 : (((cfg0.win 4).blk t).view.emb (ix2 ρ γ) 0 : ℕ) = 512 * t.val + ρ := by
    blk_simp [idx t]
    omega
  have e1 : (((cfg0.win 4).blk t).view.emb (ix2 ρ γ) 1 : ℕ) = γ := by
    blk_simp [idx t]
  exact (prod_at m c t ρ γ).trans (congrArg₂ (Mix.prod _ _) (Fin.ext e0 : _ = row t (idx t).1 ρ) (Fin.ext e1 : _ = γ)).symm

theorem final_sum : (dats m 0 c).arrAt 5 cfg0.N
    = fun j : S4096x1024.Idx => Mix.sum (cat m c) (x m c) (g m c) (w m c) (j 0) (j 1) := by
  refine (dats m 0 c).arrAt_eq_of_covers 5 _ (by decide +kernel) fun t _ y => ?_
  blk_simp
  rw [after0_5, out5]
  obtain ⟨ρ, γ, rfl⟩ : ∃ (ρ : Fin 512) (γ : Fin 1024), y = ix2 ρ γ := ⟨y 0, y 1, by blk_ext []⟩
  have e0 : (((cfg0.win 5).blk t).view.emb (ix2 ρ γ) 0 : ℕ) = 512 * t.val + ρ := by
    blk_simp [idx t]
    omega
  have e1 : (((cfg0.win 5).blk t).view.emb (ix2 ρ γ) 1 : ℕ) = γ := by
    blk_simp [idx t]
  exact (sum_at m c t ρ γ).trans (congrArg₂ (Mix.sum _ _ _ _) (Fin.ext e0 : _ = row t (idx t).1 ρ) (Fin.ext e1 : _ = γ)).symm

theorem final_factor : (dats m 0 c).arrAt 6 cfg0.N
    = fun j : S4096x1.Idx => Mix.factor (cat m c) (x m c) (g m c) (w m c) (j 0) (j 1) := by
  refine (dats m 0 c).arrAt_eq_of_covers 6 _ (by decide +kernel) fun t _ y => ?_
  blk_simp
  rw [after0_6, out6]
  obtain ⟨ρ, γ, rfl⟩ : ∃ (ρ : Fin 512) (γ : Fin 1), y = ix2 ρ γ := ⟨y 0, y 1, by blk_ext []⟩
  have e0 : (((cfg0.win 6).blk t).view.emb (ix2 ρ γ) 0 : ℕ) = 512 * t.val + ρ := by
    blk_simp [idx t]
    omega
  exact (factor_at m c t ρ γ).trans (congrArg₂ (Mix.factor _ _ _ _) (Fin.ext e0 : _ = row t (idx t).1 ρ)
    (Subsingleton.elim _ γ)).symm

end Cert.Kernel13Ideal.Mix

end
-- ==== Proof.PleWeight.lean ====
/-
  The kernel for the gradient of the per-layer embedding's matrix: its array is that gradient transposed, and so is the
  reference's.
-/
module

public import proofs.«01_k».proof.Proof.MlpMath
public import proofs.«01_k».proof.Proof.Gen.Kernel17Ideal.Value
public import proofs.«01_k».proof.Proof.Gen.Reference17Ideal.Read
public import Idealize.ShloMosaic.Lib.Pointwise
public import Idealize.ShloMosaic.Lib.Claim

@[expose] public section

set_option maxRecDepth 16384

noncomputable section

/-- The transposed gradient of the weight of `p · w`. -/
def Mlp.embed (p : Mlp.Arr 4096 256) (ct : Mlp.Arr 4096 1024) (d : Fin 1024) (f : Fin 256) : EReal :=
  ∑ t : Fin 4096, ct (Idealize.ShloMosaic.ix2 t d) * p (Idealize.ShloMosaic.ix2 t f)

namespace Cert.Reference17Ideal.Rows

open Cert.Reference17Ideal Cert.Reference17Ideal.Gen Cert.Reference17Ideal.Read Idealize.ShloMosaic Idealize.ShloMosaic.TcCoe

theorem value (p : Mlp.Arr 4096 256) (ct : Mlp.Arr 4096 1024) (d : Fin 1024) (f : Fin 256) :
    val_main_v4 (F := Ideal) p ct (ix2 d f) = Mlp.embed p ct d f := by
  pointwise [val_main_v4, val_main_v3, val_main_v2, val_main_v1]
  rfl

theorem value_eq {p p' : Mlp.Arr 4096 256} {ct ct' : Mlp.Arr 4096 1024} (hp : p' = p) (hc : ct' = ct) :
    val_main_v4 (F := Ideal) p' ct' = fun j : S1024x256.Idx => Mlp.embed p ct (j 0) (j 1) := by
  subst hp hc
  exact funext fun j => (congrArg _ (eq_ix2 j)).trans (value _ _ (j 0) (j 1))

end Cert.Reference17Ideal.Rows

namespace Cert.Kernel17Ideal.Rows

open Cert.Kernel17Ideal Cert.Kernel17Ideal.Gen Idealize.ShloMosaic Idealize.ShloMosaic.TcCoe Idealize.SL.Sem

variable (m : (ℓ : Loc nD τ sig) → Buf (Elt Ideal) ℓ) (c : Dev nD)

theorem ct_at : V m c main_v0 = m ((c : Thread nD τ).loc main_arg2) := by
  unfold V
  simp only [hostOps0]
  after_results_simp
  all_goals rfl

theorem p_at : V m c main_v1 = m ((c : Thread nD τ).loc main_arg0) := by
  unfold V
  simp only [hostOps0]
  after_results_simp
  all_goals rfl

theorem pay (x : Vec Ideal S4096x512 .bf16) (y : Vec Ideal S4096x256 .bf16) (a : Fin 512) (b : Fin 256) :
    out0_2 x y (ix2 a b) = ∑ t : Fin 4096, x (ix2 t a) * y (ix2 t b) := by
  frame_out
  pointwise [k0_pay1]

theorem idx : ∀ t : Fin cfg0.N, t.val < 2 ∧ win0_0.index t = ![0, t.val] ∧ win0_1.index t = ![0, 0] ∧ win0_2.index t = ![t.val, 0] :=
  (by decide +kernel : ∀ t : Fin grid0.N, _)

theorem blk0 (A : S4096x1024.Idx → EReal) (t : Fin cfg0.N) (a : Fin 4096) (b : Fin 512) :
    ((cfg0.win 0).blk t).view.read (Elt Ideal) A (ix2 a b) = A (ix2 a ⟨512 * t.val + b, by have := (idx t).1; omega⟩) := by
  blk_point [idx t]

theorem blk1 (A : S4096x256.Idx → EReal) (t : Fin cfg0.N) (a : Fin 4096) (b : Fin 256) :
    ((cfg0.win 1).blk t).view.read (Elt Ideal) A (ix2 a b) = A (ix2 a b) := by
  blk_point [idx t]

theorem final : (dats m 0 c).arrAt 2 cfg0.N = fun j : S1024x256.Idx => Mlp.embed (m ((c : Thread nD τ).loc main_arg0))
    (m ((c : Thread nD τ).loc main_arg2)) (j 0) (j 1) := by
  refine (dats m 0 c).arrAt_eq_of_covers 2 _ (by decide +kernel) fun t _ y => ?_
  blk_simp
  rw [after0_2]
  obtain ⟨ρ, γ, rfl⟩ : ∃ (ρ : Fin 512) (γ : Fin 256), y = ix2 ρ γ := ⟨y 0, y 1, by blk_ext []⟩
  have ht := (idx t).1
  have e0 : (((cfg0.win 2).blk t).view.emb (ix2 ρ γ) 0 : ℕ) = 512 * t.val + ρ := by
    blk_simp [idx t]
    omega
  have e1 : (((cfg0.win 2).blk t).view.emb (ix2 ρ γ) 1 : ℕ) = γ := by
    blk_simp [idx t]
  refine (pay _ _ ρ γ).trans (Eq.trans ?_ (congrArg₂ (Mlp.embed _ _)
    (Fin.ext e0 : _ = (⟨512 * t.val + ρ, by omega⟩ : Fin 1024)) (Fin.ext e1 : _ = γ)).symm)
  simp only [Mlp.embed]
  refine Finset.sum_congr rfl fun s _ => ?_
  have h0 : iblk m c 0 t (ix2 s ρ) = _ := (blk0 (V m c main_v0) t s ρ).trans (congrFun (ct_at m c) _)
  have h1 : iblk m c 1 t (ix2 s γ) = _ := (blk1 (V m c main_v1) t s γ).trans (congrFun (p_at m c) _)
  rw [h0, h1]

end Cert.Kernel17Ideal.Rows

end
-- ==== Proof.InWeights.lean ====
/-
  The two kernels for the gradient of the input projection's weight: their arrays are sums over positions, and so are the
  reference's.
-/
module

public import proofs.«01_k».proof.Proof.InMath
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import Idealize.ShloMosaic.Lib.Pointwise
public import Idealize.ShloMosaic.Lib.Claim

@[expose] public section

set_option maxRecDepth 16384

noncomputable section

namespace Cert.Reference6Ideal.Rows

open Cert.Reference6Ideal Cert.Reference6Ideal.Gen Cert.Reference6Ideal.Read Idealize.ShloMosaic Idealize.ShloMosaic.TcCoe

theorem value (u : Mlp.Arr 4096 1024) (ct : Mlp.Arr 4096 2824) (f : Fin 2048) (d : Fin 1024) :
    val_main_v5 (F := Ideal) u ct (ix2 f d) = InProj.dweight0 u ct f d := by
  pointwise [val_main_v5, val_main_v4, val_main_v3, val_main_v2, val_main_v1]
  unfold InProj.dweight0 InProj.dweight
  refine Finset.sum_congr rfl fun t _ => ?_
  rw [InProj.col, dif_pos (by omega)]

end Cert.Reference6Ideal.Rows

namespace Cert.Reference7Ideal.Rows

open Cert.Reference7Ideal Cert.Reference7Ideal.Gen Cert.Reference7Ideal.Read Idealize.ShloMosaic Idealize.ShloMosaic.TcCoe

theorem value (u : Mlp.Arr 4096 1024) (ct : Mlp.Arr 4096 2824) (f : Fin 896) (d : Fin 1024) :
    val_main_v6 (F := Ideal) u ct (ix2 f d) = InProj.dweight1 u ct f d := by
  pointwise [val_main_v6, val_main_v5, val_main_call0_v0, val_main_c, val_main_v4, val_main_v3, val_main_v2, val_main_v1]
  split
  · unfold InProj.dweight1 InProj.dweight
    refine Finset.sum_congr rfl fun t _ => ?_
    rw [InProj.col, dif_pos (by omega)]
  · rw [InProj.fill, InProj.dweight1, InProj.dweight_past _ _ _ _ (by omega)]

end Cert.Reference7Ideal.Rows

namespace Cert.Kernel6Ideal.Rows

open Cert.Kernel6Ideal Cert.Kernel6Ideal.Gen Idealize.ShloMosaic Idealize.ShloMosaic.TcCoe Idealize.SL.Sem

variable (m : (ℓ : Loc nD τ sig) → Buf (Elt Ideal) ℓ) (c : Dev nD)

theorem ct_at (t : Fin 4096) (f : Fin 2048) : V m c main_v1 (ix2 t f) = InProj.col (m ((c : Thread nD τ).loc main_arg2)) t f := by
  have h : V m c main_v1 = extractStridedSlice (α := EReal) S4096x2048 ![0, 0] (m ((c : Thread nD τ).loc main_arg2))
      slices_S4096x2824_S4096x2048_0_0 := by
    unfold V
    simp only [hostOps0]
    after_results_simp
    all_goals rfl
  rw [h, InProj.col, dif_pos (by omega)]
  pointwise []

theorem u_at : V m c main_v2 = m ((c : Thread nD τ).loc main_arg0) := by
  unfold V
  simp only [hostOps0]
  after_results_simp
  all_goals rfl

theorem pay (x : Vec Ideal S4096x512 .bf16) (y : Vec Ideal S4096x1024 .bf16) (a : Fin 512) (b : Fin 1024) :
    out0_2 x y (ix2 a b) = ∑ t : Fin 4096, x (ix2 t a) * y (ix2 t b) := by
  frame_out
  pointwise [k0_pay1]

theorem idx : ∀ t : Fin cfg0.N, t.val < 4 ∧ win0_0.index t = ![0, t.val] ∧ win0_1.index t = ![0, 0] ∧ win0_2.index t = ![t.val, 0] :=
  (by decide +kernel : ∀ t : Fin grid0.N, _)

theorem blk0 (A : S4096x2048.Idx → EReal) (t : Fin cfg0.N) (a : Fin 4096) (b : Fin 512) :
    ((cfg0.win 0).blk t).view.read (Elt Ideal) A (ix2 a b) = A (ix2 a ⟨512 * t.val + b, by have := (idx t).1; omega⟩) := by
  blk_point [idx t]

theorem blk1 (A : S4096x1024.Idx → EReal) (t : Fin cfg0.N) (a : Fin 4096) (b : Fin 1024) :
    ((cfg0.win 1).blk t).view.read (Elt Ideal) A (ix2 a b) = A (ix2 a b) := by
  blk_point [idx t]

theorem final : (dats m 0 c).arrAt 2 cfg0.N = fun j : S2048x1024.Idx => InProj.dweight0 (m ((c : Thread nD τ).loc main_arg0))
    (m ((c : Thread nD τ).loc main_arg2)) (j 0) (j 1) := by
  refine (dats m 0 c).arrAt_eq_of_covers 2 _ (by decide +kernel) fun t _ y => ?_
  blk_simp
  rw [after0_2]
  obtain ⟨ρ, γ, rfl⟩ : ∃ (ρ : Fin 512) (γ : Fin 1024), y = ix2 ρ γ := ⟨y 0, y 1, by blk_ext []⟩
  have ht := (idx t).1
  have e0 : (((cfg0.win 2).blk t).view.emb (ix2 ρ γ) 0 : ℕ) = 512 * t.val + ρ := by
    blk_simp [idx t]
    omega
  have e1 : (((cfg0.win 2).blk t).view.emb (ix2 ρ γ) 1 : ℕ) = γ := by
    blk_simp [idx t]
  refine (pay _ _ ρ γ).trans (Eq.trans ?_ (congrArg₂ (InProj.dweight0 _ _)
    (Fin.ext e0 : _ = (⟨512 * t.val + ρ, by omega⟩ : Fin 2048)) (Fin.ext e1 : _ = γ)).symm)
  simp only [InProj.dweight0, InProj.dweight1, InProj.dweight]
  refine Finset.sum_congr rfl fun s _ => ?_
  have h0 : iblk m c 0 t (ix2 s ρ) = _ := (blk0 (V m c main_v1) t s ρ).trans (ct_at m c _ _)
  have h1 : iblk m c 1 t (ix2 s γ) = _ := (blk1 (V m c main_v2) t s γ).trans (congrFun (u_at m c) _)
  rw [h0, h1]

end Cert.Kernel6Ideal.Rows

namespace Cert.Kernel7Ideal.Rows

open Cert.Kernel7Ideal Cert.Kernel7Ideal.Gen Idealize.ShloMosaic Idealize.ShloMosaic.TcCoe Idealize.SL.Sem

theorem padded (A : Mlp.Arr 4096 2824) (t : Fin 4096) (f : Fin 896) :
    pad S4096x896 ![0, 0] ![0, 120] ![0, 0] (extractStridedSlice S4096x776 ![0, 2048] A slices_S4096x2824_S4096x776_0_2048)
      (sitofp (F := Ideal) .bf16 (constantI S_ 32 0#32)) pads_S4096x776_S4096x896_000_01200 h_S_ (ix2 t f) = InProj.col A t (2048 + f) := by
  pointwise []
  split
  · rw [InProj.col, dif_pos (by omega)]
  · rw [InProj.fill, InProj.col, dif_neg (by omega)]

section Host

variable (V0 : Valuation τ sig (Elt Ideal))

/-- What the operations before the last list leave. -/
abbrev before : Valuation τ sig (Elt Ideal) := StableHlo.after hostOps0_1 (StableHlo.after hostOps0 V0)

theorem entry_eq : StableHlo.after (List.flatten [hostOps0, hostOps0_1, hostOps0_2]) V0 = StableHlo.after hostOps0_2 (before V0) := by
  simp only [List.flatten_cons, List.flatten_nil, List.append_nil, StableHlo.after_append]

theorem s0 : StableHlo.after hostOps0 V0 (Proc.devRef .tc main_v1)
    = extractStridedSlice (α := EReal) S4096x776 ![0, 2048] (V0 (Proc.devRef .tc main_arg2)) slices_S4096x2824_S4096x776_0_2048 := by
  simp only [hostOps0]
  after_results_simp
  all_goals rfl

theorem s0_zero : StableHlo.after hostOps0 V0 (Proc.devRef .tc main_c) = constantI S_ 32 0#32 := by
  simp only [hostOps0]
  after_results_simp

theorem s1 (x) (h0 : V0 (Proc.devRef .tc main_v1) = x) (h1 : V0 (Proc.devRef .tc main_c) = constantI S_ 32 0#32) :
    StableHlo.after hostOps0_1 V0 (Proc.devRef .tc main_v2)
      = pad S4096x896 ![0, 0] ![0, 120] ![0, 0] x (sitofp (F := Ideal) .bf16 (constantI S_ 32 0#32)) pads_S4096x776_S4096x896_000_01200 h_S_ := by
  simp only [hostOps0_1, StableHlo.TRef.binary, StableHlo.TRef.nullary, StableHlo.TRef.unary, StableHlo.TRef.toBuf, StableHlo.TRef.ofBuf, cast_eq]
  after_results_simp
  rw [h0, h1]

theorem s2 : StableHlo.after hostOps0_2 V0 (Proc.devRef .tc main_v2) = V0 (Proc.devRef .tc main_v2) := by
  simp only [hostOps0_2]
  after_results_simp

theorem s2_u : StableHlo.after hostOps0_2 V0 (Proc.devRef .tc main_v3) = V0 (Proc.devRef .tc main_arg0) := by
  simp only [hostOps0_2]
  after_results_simp
  all_goals rfl

theorem before_kept : before V0 (Proc.devRef .tc main_arg0) = V0 (Proc.devRef .tc main_arg0) := by
  simp only [before, hostOps0, hostOps0_1]
  after_results_simp

end Host

variable (m : (ℓ : Loc nD τ sig) → Buf (Elt Ideal) ℓ) (c : Dev nD)

theorem ct_at (t : Fin 4096) (f : Fin 896) :
    V m c main_v2 (ix2 t f) = InProj.col (m ((c : Thread nD τ).loc main_arg2)) t (2048 + f) := by
  unfold V
  rw [entry_eq, s2, before, s1 _ _ (s0 _) (s0_zero _)]
  exact padded _ t f

theorem u_at : V m c main_v3 = m ((c : Thread nD τ).loc main_arg0) := by
  unfold V
  rw [entry_eq, s2_u, before_kept]

theorem pay (x : Vec Ideal S4096x896 .bf16) (y : Vec Ideal S4096x1024 .bf16) (a : Fin 896) (b : Fin 1024) :
    out0_2 x y (ix2 a b) = ∑ t : Fin 4096, x (ix2 t a) * y (ix2 t b) := by
  frame_out
  pointwise [k0_pay1]

theorem idx : ∀ t : Fin cfg0.N, win0_0.index t = ![0, 0] ∧ win0_1.index t = ![0, 0] ∧ win0_2.index t = ![0, 0] :=
  (by decide +kernel : ∀ t : Fin grid0.N, _)

theorem blk0 (A : S4096x896.Idx → EReal) (t : Fin cfg0.N) (a : Fin 4096) (b : Fin 896) :
    ((cfg0.win 0).blk t).view.read (Elt Ideal) A (ix2 a b) = A (ix2 a b) := by
  blk_point [idx t]

theorem blk1 (A : S4096x1024.Idx → EReal) (t : Fin cfg0.N) (a : Fin 4096) (b : Fin 1024) :
    ((cfg0.win 1).blk t).view.read (Elt Ideal) A (ix2 a b) = A (ix2 a b) := by
  blk_point [idx t]

theorem final : (dats m 0 c).arrAt 2 cfg0.N = fun j : S896x1024.Idx => InProj.dweight1 (m ((c : Thread nD τ).loc main_arg0))
    (m ((c : Thread nD τ).loc main_arg2)) (j 0) (j 1) := by
  refine (dats m 0 c).arrAt_eq_of_covers 2 _ (by decide +kernel) fun t _ y => ?_
  blk_simp
  rw [after0_2]
  obtain ⟨ρ, γ, rfl⟩ : ∃ (ρ : Fin 896) (γ : Fin 1024), y = ix2 ρ γ := ⟨y 0, y 1, by blk_ext []⟩
  have e0 : (((cfg0.win 2).blk t).view.emb (ix2 ρ γ) 0 : ℕ) = ρ := by
    blk_simp [idx t]
  have e1 : (((cfg0.win 2).blk t).view.emb (ix2 ρ γ) 1 : ℕ) = γ := by
    blk_simp [idx t]
  refine (pay _ _ ρ γ).trans (Eq.trans ?_ (congrArg₂ (InProj.dweight1 _ _) (Fin.ext e0 : _ = ρ) (Fin.ext e1 : _ = γ)).symm)
  simp only [InProj.dweight0, InProj.dweight1, InProj.dweight]
  refine Finset.sum_congr rfl fun s _ => ?_
  have h0 : iblk m c 0 t (ix2 s ρ) = _ := (blk0 (V m c main_v2) t s ρ).trans (ct_at m c _ _)
  have h1 : iblk m c 1 t (ix2 s γ) = _ := (blk1 (V m c main_v3) t s γ).trans (congrFun (u_at m c) _)
  rw [h0, h1]

end Cert.Kernel7Ideal.Rows

end
-- ==== Proof.MlpDx.lean ====
/-
  The kernel for the gradients of the network's pre-activation and input. A row of blocks of the input's gradient is
  summed over the eight blocks of the hidden axis, in the scratch the kernel carries.
-/
module

public import proofs.«01_k».proof.Proof.MlpMath
public import proofs.«01_k».proof.Proof.Gen.Kernel2Ideal.Value
public import proofs.«01_k».proof.Proof.Gen.Reference2Ideal.Read
public import Idealize.ShloMosaic.Lib.Pointwise
public import Idealize.ShloMosaic.Lib.Pipeline.ReadBack
public import Idealize.ShloMosaic.Lib.Claim

@[expose] public section

set_option maxRecDepth 16384

noncomputable section

namespace Cert.Reference2Ideal.Dx

open Cert.Reference2Ideal Cert.Reference2Ideal.Gen Cert.Reference2Ideal.Read Idealize.ShloMosaic Idealize.ShloMosaic.TcCoe

variable (u : Mlp.Arr 4096 1024) (wu : Mlp.Arr 1024 4096) (wd ct : Mlp.Arr 4096 1024)

theorem value_pre (t f : Fin 4096) : val_main_v31 (F := Ideal) u wu wd ct (ix2 t f) = Mlp.dpre u wu wd ct t f := by
  pointwise [val_main_v31, val_main_v12, val_main_v11, val_main_cst_2, val_main_v10, val_main_v9, val_main_v7, val_main_v6, val_main_cst_1,
    val_main_v3, val_main_v2, val_main_cst, val_main_v1, val_main_call0_v0, val_main_call0_cst, val_main_v0]
  rw [Mlp.two]
  exact Mlp.choose_pos _ _

theorem chosen (t f : Fin 4096) : val_main_v27 (F := Ideal) u wu wd ct (ix2 t f) = Mlp.dpre u wu wd ct t f := by
  pointwise [val_main_v27, val_main_v26, val_main_cst_6, val_main_v25, val_main_v24, val_main_v20, val_main_v19, val_main_cst_5,
    val_main_v16, val_main_v15, val_main_cst_3, val_main_v14, val_main_call1_v0, val_main_call1_cst, val_main_v13]
  rw [Mlp.two]
  exact Mlp.choose_pos _ _

theorem value_input (t : Fin 4096) (d : Fin 1024) : val_main_v30 (F := Ideal) u wu wd ct (ix2 t d) = Mlp.dinput u wu wd ct t d := by
  pointwise [val_main_v30, chosen]
  rfl

end Cert.Reference2Ideal.Dx

namespace Cert.Kernel2Ideal.Dx

open Cert.Kernel2Ideal Cert.Kernel2Ideal.Gen Idealize.ShloMosaic Idealize.ShloMosaic.TcCoe Idealize.SL.Sem

theorem pay1_at (x : Vec Ideal S1024x1024 .bf16) : k0_pay1 x = x := by
  funext j
  obtain ⟨a, b, rfl⟩ : ∃ (a b : Fin 1024), j = ix2 a b := ⟨j 0, j 1, by blk_ext []⟩
  pointwise [k0_pay1]

theorem pay2_at (a b : Fin 1024) : k0_pay2 (F := Ideal) (ix2 a b) = 0 := by
  pointwise [k0_pay2]

theorem pay3_at (x : Vec Ideal S1024x1024 .bf16) (y : Vec Ideal S512x1024 .bf16) (z : Vec Ideal S1024x512 .bf16) (a : Fin 1024) (b : Fin 512) :
    k0_pay3 x y z (ix2 a b) = (∑ k : Fin 1024, x (ix2 a k) * y (ix2 b k)) * (2 * max (z (ix2 a b)) 0) := by
  pointwise [k0_pay3]
  rw [Mlp.two]

theorem pay4_at (x : Vec Ideal S1024x1024 .bf16) (y : Vec Ideal S512x1024 .bf16) (z : Vec Ideal S1024x512 .bf16)
    (acc : Vec Ideal S1024x1024 .f32) (w : Vec Ideal S512x1024 .bf16) (a d : Fin 1024) :
    k0_pay4 x y z acc w (ix2 a d) = acc (ix2 a d) + ∑ b : Fin 512, k0_pay3 x y z (ix2 a b) * w (ix2 b d) := by
  pointwise [k0_pay4]

theorem idx : ∀ t : Fin cfg0.N, t.val < 32 ∧ win0_0.index t = ![t.val / 8, 0] ∧ win0_1.index t = ![t.val / 8, t.val % 8]
    ∧ win0_2.index t = ![t.val % 8, 0] ∧ win0_3.index t = ![t.val % 8, 0] ∧ win0_4.index t = ![t.val / 8, t.val % 8]
    ∧ win0_5.index t = ![t.val / 8, 0] :=
  (by decide +kernel : ∀ t : Fin grid0.N, _)

/-- The positions of a grid point's rows, and its places of the hidden axis. -/
def row (n : ℕ) (hn : n < 32) (a : Fin 1024) : Fin 4096 := ⟨1024 * (n / 8) + a, by omega⟩
def hid (n : ℕ) (b : Fin 512) : Fin 4096 := ⟨512 * (n % 8) + b, by omega⟩

theorem blk0 (A : S4096x1024.Idx → EReal) (t : Fin cfg0.N) (a b : Fin 1024) :
    ((cfg0.win 0).blk t).view.read (Elt Ideal) A (ix2 a b) = A (ix2 (row t (idx t).1 a) b) := by
  blk_point [idx t, row]

theorem blk1 (A : S4096x4096.Idx → EReal) (t : Fin cfg0.N) (a : Fin 1024) (b : Fin 512) :
    ((cfg0.win 1).blk t).view.read (Elt Ideal) A (ix2 a b) = A (ix2 (row t (idx t).1 a) (hid t b)) := by
  blk_point [idx t, row, hid]

theorem blk2 (A : S4096x1024.Idx → EReal) (t : Fin cfg0.N) (b : Fin 512) (d : Fin 1024) :
    ((cfg0.win 2).blk t).view.read (Elt Ideal) A (ix2 b d) = A (ix2 (hid t b) d) := by
  blk_point [idx t, hid]

theorem blk3 (A : S4096x1024.Idx → EReal) (t : Fin cfg0.N) (b : Fin 512) (d : Fin 1024) :
    ((cfg0.win 3).blk t).view.read (Elt Ideal) A (ix2 b d) = A (ix2 (hid t b) d) := by
  blk_point [idx t, hid]

variable (m : (ℓ : Loc nD τ sig) → Buf (Elt Ideal) ℓ) (c : Dev nD)

theorem v1_eq : V m c main_v1 = m ((c : Thread nD τ).loc main_arg3) := by
  unfold V
  simp only [hostOps0]
  after_results_simp
  all_goals rfl

theorem v2_at (t f : Fin 4096) : V m c main_v2 (ix2 t f)
    = Mlp.pre (m ((c : Thread nD τ).loc main_arg0)) (m ((c : Thread nD τ).loc main_arg1)) t f := by
  have h : V m c main_v2 = Host.dotGeneral (F := Ideal) (φ₁ := .f32) (φ₂ := .f32)
      dot_S4096x1024_S1024x4096_S4096x4096_1_0_0_1_n_n none (m ((c : Thread nD τ).loc main_arg0)) (m ((c : Thread nD τ).loc main_arg1)) := by
    unfold V
    simp only [hostOps0]
    after_results_simp
    all_goals rfl
  rw [h]
  pointwise []
  rfl

theorem v4_at (f : Fin 4096) (d : Fin 1024) : V m c main_v4 (ix2 f d) = m ((c : Thread nD τ).loc main_arg1) (ix2 d f) := by
  have h : V m c main_v4 = transpose (α := EReal) S4096x1024 [1, 0] (m ((c : Thread nD τ).loc main_arg1)) transposes_S1024x4096_S4096x1024_1_0 := by
    unfold V
    simp only [hostOps0]
    after_results_simp
    all_goals rfl
  rw [h]
  pointwise []

theorem v5_eq : V m c main_v5 = m ((c : Thread nD τ).loc main_arg2) := by
  unfold V
  simp only [hostOps0]
  after_results_simp
  all_goals rfl

/-! The arguments on a device. -/

abbrev u : Mlp.Arr 4096 1024 := m ((c : Thread nD τ).loc main_arg0)
abbrev wu : Mlp.Arr 1024 4096 := m ((c : Thread nD τ).loc main_arg1)
abbrev wd : Mlp.Arr 4096 1024 := m ((c : Thread nD τ).loc main_arg2)
abbrev ct : Mlp.Arr 4096 1024 := m ((c : Thread nD τ).loc main_arg3)

theorem ct_at (t : Fin cfg0.N) (a k : Fin 1024) : iblk m c 0 t (ix2 a k) = ct m c (ix2 (row t (idx t).1 a) k) :=
  (blk0 (V m c main_v1) t a k).trans (congrFun (v1_eq m c) _)

theorem pre_at (t : Fin cfg0.N) (a : Fin 1024) (b : Fin 512) :
    iblk m c 1 t (ix2 a b) = Mlp.pre (u m c) (wu m c) (row t (idx t).1 a) (hid t b) :=
  (blk1 (V m c main_v2) t a b).trans (v2_at m c _ _)

theorem wu_at (t : Fin cfg0.N) (b : Fin 512) (d : Fin 1024) : iblk m c 2 t (ix2 b d) = wu m c (ix2 d (hid t b)) :=
  (blk2 (V m c main_v4) t b d).trans (v4_at m c _ _)

theorem wd_at (t : Fin cfg0.N) (b : Fin 512) (k : Fin 1024) : iblk m c 3 t (ix2 b k) = wd m c (ix2 (hid t b) k) :=
  (blk3 (V m c main_v5) t b k).trans (congrFun (v5_eq m c) _)

/-- A block of the pre-activation's gradient, from the rows of the result's gradient. -/
theorem block_pre (t : Fin cfg0.N) (x : Vec Ideal S1024x1024 .bf16) (hx : ∀ a k, x (ix2 a k) = ct m c (ix2 (row t (idx t).1 a) k))
    (a : Fin 1024) (b : Fin 512) : k0_pay3 x (iblk m c 3 t) (iblk m c 1 t) (ix2 a b)
      = Mlp.dpre (u m c) (wu m c) (wd m c) (ct m c) (row t (idx t).1 a) (hid t b) := by
  rw [pay3_at, pre_at]
  simp only [hx, wd_at]
  rfl

/-- The sum of the blocks up to a grid point's own, from the sum of those before it. -/
theorem block_input (t : Fin cfg0.N) (x : Vec Ideal S1024x1024 .bf16) (hx : ∀ a k, x (ix2 a k) = ct m c (ix2 (row t (idx t).1 a) k))
    (acc : Vec Ideal S1024x1024 .f32) (hacc : ∀ a d, acc (ix2 a d)
      = ∑ n ∈ Finset.range (512 * (t.val % 8)), Mlp.term (u m c) (wu m c) (wd m c) (ct m c) (row t (idx t).1 a) d n)
    (a d : Fin 1024) : k0_pay4 x (iblk m c 3 t) (iblk m c 1 t) acc (iblk m c 2 t) (ix2 a d)
      = ∑ n ∈ Finset.range (512 * (t.val % 8 + 1)), Mlp.term (u m c) (wu m c) (wd m c) (ct m c) (row t (idx t).1 a) d n := by
  rw [pay4_at, hacc, ← Mlp.sum_block _ _ _ _ _ _ _ (Nat.mod_lt _ (by decide))]
  refine congrArg _ (Finset.sum_congr rfl fun b _ => ?_)
  rw [block_pre m c t x hx, wu_at]
  rfl

/-! What a grid point leaves, in each of the three cases. -/

theorem first (t : Fin cfg0.N) (h0 : t.val % 8 = 0) (h1 : ¬t.val % 8 = 7) :
    (outsAt0 m c t.val t.isLt).1 = k0_pay3 (k0_pay1 (iblk m c 0 t)) (iblk m c 3 t) (iblk m c 1 t)
    ∧ (outsAt0 m c t.val t.isLt).2.2.1 = k0_pay4 (k0_pay1 (iblk m c 0 t)) (iblk m c 3 t) (iblk m c 1 t) (k0_pay2 (F := Ideal)) (iblk m c 2 t)
    ∧ (outsAt0 m c t.val t.isLt).2.2.2 = k0_pay1 (iblk m c 0 t) := by
  rw [outsAt0_A m c t h0 h1]
  refine ⟨?_, ?_, ?_⟩
  · frame_out
  · frame_out
  · frame_out

theorem middle (t : Fin cfg0.N) (h0 : ¬t.val % 8 = 0) (h1 : ¬t.val % 8 = 7) :
    (outsAt0 m c t.val t.isLt).1 = k0_pay3 (outsAt0 m c (t.val - 1) (Nat.lt_of_le_of_lt (Nat.sub_le _ _) t.isLt)).2.2.2 (iblk m c 3 t) (iblk m c 1 t)
    ∧ (outsAt0 m c t.val t.isLt).2.2.1 = k0_pay4 (outsAt0 m c (t.val - 1) (Nat.lt_of_le_of_lt (Nat.sub_le _ _) t.isLt)).2.2.2 (iblk m c 3 t)
      (iblk m c 1 t) (outsAt0 m c (t.val - 1) (Nat.lt_of_le_of_lt (Nat.sub_le _ _) t.isLt)).2.2.1 (iblk m c 2 t)
    ∧ (outsAt0 m c t.val t.isLt).2.2.2 = (outsAt0 m c (t.val - 1) (Nat.lt_of_le_of_lt (Nat.sub_le _ _) t.isLt)).2.2.2 := by
  rw [outsAt0_B m c t h0 h1]
  refine ⟨?_, ?_, ?_⟩
  · frame_out
    rw [read_unread_whole]
  · frame_out
    rw [read_unread_whole, read_unread_whole]
  · rfl

theorem last (t : Fin cfg0.N) (h0 : ¬t.val % 8 = 0) (h1 : t.val % 8 = 7) :
    (outsAt0 m c t.val t.isLt).1 = k0_pay3 (outsAt0 m c (t.val - 1) (Nat.lt_of_le_of_lt (Nat.sub_le _ _) t.isLt)).2.2.2 (iblk m c 3 t) (iblk m c 1 t)
    ∧ (outsAt0 m c t.val t.isLt).2.1 = k0_pay4 (outsAt0 m c (t.val - 1) (Nat.lt_of_le_of_lt (Nat.sub_le _ _) t.isLt)).2.2.2 (iblk m c 3 t)
      (iblk m c 1 t) (outsAt0 m c (t.val - 1) (Nat.lt_of_le_of_lt (Nat.sub_le _ _) t.isLt)).2.2.1 (iblk m c 2 t)
    ∧ (outsAt0 m c t.val t.isLt).2.2.1 = (outsAt0 m c t.val t.isLt).2.1
    ∧ (outsAt0 m c t.val t.isLt).2.2.2 = (outsAt0 m c (t.val - 1) (Nat.lt_of_le_of_lt (Nat.sub_le _ _) t.isLt)).2.2.2 := by
  rw [outsAt0_C m c t h0 h1]
  refine ⟨?_, ?_, ?_, ?_⟩
  · frame_out
    rw [read_unread_whole]
  · frame_out
    rw [read_unread_whole, read_unread_whole]
  · frame_out
  · rfl

/-! What a grid point leaves, as values. -/

/-- The scratch holds the rows of the result's gradient, and the sum of the blocks so far. -/
theorem carried : ∀ (n : ℕ) (hn : n < cfg0.N),
    (∀ a k, (outsAt0 m c n hn).2.2.2 (ix2 a k) = ct m c (ix2 (row n (idx ⟨n, hn⟩).1 a) k))
    ∧ (∀ a d, (outsAt0 m c n hn).2.2.1 (ix2 a d) = ∑ i ∈ Finset.range (512 * (n % 8 + 1)),
      Mlp.term (u m c) (wu m c) (wd m c) (ct m c) (row n (idx ⟨n, hn⟩).1 a) d i) := by
  intro n
  induction n using Nat.strong_induction_on with
  | _ n ih =>
    intro hn
    have hN := (idx ⟨n, hn⟩).1
    by_cases h0 : n % 8 = 0
    · obtain ⟨-, h2, h3⟩ := first m c ⟨n, hn⟩ h0 (by dsimp only; omega)
      dsimp only at h2 h3
      rw [pay1_at] at h2 h3
      rw [h2, h3]
      refine ⟨ct_at m c ⟨n, hn⟩, block_input m c ⟨n, hn⟩ _ (ct_at m c ⟨n, hn⟩) _ fun a d => ?_⟩
      dsimp only
      rw [pay2_at, show 512 * (n % 8) = 0 by omega, Finset.sum_range_zero]
    · obtain ⟨hc, hs⟩ := ih (n - 1) (by omega) (Nat.lt_of_le_of_lt (Nat.sub_le _ _) hn)
      have hr : ∀ a, row (n - 1) (idx ⟨n - 1, Nat.lt_of_le_of_lt (Nat.sub_le _ _) hn⟩).1 a = row n hN a := fun a => Fin.ext (by
        simp only [row]
        omega)
      have hk : 512 * ((n - 1) % 8 + 1) = 512 * (n % 8) := by omega
      simp only [hr, hk] at hc hs
      by_cases h1 : n % 8 = 7
      · obtain ⟨-, h2, h3, h4⟩ := last m c ⟨n, hn⟩ h0 h1
        dsimp only at h2 h3 h4
        rw [h3, h4, h2]
        exact ⟨hc, block_input m c ⟨n, hn⟩ _ hc _ hs⟩
      · obtain ⟨-, h2, h3⟩ := middle m c ⟨n, hn⟩ h0 h1
        dsimp only at h2 h3
        rw [h2, h3]
        exact ⟨hc, block_input m c ⟨n, hn⟩ _ hc _ hs⟩

/-- The block of the pre-activation's gradient a grid point leaves. -/
theorem out_pre (t : Fin cfg0.N) (a : Fin 1024) (b : Fin 512) : (outsAt0 m c t.val t.isLt).1 (ix2 a b)
    = Mlp.dpre (u m c) (wu m c) (wd m c) (ct m c) (row t (idx t).1 a) (hid t b) := by
  have hc := (carried m c t.val t.isLt).1
  by_cases h0 : t.val % 8 = 0
  · obtain ⟨h1, -, h3⟩ := first m c t h0 (by omega)
    rw [h1, ← h3]
    exact block_pre m c t _ hc a b
  · by_cases h7 : t.val % 8 = 7
    · obtain ⟨h1, -, -, h4⟩ := last m c t h0 h7
      rw [h1, ← h4]
      exact block_pre m c t _ hc a b
    · obtain ⟨h1, -, h3⟩ := middle m c t h0 h7
      rw [h1, ← h3]
      exact block_pre m c t _ hc a b

/-- The block of the input's gradient the last grid point of a row leaves. -/
theorem out_input (t : Fin cfg0.N) (h7 : t.val % 8 = 7) (a d : Fin 1024) : (outsAt0 m c t.val t.isLt).2.1 (ix2 a d)
    = Mlp.dinput (u m c) (wu m c) (wd m c) (ct m c) (row t (idx t).1 a) d := by
  obtain ⟨-, -, h3, -⟩ := last m c t (by omega) h7
  rw [← h3, (carried m c t.val t.isLt).2, show 512 * (t.val % 8 + 1) = 4096 by omega, Mlp.dinput_eq]

theorem final_pre : (dats m 0 c).arrAt 4 cfg0.N = fun j : S4096x4096.Idx =>
    Mlp.dpre (u m c) (wu m c) (wd m c) (ct m c) (j 0) (j 1) := by
  refine (dats m 0 c).arrAt_eq_of_covers 4 _ (by decide +kernel) fun t _ y => ?_
  blk_simp
  rw [after0_4]
  obtain ⟨ρ, γ, rfl⟩ : ∃ (ρ : Fin 1024) (γ : Fin 512), y = ix2 ρ γ := ⟨y 0, y 1, by blk_ext []⟩
  have e0 : (((cfg0.win 4).blk t).view.emb (ix2 ρ γ) 0 : ℕ) = 1024 * (t.val / 8) + ρ := by
    blk_simp [idx t]
    omega
  have e1 : (((cfg0.win 4).blk t).view.emb (ix2 ρ γ) 1 : ℕ) = 512 * (t.val % 8) + γ := by
    blk_simp [idx t]
    omega
  exact (out_pre m c t ρ γ).trans (congrArg₂ (Mlp.dpre _ _ _ _) (Fin.ext e0 : _ = row t (idx t).1 ρ) (Fin.ext e1 : _ = hid t γ)).symm

theorem flush_last : ∀ t : Fin cfg0.N, (cfg0.win 5).flush t = true → t.val % 8 = 7 :=
  (by decide +kernel : ∀ t : Fin grid0.N, _)

theorem final_input : (dats m 0 c).arrAt 5 cfg0.N = fun j : S4096x1024.Idx =>
    Mlp.dinput (u m c) (wu m c) (wd m c) (ct m c) (j 0) (j 1) := by
  refine (dats m 0 c).arrAt_eq_of_covers 5 _ (by decide +kernel) fun t hf y => ?_
  blk_simp
  rw [after0_5]
  obtain ⟨ρ, γ, rfl⟩ : ∃ (ρ γ : Fin 1024), y = ix2 ρ γ := ⟨y 0, y 1, by blk_ext []⟩
  have e0 : (((cfg0.win 5).blk t).view.emb (ix2 ρ γ) 0 : ℕ) = 1024 * (t.val / 8) + ρ := by
    blk_simp [idx t]
    omega
  have e1 : (((cfg0.win 5).blk t).view.emb (ix2 ρ γ) 1 : ℕ) = γ := by
    blk_simp [idx t]
  exact (out_input m c t (flush_last t hf) ρ γ).trans (congrArg₂ (Mlp.dinput _ _ _ _) (Fin.ext e0 : _ = row t (idx t).1 ρ) (Fin.ext e1 : _ = γ)).symm

end Cert.Kernel2Ideal.Dx

end
-- ==== Proof.MlpDown.lean ====
/-
  The kernel for the gradient of the network's second weight: its array is the sum over positions, and so is the
  reference's.
-/
module

public import proofs.«01_k».proof.Proof.MlpMath
public import proofs.«01_k».proof.Proof.Gen.Kernel3Ideal.Value
public import proofs.«01_k».proof.Proof.Gen.Reference3Ideal.Read
public import Idealize.ShloMosaic.Lib.Pointwise
public import Idealize.ShloMosaic.Lib.Claim

@[expose] public section

set_option maxRecDepth 16384

noncomputable section

namespace Cert.Reference3Ideal.Down

open Cert.Reference3Ideal Cert.Reference3Ideal.Gen Cert.Reference3Ideal.Read Idealize.ShloMosaic Idealize.ShloMosaic.TcCoe

theorem value (u : Mlp.Arr 4096 1024) (wu : Mlp.Arr 1024 4096) (ct : Mlp.Arr 4096 1024) (f : Fin 4096) (d : Fin 1024) :
    val_main_v18 (F := Ideal) u wu ct (ix2 f d) = Mlp.dsecond u wu ct f d := by
  pointwise [val_main_v18, val_main_v10, val_main_v9, val_main_v5, val_main_v1, val_main_call0_v0, val_main_call0_cst, val_main_v0]
  simp only [Mlp.dsecond, Mlp.pre]
  exact Finset.sum_congr rfl fun t _ => mul_comm _ _

end Cert.Reference3Ideal.Down

namespace Cert.Kernel3Ideal.Down

open Cert.Kernel3Ideal Cert.Kernel3Ideal.Gen Idealize.ShloMosaic Idealize.ShloMosaic.TcCoe Idealize.SL.Sem

variable (m : (ℓ : Loc nD τ sig) → Buf (Elt Ideal) ℓ) (c : Dev nD)

theorem pre_at (t f : Fin 4096) : V m c main_v1 (ix2 t f)
    = Mlp.pre (m ((c : Thread nD τ).loc main_arg0)) (m ((c : Thread nD τ).loc main_arg1)) t f := by
  have h : V m c main_v1 = Host.dotGeneral (F := Ideal) (φ₁ := .f32) (φ₂ := .f32)
      dot_S4096x1024_S1024x4096_S4096x4096_1_0_0_1_n_n none (m ((c : Thread nD τ).loc main_arg0)) (m ((c : Thread nD τ).loc main_arg1)) := by
    unfold V
    simp only [hostOps0]
    after_results_simp
    all_goals rfl
  rw [h]
  pointwise []
  rfl

theorem ct_at : V m c main_v2 = m ((c : Thread nD τ).loc main_arg3) := by
  unfold V
  simp only [hostOps0]
  after_results_simp
  all_goals rfl

theorem pay (x : Vec Ideal S4096x512 .bf16) (y : Vec Ideal S4096x1024 .bf16) (a : Fin 512) (b : Fin 1024) :
    out0_2 x y (ix2 a b) = ∑ t : Fin 4096, max (x (ix2 t a)) 0 * max (x (ix2 t a)) 0 * y (ix2 t b) := by
  frame_out
  pointwise [k0_pay1]

theorem idx : ∀ t : Fin cfg0.N, t.val < 8 ∧ win0_0.index t = ![0, t.val] ∧ win0_1.index t = ![0, 0] ∧ win0_2.index t = ![t.val, 0] :=
  (by decide +kernel : ∀ t : Fin grid0.N, _)

theorem blk0 (A : S4096x4096.Idx → EReal) (t : Fin cfg0.N) (a : Fin 4096) (b : Fin 512) :
    ((cfg0.win 0).blk t).view.read (Elt Ideal) A (ix2 a b) = A (ix2 a ⟨512 * t.val + b, by have := (idx t).1; omega⟩) := by
  blk_point [idx t]

theorem blk1 (A : S4096x1024.Idx → EReal) (t : Fin cfg0.N) (a : Fin 4096) (b : Fin 1024) :
    ((cfg0.win 1).blk t).view.read (Elt Ideal) A (ix2 a b) = A (ix2 a b) := by
  blk_point [idx t]

theorem final : (dats m 0 c).arrAt 2 cfg0.N = fun j : S4096x1024.Idx => Mlp.dsecond (m ((c : Thread nD τ).loc main_arg0))
    (m ((c : Thread nD τ).loc main_arg1)) (m ((c : Thread nD τ).loc main_arg3)) (j 0) (j 1) := by
  refine (dats m 0 c).arrAt_eq_of_covers 2 _ (by decide +kernel) fun t _ y => ?_
  blk_simp
  rw [after0_2]
  obtain ⟨ρ, γ, rfl⟩ : ∃ (ρ : Fin 512) (γ : Fin 1024), y = ix2 ρ γ := ⟨y 0, y 1, by blk_ext []⟩
  have ht := (idx t).1
  have e0 : (((cfg0.win 2).blk t).view.emb (ix2 ρ γ) 0 : ℕ) = 512 * t.val + ρ := by
    blk_simp [idx t]
    omega
  have e1 : (((cfg0.win 2).blk t).view.emb (ix2 ρ γ) 1 : ℕ) = γ := by
    blk_simp [idx t]
  refine (pay _ _ ρ γ).trans (Eq.trans ?_ (congrArg₂ (Mlp.dsecond _ _ _)
    (Fin.ext e0 : _ = (⟨512 * t.val + ρ, by omega⟩ : Fin 4096)) (Fin.ext e1 : _ = γ)).symm)
  refine Finset.sum_congr rfl fun s _ => ?_
  have h0 : iblk m c 0 t (ix2 s ρ) = _ := (blk0 (V m c main_v1) t s ρ).trans (pre_at m c _ _)
  have h1 : iblk m c 1 t (ix2 s γ) = _ := (blk1 (V m c main_v2) t s γ).trans (congrFun (ct_at m c) _)
  rw [h0, h1]

end Cert.Kernel3Ideal.Down

end
-- ==== Proof.MlpUp.lean ====
/-
  The kernel for the gradient of the network's first weight: its array is the sum over positions, and so is the
  reference's.
-/
module

public import proofs.«01_k».proof.Proof.MlpMath
public import proofs.«01_k».proof.Proof.Gen.Kernel4Ideal.Value
public import proofs.«01_k».proof.Proof.Gen.Reference4Ideal.Read
public import Idealize.ShloMosaic.Lib.Pointwise
public import Idealize.ShloMosaic.Lib.Claim

@[expose] public section

set_option maxRecDepth 16384

noncomputable section

namespace Cert.Reference4Ideal.Up

open Cert.Reference4Ideal Cert.Reference4Ideal.Gen Cert.Reference4Ideal.Read Idealize.ShloMosaic Idealize.ShloMosaic.TcCoe

variable (u : Mlp.Arr 4096 1024) (wu : Mlp.Arr 1024 4096) (wd ct : Mlp.Arr 4096 1024)

theorem chosen (t f : Fin 4096) : val_main_v14 (F := Ideal) u wu wd ct (ix2 t f) = Mlp.dpre u wu wd ct t f := by
  pointwise [val_main_v14, val_main_v13, val_main_cst_2, val_main_v12, val_main_v11, val_main_v7, val_main_v6, val_main_cst_1,
    val_main_v3, val_main_v2, val_main_cst, val_main_v1, val_main_call0_v0, val_main_call0_cst, val_main_v0]
  rw [Mlp.two]
  exact Mlp.choose_pos _ _

theorem value (f : Fin 4096) (d : Fin 1024) : val_main_v19 (F := Ideal) u wu wd ct (ix2 f d) = Mlp.dfirst u wu wd ct f d := by
  pointwise [val_main_v19, val_main_v18, val_main_v16, val_main_v15, chosen]
  rfl

end Cert.Reference4Ideal.Up

namespace Cert.Kernel4Ideal.Up

open Cert.Kernel4Ideal Cert.Kernel4Ideal.Gen Idealize.ShloMosaic Idealize.ShloMosaic.TcCoe Idealize.SL.Sem
open Cert.Reference4Ideal.Read

section Host

variable (V0 : Valuation τ sig (Elt Ideal))

theorem s0 : StableHlo.after hostOps0 V0 (Proc.devRef .tc main_v0)
    = val_main_v0 (F := Ideal) (V0 (Proc.devRef .tc main_arg0)) (V0 (Proc.devRef .tc main_arg1)) := by
  simp only [hostOps0]
  after_results_simp
  all_goals rfl

theorem s1 (x0 x1) (h0 : V0 (Proc.devRef .tc main_v0) = val_main_v0 (F := Ideal) x0 x1) :
    StableHlo.after hostOps0_1 V0 (Proc.devRef .tc main_v1) = val_main_v1 (F := Ideal) x0 x1 := by
  simp only [hostOps0_1, StableHlo.TRef.binary, StableHlo.TRef.nullary, StableHlo.TRef.unary, StableHlo.TRef.toBuf, StableHlo.TRef.ofBuf, cast_eq]
  after_results_simp
  rw [h0]
  all_goals rfl

theorem s2 (x0 x1) (h0 : V0 (Proc.devRef .tc main_v0) = val_main_v0 (F := Ideal) x0 x1)
    (h1 : V0 (Proc.devRef .tc main_v1) = val_main_v1 (F := Ideal) x0 x1) :
    StableHlo.after hostOps0_2 V0 (Proc.devRef .tc main_v13)
      = val_main_v14 (F := Ideal) x0 x1 (V0 (Proc.devRef .tc main_arg2)) (V0 (Proc.devRef .tc main_arg3)) := by
  simp only [hostOps0_2]
  after_results_simp
  rw [h0, h1]
  all_goals rfl

theorem s2_u : StableHlo.after hostOps0_2 V0 (Proc.devRef .tc main_v14) = V0 (Proc.devRef .tc main_arg0) := by
  simp only [hostOps0_2]
  after_results_simp
  all_goals rfl

/-- What the operations before the last list leave. -/
abbrev before : Valuation τ sig (Elt Ideal) := StableHlo.after hostOps0_1 (StableHlo.after hostOps0 V0)

theorem entry_eq : StableHlo.after (List.flatten [hostOps0, hostOps0_1, hostOps0_2]) V0 = StableHlo.after hostOps0_2 (before V0) := by
  simp only [List.flatten_cons, List.flatten_nil, List.append_nil, StableHlo.after_append]

theorem before_kept (b : Ref sig .tc) (hb : b = main_arg0 ∨ b = main_arg2 ∨ b = main_arg3) :
    before V0 (Proc.devRef .tc b) = V0 (Proc.devRef .tc b) := by
  rcases hb with rfl | rfl | rfl <;>
  · simp only [before, hostOps0, hostOps0_1]
    after_results_simp

theorem before_v0 : before V0 (Proc.devRef .tc main_v0) = StableHlo.after hostOps0 V0 (Proc.devRef .tc main_v0) := by
  simp only [before, hostOps0_1]
  after_results_simp

end Host

variable (m : (ℓ : Loc nD τ sig) → Buf (Elt Ideal) ℓ) (c : Dev nD)

theorem dpre_at : V m c main_v13 = val_main_v14 (F := Ideal) (m ((c : Thread nD τ).loc main_arg0)) (m ((c : Thread nD τ).loc main_arg1))
    (m ((c : Thread nD τ).loc main_arg2)) (m ((c : Thread nD τ).loc main_arg3)) := by
  unfold V
  rw [entry_eq]
  refine (s2 _ _ _ ((before_v0 _).trans (s0 _)) (s1 _ _ _ (s0 _))).trans ?_
  rw [before_kept _ main_arg2 (by simp), before_kept _ main_arg3 (by simp)]

theorem u_at : V m c main_v14 = m ((c : Thread nD τ).loc main_arg0) := by
  unfold V
  rw [entry_eq, s2_u, before_kept _ main_arg0 (by simp)]

theorem pay (x : Vec Ideal S4096x512 .bf16) (y : Vec Ideal S4096x1024 .bf16) (a : Fin 512) (b : Fin 1024) :
    out0_2 x y (ix2 a b) = ∑ t : Fin 4096, x (ix2 t a) * y (ix2 t b) := by
  frame_out
  pointwise [k0_pay1]

theorem idx : ∀ t : Fin cfg0.N, t.val < 8 ∧ win0_0.index t = ![0, t.val] ∧ win0_1.index t = ![0, 0] ∧ win0_2.index t = ![t.val, 0] :=
  (by decide +kernel : ∀ t : Fin grid0.N, _)

theorem blk0 (A : S4096x4096.Idx → EReal) (t : Fin cfg0.N) (a : Fin 4096) (b : Fin 512) :
    ((cfg0.win 0).blk t).view.read (Elt Ideal) A (ix2 a b) = A (ix2 a ⟨512 * t.val + b, by have := (idx t).1; omega⟩) := by
  blk_point [idx t]

theorem blk1 (A : S4096x1024.Idx → EReal) (t : Fin cfg0.N) (a : Fin 4096) (b : Fin 1024) :
    ((cfg0.win 1).blk t).view.read (Elt Ideal) A (ix2 a b) = A (ix2 a b) := by
  blk_point [idx t]

theorem final : (dats m 0 c).arrAt 2 cfg0.N = fun j : S4096x1024.Idx => Mlp.dfirst (m ((c : Thread nD τ).loc main_arg0))
    (m ((c : Thread nD τ).loc main_arg1)) (m ((c : Thread nD τ).loc main_arg2)) (m ((c : Thread nD τ).loc main_arg3)) (j 0) (j 1) := by
  refine (dats m 0 c).arrAt_eq_of_covers 2 _ (by decide +kernel) fun t _ y => ?_
  blk_simp
  rw [after0_2]
  obtain ⟨ρ, γ, rfl⟩ : ∃ (ρ : Fin 512) (γ : Fin 1024), y = ix2 ρ γ := ⟨y 0, y 1, by blk_ext []⟩
  have ht := (idx t).1
  have e0 : (((cfg0.win 2).blk t).view.emb (ix2 ρ γ) 0 : ℕ) = 512 * t.val + ρ := by
    blk_simp [idx t]
    omega
  have e1 : (((cfg0.win 2).blk t).view.emb (ix2 ρ γ) 1 : ℕ) = γ := by
    blk_simp [idx t]
  refine (pay _ _ ρ γ).trans (Eq.trans ?_ (congrArg₂ (Mlp.dfirst _ _ _ _)
    (Fin.ext e0 : _ = (⟨512 * t.val + ρ, by omega⟩ : Fin 4096)) (Fin.ext e1 : _ = γ)).symm)
  refine Finset.sum_congr rfl fun s _ => ?_
  have h0 : iblk m c 0 t (ix2 s ρ) = _ := (blk0 (V m c main_v13) t s ρ).trans ((congrFun (dpre_at m c) _).trans
    (Cert.Reference4Ideal.Up.chosen _ _ _ _ _ _))
  have h1 : iblk m c 1 t (ix2 s γ) = _ := (blk1 (V m c main_v14) t s γ).trans (congrFun (u_at m c) _)
  rw [h0, h1]

end Cert.Kernel4Ideal.Up

end
-- ==== Proof.Block.lean ====
/-
  One grid point's block arithmetic: the stacked weights and score gradients, eight heads of a 128 by 384 tile. The tile's
  three parts of 128 columns are the previous keys, the current keys, and the current keys as seen by the next queries.
-/
module

public import proofs.«01_k».proof.Proof.Gen.KernelIdeal.Frame
public import proofs.«01_k».proof.Proof.Reals
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

/-- A block of `n` rows of eight heads' 64 channels. -/
abbrev Arr (n : ℕ) := (⟨2, ![n, 512]⟩ : Shape).Idx → EReal

/-- The column of a head's channel. -/
def col (h : Fin 8) (e : Fin 64) : Fin 512 := ⟨64 * h + e, by omega⟩

/-- The product of two rows over a head's channels. -/
def dot {n m : ℕ} (A : Arr n) (a : Fin n) (B : Arr m) (b : Fin m) (h : Fin 8) : EReal :=
  ∑ e : Fin 64, A (ix2 a (col h e)) * B (ix2 b (col h e))

/-- A weight: the exponential of the biased score less the query's logarithm. -/
def wt {n m : ℕ} (Q : Arr n) (a : Fin n) (K : Arr m) (b : Fin m) (L : Arr n) (h : Fin 8) (bias : EReal) : EReal :=
  Ideal.exp (dot Q a K b h + bias - L (ix2 a (col h 0)))

/-- A score's gradient: its weight times the excess of the query's gradient over the mean. -/
def gs {n m : ℕ} (Q : Arr n) (a : Fin n) (K : Arr m) (b : Fin m) (L : Arr n) (O : Arr n) (V : Arr m) (M : Arr n)
    (h : Fin 8) (bias : EReal) : EReal :=
  wt Q a K b L h bias * (dot O a V b h - dot O a M a h)

/-- The two rows of a block of 256 that a row of 128 stands for. -/
def lo (a : Fin 128) : Fin 256 := ⟨a, by omega⟩
def hi (a : Fin 128) : Fin 256 := ⟨128 + a, by omega⟩

/-- The three columns of a tile that a column of 128 stands for. -/
def part0 (j : Fin 128) : Fin 384 := ⟨j, by omega⟩
def part1 (j : Fin 128) : Fin 384 := ⟨128 + j, by omega⟩
def part2 (j : Fin 128) : Fin 384 := ⟨256 + j, by omega⟩

variable (i : grid0.Coords) (x0 : Vec Ideal S256x512 .bf16) (x1 : Vec Ideal S128x512 .bf16) (x2 : Vec Ideal S128x512 .bf16)
  (x3 : Vec Ideal S256x512 .bf16) (x4 : Vec Ideal S128x512 .bf16) (x5 : Vec Ideal S256x512 .bf16) (x6 : Vec Ideal S256x512 .f32)
  (x7 : Vec Ideal S128x512 .f32) (x8 : Vec Ideal S256x512 .f32) (x9 : Vec Ideal S128x512 .f32) (x10 : Vec Ideal S256x512 .f32)
  (x11 : Vec Ideal S128x512 .f32)

theorem sge_at : ∀ a j : Fin 128,
    IntOp.cmpi .sge (BitVec.ofNat 32 j) (BitVec.ofNat 32 a) = BitVec.ofBool (decide (a.val ≤ j.val)) := by
  decide +kernel

theorem sle_at : ∀ a j : Fin 128,
    IntOp.cmpi .sle (BitVec.ofNat 32 j) (BitVec.ofNat 32 a) = BitVec.ofBool (decide (j.val ≤ a.val)) := by
  decide +kernel

theorem sgt_at : ∀ n : Fin 4, Scalar.cmpi .sgt (BitVec.ofNat 32 n) 0#32 = BitVec.ofBool (decide (0 < n.val)) := by
  decide +kernel

theorem slt_at : ∀ n : Fin 4, Scalar.cmpi .slt (BitVec.ofNat 32 n) 3#32 = BitVec.ofBool (decide (n.val < 3)) := by
  decide +kernel

theorem mask_eq : (Named.named κ "mask" 4048155338#32 : Ideal .f32) = (⊥ : EReal) := rfl

theorem add_ite (p q : Prop) [Decidable p] [Decidable q] :
    ((if p then 0 else ⊥) + (if q then 0 else ⊥) : EReal) = if p ∧ q then 0 else ⊥ := by
  by_cases hp : p <;> by_cases hq : q <;> simp [hp, hq]

/-- The first block's bias: the previous keys are masked in the first pair. -/
theorem bias0_0 (a j : Fin 128) :
    k0_pay4 (F := Ideal) i (ix2 a (part0 j)) = if (a : ℕ) ≤ j ∧ 0 < (i 1).val then 0 else ⊥ := by
  unfold part0
  open_payloads
  pointwise [k0_pay2, k0_pay3]
  rw [sge_at, mask_eq, (sgt_at (i 1) : Scalar.cmpi .sgt (BitVec.ofNat 32 (i 1).val) 0#32 = _), Reals.select_ofBool,
    Reals.select_ofBool, add_ite]

theorem bias0_1 (a j : Fin 128) : k0_pay4 (F := Ideal) i (ix2 a (part1 j)) = if (j : ℕ) ≤ a then 0 else ⊥ := by
  unfold part1
  open_payloads
  pointwise [k0_pay2, k0_pay3]
  rw [sle_at, mask_eq, Reals.select_ofBool]

theorem bias0_2 (a j : Fin 128) : k0_pay4 (F := Ideal) i (ix2 a (part2 j)) = if (a : ℕ) ≤ j then 0 else ⊥ := by
  unfold part2
  open_payloads
  pointwise [k0_pay2, k0_pay3]
  have h1 : ¬ (256 + (j : ℕ) < 128) := by omega
  have h2 : ¬ (256 + (j : ℕ) - 128 < 128) := by omega
  have h3 : 256 + (j : ℕ) - 128 - 128 = j := by omega
  simp only [h1, h2, h3, ↓reduceDIte]
  rw [sge_at, mask_eq, Reals.select_ofBool]

/-- The second block's bias: the next queries are masked in the last pair. -/
theorem bias1_0 (a j : Fin 128) : k0_pay324 (F := Ideal) i x0 x1 x2 x3 x4 x5 x6 x7 x8 x9 x10 x11 (ix2 a (part0 j)) =
    if (a : ℕ) ≤ j then 0 else ⊥ := by
  unfold part0 k0_pay324
  open_payloads
  pointwise [k0_pay2, k0_pay3]
  rw [sge_at, mask_eq, Reals.select_ofBool]

theorem bias1_1 (a j : Fin 128) : k0_pay324 (F := Ideal) i x0 x1 x2 x3 x4 x5 x6 x7 x8 x9 x10 x11 (ix2 a (part1 j)) =
    if (j : ℕ) ≤ a then 0 else ⊥ := by
  unfold part1 k0_pay324
  open_payloads
  pointwise [k0_pay2, k0_pay3]
  rw [sle_at, mask_eq, Reals.select_ofBool]

theorem bias1_2 (a j : Fin 128) : k0_pay324 (F := Ideal) i x0 x1 x2 x3 x4 x5 x6 x7 x8 x9 x10 x11 (ix2 a (part2 j)) =
    if (a : ℕ) ≤ j ∧ (i 1).val < 3 then 0 else ⊥ := by
  unfold part2 k0_pay324
  open_payloads
  pointwise [k0_pay2, k0_pay3]
  have h1 : ¬ (256 + (j : ℕ) < 128) := by omega
  have h2 : ¬ (256 + (j : ℕ) - 128 < 128) := by omega
  have h3 : 256 + (j : ℕ) - 128 - 128 = j := by omega
  simp only [h1, h2, h3, ↓reduceDIte]
  rw [sge_at, mask_eq, (slt_at (i 1) : Scalar.cmpi .slt (BitVec.ofNat 32 (i 1).val) 3#32 = _), Reals.select_ofBool,
    Reals.select_ofBool, add_ite]

end Cert.KernelIdeal.Block

end
-- ==== Proof.First.lean ====
/-
  The first 128 rows of a grid point: its stacked weights and score gradients, read at a head, a row and a column.
-/
module

public import proofs.«01_k».proof.Proof.Block

@[expose] public section

set_option maxRecDepth 16384
set_option maxHeartbeats 1000000

noncomputable section

namespace Cert.KernelIdeal.Block

open Cert.KernelIdeal Cert.KernelIdeal.Gen Idealize.ShloMosaic Idealize.ShloMosaic.TcCoe Idealize.SL.Sem

variable (i : grid0.Coords) (x0 : Vec Ideal S256x512 .bf16) (x1 : Vec Ideal S128x512 .bf16) (x2 : Vec Ideal S128x512 .bf16)
  (x3 : Vec Ideal S256x512 .bf16) (x4 : Vec Ideal S128x512 .bf16) (x5 : Vec Ideal S256x512 .bf16) (x6 : Vec Ideal S256x512 .f32)
  (x7 : Vec Ideal S128x512 .f32) (x8 : Vec Ideal S256x512 .f32) (x9 : Vec Ideal S128x512 .f32) (x10 : Vec Ideal S256x512 .f32)
  (x11 : Vec Ideal S128x512 .f32)

theorem ds0_0 (h : Fin 8) (a j : Fin 128) : k0_pay322 (F := Ideal) i x0 x1 x2 x3 x4 x5 x6 x7 x8 x9 x10 x11 (ix3 h a (part0 j)) =
    gs x0 (lo a) x2 j x10 x6 x4 x8 h (if (a : ℕ) ≤ j ∧ 0 < (i 1).val then 0 else ⊥) := by
  rw [← bias0_0 i a j]
  have h1 : (j : ℕ) < 128 := j.2
  have h2 : (j : ℕ) < 256 := by omega
  unfold k0_pay322 part0
  pointwise [k0_pay119, k0_pay315, k0_pay316, k0_pay317, k0_pay318, k0_pay319, k0_pay320, k0_pay321, k0_pay112, k0_pay113, k0_pay114, k0_pay115, k0_pay116, k0_pay117, k0_pay118]
  fin_vals h with hk
  all_goals simp only [hk, Nat.reduceSub, Nat.reduceLT, ↓reduceDIte]
  all_goals open_payloads
  all_goals pointwise [gs, wt, dot, col, hi, lo]
  all_goals simp only [hk, h1, h2, Nat.reduceMul, Nat.zero_mul, Nat.zero_add, ↓reduceDIte]
  all_goals rfl

theorem ds0_1 (h : Fin 8) (a j : Fin 128) : k0_pay322 (F := Ideal) i x0 x1 x2 x3 x4 x5 x6 x7 x8 x9 x10 x11 (ix3 h a (part1 j)) =
    gs x0 (lo a) x3 (lo j) x10 x6 x5 x8 h (if (j : ℕ) ≤ a then 0 else ⊥) := by
  rw [← bias0_1 i a j]
  have h1 : ¬ (128 + (j : ℕ) < 128) := by omega
  have h2 : 128 + (j : ℕ) < 256 := by omega
  unfold k0_pay322 part1
  pointwise [k0_pay119, k0_pay315, k0_pay316, k0_pay317, k0_pay318, k0_pay319, k0_pay320, k0_pay321, k0_pay112, k0_pay113, k0_pay114, k0_pay115, k0_pay116, k0_pay117, k0_pay118]
  fin_vals h with hk
  all_goals simp only [hk, Nat.reduceSub, Nat.reduceLT, ↓reduceDIte]
  all_goals open_payloads
  all_goals pointwise [gs, wt, dot, col, hi, lo]
  all_goals simp only [hk, h1, h2, Nat.reduceMul, Nat.zero_mul, Nat.zero_add, ↓reduceDIte]
  all_goals rfl

theorem ds0_2 (h : Fin 8) (a j : Fin 128) : k0_pay322 (F := Ideal) i x0 x1 x2 x3 x4 x5 x6 x7 x8 x9 x10 x11 (ix3 h a (part2 j)) =
    gs x0 (hi a) x3 (lo j) x10 x6 x5 x8 h (if (a : ℕ) ≤ j then 0 else ⊥) := by
  rw [← bias0_2 i a j]
  have h1 : ¬ (256 + (j : ℕ) < 128) := by omega
  have h2 : ¬ (256 + (j : ℕ) < 256) := by omega
  have h3 : ¬ (256 + (j : ℕ) - 128 < 128) := by omega
  have h4 : 256 + (j : ℕ) - 128 - 128 = j := by omega
  have h5 : 256 + (j : ℕ) - 256 = j := by omega
  unfold k0_pay322 part2
  pointwise [k0_pay119, k0_pay315, k0_pay316, k0_pay317, k0_pay318, k0_pay319, k0_pay320, k0_pay321, k0_pay112, k0_pay113, k0_pay114, k0_pay115, k0_pay116, k0_pay117, k0_pay118]
  fin_vals h with hk
  all_goals simp only [hk, Nat.reduceSub, Nat.reduceLT, ↓reduceDIte]
  all_goals open_payloads
  all_goals pointwise [gs, wt, dot, col, hi, lo]
  all_goals simp only [hk, h1, h2, h3, h4, h5, Nat.reduceMul, Nat.zero_mul, Nat.zero_add, ↓reduceDIte]
  all_goals rfl

theorem p0_1 (h : Fin 8) (a j : Fin 128) : k0_pay323 (F := Ideal) i x0 x1 x2 x3 x4 x5 x6 x7 x8 x9 x10 x11 (ix3 h a (part1 j)) =
    wt x0 (lo a) x3 (lo j) x10 h (if (j : ℕ) ≤ a then 0 else ⊥) := by
  rw [← bias0_1 i a j]
  have h1 : ¬ (128 + (j : ℕ) < 128) := by omega
  have h2 : 128 + (j : ℕ) < 256 := by omega
  unfold k0_pay323 part1
  pointwise [k0_pay120, k0_pay315, k0_pay112]
  fin_vals h with hk
  all_goals simp only [hk, Nat.reduceSub, Nat.reduceLT, ↓reduceDIte]
  all_goals open_payloads
  all_goals pointwise [gs, wt, dot, col, hi, lo]
  all_goals simp only [hk, h1, h2, Nat.reduceMul, Nat.zero_mul, Nat.zero_add, ↓reduceDIte]
  all_goals rfl

theorem p0_2 (h : Fin 8) (a j : Fin 128) : k0_pay323 (F := Ideal) i x0 x1 x2 x3 x4 x5 x6 x7 x8 x9 x10 x11 (ix3 h a (part2 j)) =
    wt x0 (hi a) x3 (lo j) x10 h (if (a : ℕ) ≤ j then 0 else ⊥) := by
  rw [← bias0_2 i a j]
  have h1 : ¬ (256 + (j : ℕ) < 128) := by omega
  have h2 : ¬ (256 + (j : ℕ) < 256) := by omega
  have h3 : ¬ (256 + (j : ℕ) - 128 < 128) := by omega
  have h4 : 256 + (j : ℕ) - 128 - 128 = j := by omega
  have h5 : 256 + (j : ℕ) - 256 = j := by omega
  unfold k0_pay323 part2
  pointwise [k0_pay120, k0_pay315, k0_pay112]
  fin_vals h with hk
  all_goals simp only [hk, Nat.reduceSub, Nat.reduceLT, ↓reduceDIte]
  all_goals open_payloads
  all_goals pointwise [gs, wt, dot, col, hi, lo]
  all_goals simp only [hk, h1, h2, h3, h4, h5, Nat.reduceMul, Nat.zero_mul, Nat.zero_add, ↓reduceDIte]
  all_goals rfl

end Cert.KernelIdeal.Block

end
-- ==== Proof.Second.lean ====
/-
  The second 128 rows of a grid point: its stacked weights and score gradients, read at a head, a row and a column.
-/
module

public import proofs.«01_k».proof.Proof.Block

@[expose] public section

set_option maxRecDepth 16384
set_option maxHeartbeats 1000000

noncomputable section

namespace Cert.KernelIdeal.Block

open Cert.KernelIdeal Cert.KernelIdeal.Gen Idealize.ShloMosaic Idealize.ShloMosaic.TcCoe Idealize.SL.Sem

variable (i : grid0.Coords) (x0 : Vec Ideal S256x512 .bf16) (x1 : Vec Ideal S128x512 .bf16) (x2 : Vec Ideal S128x512 .bf16)
  (x3 : Vec Ideal S256x512 .bf16) (x4 : Vec Ideal S128x512 .bf16) (x5 : Vec Ideal S256x512 .bf16) (x6 : Vec Ideal S256x512 .f32)
  (x7 : Vec Ideal S128x512 .f32) (x8 : Vec Ideal S256x512 .f32) (x9 : Vec Ideal S128x512 .f32) (x10 : Vec Ideal S256x512 .f32)
  (x11 : Vec Ideal S128x512 .f32)

theorem ds1_0 (h : Fin 8) (a j : Fin 128) : k0_pay377 (F := Ideal) i x0 x1 x2 x3 x4 x5 x6 x7 x8 x9 x10 x11 (ix3 h a (part0 j)) =
    gs x0 (hi a) x3 (lo j) x10 x6 x5 x8 h (if (a : ℕ) ≤ j then 0 else ⊥) := by
  rw [← bias1_0 i x0 x1 x2 x3 x4 x5 x6 x7 x8 x9 x10 x11 a j]
  have h1 : (j : ℕ) < 128 := j.2
  have h2 : (j : ℕ) < 256 := by omega
  unfold k0_pay377 part0
  pointwise [k0_pay262, k0_pay261]
  fin_vals h with hk
  all_goals simp only [hk, Nat.reduceSub, Nat.reduceLT, ↓reduceDIte]
  all_goals open_payloads
  all_goals pointwise [gs, wt, dot, col, hi, lo]
  all_goals simp only [hk, h1, h2, Nat.reduceMul, Nat.zero_mul, Nat.zero_add, ↓reduceDIte]
  all_goals rfl

theorem ds1_1 (h : Fin 8) (a j : Fin 128) : k0_pay377 (F := Ideal) i x0 x1 x2 x3 x4 x5 x6 x7 x8 x9 x10 x11 (ix3 h a (part1 j)) =
    gs x0 (hi a) x3 (hi j) x10 x6 x5 x8 h (if (j : ℕ) ≤ a then 0 else ⊥) := by
  rw [← bias1_1 i x0 x1 x2 x3 x4 x5 x6 x7 x8 x9 x10 x11 a j]
  have h1 : ¬ (128 + (j : ℕ) < 128) := by omega
  have h2 : 128 + (j : ℕ) < 256 := by omega
  unfold k0_pay377 part1
  pointwise [k0_pay262, k0_pay261]
  fin_vals h with hk
  all_goals simp only [hk, Nat.reduceSub, Nat.reduceLT, ↓reduceDIte]
  all_goals open_payloads
  all_goals pointwise [gs, wt, dot, col, hi, lo]
  all_goals simp only [hk, h1, h2, Nat.reduceMul, Nat.zero_mul, Nat.zero_add, ↓reduceDIte]
  all_goals rfl

theorem ds1_2 (h : Fin 8) (a j : Fin 128) : k0_pay377 (F := Ideal) i x0 x1 x2 x3 x4 x5 x6 x7 x8 x9 x10 x11 (ix3 h a (part2 j)) =
    gs x1 a x3 (hi j) x11 x7 x5 x9 h (if (a : ℕ) ≤ j ∧ (i 1).val < 3 then 0 else ⊥) := by
  rw [← bias1_2 i x0 x1 x2 x3 x4 x5 x6 x7 x8 x9 x10 x11 a j]
  have h1 : ¬ (256 + (j : ℕ) < 128) := by omega
  have h2 : ¬ (256 + (j : ℕ) < 256) := by omega
  have h3 : ¬ (256 + (j : ℕ) - 128 < 128) := by omega
  have h4 : 256 + (j : ℕ) - 128 - 128 = j := by omega
  have h5 : 256 + (j : ℕ) - 256 = j := by omega
  unfold k0_pay377 part2
  pointwise [k0_pay262, k0_pay261]
  fin_vals h with hk
  all_goals simp only [hk, Nat.reduceSub, Nat.reduceLT, ↓reduceDIte]
  all_goals open_payloads
  all_goals pointwise [gs, wt, dot, col, hi, lo]
  all_goals simp only [hk, h1, h2, h3, h4, h5, Nat.reduceMul, Nat.zero_mul, Nat.zero_add, ↓reduceDIte]
  all_goals rfl

theorem p1_1 (h : Fin 8) (a j : Fin 128) : k0_pay378 (F := Ideal) i x0 x1 x2 x3 x4 x5 x6 x7 x8 x9 x10 x11 (ix3 h a (part1 j)) =
    wt x0 (hi a) x3 (hi j) x10 h (if (j : ℕ) ≤ a then 0 else ⊥) := by
  rw [← bias1_1 i x0 x1 x2 x3 x4 x5 x6 x7 x8 x9 x10 x11 a j]
  have h1 : ¬ (128 + (j : ℕ) < 128) := by omega
  have h2 : 128 + (j : ℕ) < 256 := by omega
  unfold k0_pay378 part1
  pointwise [k0_pay263, k0_pay261]
  fin_vals h with hk
  all_goals simp only [hk, Nat.reduceSub, Nat.reduceLT, ↓reduceDIte]
  all_goals open_payloads
  all_goals pointwise [gs, wt, dot, col, hi, lo]
  all_goals simp only [hk, h1, h2, Nat.reduceMul, Nat.zero_mul, Nat.zero_add, ↓reduceDIte]
  all_goals rfl

theorem p1_2 (h : Fin 8) (a j : Fin 128) : k0_pay378 (F := Ideal) i x0 x1 x2 x3 x4 x5 x6 x7 x8 x9 x10 x11 (ix3 h a (part2 j)) =
    wt x1 a x3 (hi j) x11 h (if (a : ℕ) ≤ j ∧ (i 1).val < 3 then 0 else ⊥) := by
  rw [← bias1_2 i x0 x1 x2 x3 x4 x5 x6 x7 x8 x9 x10 x11 a j]
  have h1 : ¬ (256 + (j : ℕ) < 128) := by omega
  have h2 : ¬ (256 + (j : ℕ) < 256) := by omega
  have h3 : ¬ (256 + (j : ℕ) - 128 < 128) := by omega
  have h4 : 256 + (j : ℕ) - 128 - 128 = j := by omega
  have h5 : 256 + (j : ℕ) - 256 = j := by omega
  unfold k0_pay378 part2
  pointwise [k0_pay263, k0_pay261]
  fin_vals h with hk
  all_goals simp only [hk, Nat.reduceSub, Nat.reduceLT, ↓reduceDIte]
  all_goals open_payloads
  all_goals pointwise [gs, wt, dot, col, hi, lo]
  all_goals simp only [hk, h1, h2, h3, h4, h5, Nat.reduceMul, Nat.zero_mul, Nat.zero_add, ↓reduceDIte]
  all_goals rfl

end Cert.KernelIdeal.Block

end
-- ==== Proof.Tiles.lean ====
/-
  The three blocks a grid point writes, each assembled from sixteen stores: two halves of 128 rows, eight heads of 64 columns.
-/
module

public import proofs.«01_k».proof.Proof.Block

@[expose] public section

set_option maxRecDepth 16384
set_option maxHeartbeats 1000000

noncomputable section

namespace Cert.KernelIdeal.Block

open Cert.KernelIdeal Cert.KernelIdeal.Gen Idealize.ShloMosaic Idealize.ShloMosaic.TcCoe Idealize.SL.Sem

variable (i : grid0.Coords) (x0 : Vec Ideal S256x512 .bf16) (x1 : Vec Ideal S128x512 .bf16) (x2 : Vec Ideal S128x512 .bf16)
  (x3 : Vec Ideal S256x512 .bf16) (x4 : Vec Ideal S128x512 .bf16) (x5 : Vec Ideal S256x512 .bf16) (x6 : Vec Ideal S256x512 .f32)
  (x7 : Vec Ideal S128x512 .f32) (x8 : Vec Ideal S256x512 .f32) (x9 : Vec Ideal S128x512 .f32) (x10 : Vec Ideal S256x512 .f32)
  (x11 : Vec Ideal S128x512 .f32)

/-- The head of a column, and the row within its half of the block. -/
def headOf (c : Fin 512) : Fin 8 := ⟨c / 64, by omega⟩
def rowOf (r : Fin 256) : Fin 128 := ⟨r % 128, by omega⟩

/-- The first output block: each query row sums its score gradients against the keys. -/
theorem dq_tile (y : S256x512.Idx) : out0_12 (F := Ideal) i x0 x1 x2 x3 x4 x5 x6 x7 x8 x9 x10 x11 y =
    if (y 0 : ℕ) < 128 then
      (∑ j : Fin 128, k0_pay322 (F := Ideal) i x0 x1 x2 x3 x4 x5 x6 x7 x8 x9 x10 x11
        (ix3 (headOf (y 1)) (rowOf (y 0)) (part0 j)) * x2 (ix2 j (y 1))) +
      ∑ j : Fin 128, k0_pay322 (F := Ideal) i x0 x1 x2 x3 x4 x5 x6 x7 x8 x9 x10 x11
        (ix3 (headOf (y 1)) (rowOf (y 0)) (part1 j)) * x3 (ix2 (lo j) (y 1))
    else
      (∑ j : Fin 128, k0_pay377 (F := Ideal) i x0 x1 x2 x3 x4 x5 x6 x7 x8 x9 x10 x11
        (ix3 (headOf (y 1)) (rowOf (y 0)) (part0 j)) * x3 (ix2 (lo j) (y 1))) +
      ∑ j : Fin 128, k0_pay377 (F := Ideal) i x0 x1 x2 x3 x4 x5 x6 x7 x8 x9 x10 x11
        (ix3 (headOf (y 1)) (rowOf (y 0)) (part1 j)) * x3 (ix2 (hi j) (y 1)) := by
  canon_tiles x h
  case' piece7 => unfold k0_pay264; rw [← k0_pay377]
  case' piece14 => unfold k0_pay124; rw [← k0_pay322]
  case' piece15 => unfold k0_pay121; rw [← k0_pay322]
  all_goals first | rw [if_neg (by omega)] | rw [if_pos (by omega)]
  all_goals open_payloads
  all_goals pointwise [headOf, rowOf, part0, part1, part2, lo, hi]
  all_goals generalize k0_pay322 (F := Ideal) i x0 x1 x2 x3 x4 x5 x6 x7 x8 x9 x10 x11 = T0
  all_goals generalize k0_pay377 (F := Ideal) i x0 x1 x2 x3 x4 x5 x6 x7 x8 x9 x10 x11 = T1
  all_goals
    refine congrArg₂ (· + ·) (Fin.sum_fin_congr fun j => congrArg₂ (· * ·) ?_ ?_)
      (Fin.sum_fin_congr fun j => congrArg₂ (· * ·) ?_ ?_) <;> blk_ext []

/-- The second output block: each key row sums the score gradients against the queries, its own block's and the next one's. -/
theorem dk_tile (y : S256x512.Idx) : out0_13 (F := Ideal) i x0 x1 x2 x3 x4 x5 x6 x7 x8 x9 x10 x11 y =
    if (y 0 : ℕ) < 128 then
      (∑ j : Fin 128, k0_pay322 (F := Ideal) i x0 x1 x2 x3 x4 x5 x6 x7 x8 x9 x10 x11
        (ix3 (headOf (y 1)) j (part1 (rowOf (y 0)))) * x0 (ix2 (lo j) (y 1))) +
      ∑ j : Fin 128, k0_pay322 (F := Ideal) i x0 x1 x2 x3 x4 x5 x6 x7 x8 x9 x10 x11
        (ix3 (headOf (y 1)) j (part2 (rowOf (y 0)))) * x0 (ix2 (hi j) (y 1))
    else
      (∑ j : Fin 128, k0_pay377 (F := Ideal) i x0 x1 x2 x3 x4 x5 x6 x7 x8 x9 x10 x11
        (ix3 (headOf (y 1)) j (part1 (rowOf (y 0)))) * x0 (ix2 (hi j) (y 1))) +
      ∑ j : Fin 128, k0_pay377 (F := Ideal) i x0 x1 x2 x3 x4 x5 x6 x7 x8 x9 x10 x11
        (ix3 (headOf (y 1)) j (part2 (rowOf (y 0)))) * x1 (ix2 j (y 1)) := by
  canon_tiles x h
  case' piece15 => unfold k0_pay123; rw [← k0_pay322]
  all_goals first | rw [if_neg (by omega)] | rw [if_pos (by omega)]
  all_goals open_payloads
  all_goals pointwise [headOf, rowOf, part0, part1, part2, lo, hi]
  all_goals generalize k0_pay322 (F := Ideal) i x0 x1 x2 x3 x4 x5 x6 x7 x8 x9 x10 x11 = T0
  all_goals generalize k0_pay377 (F := Ideal) i x0 x1 x2 x3 x4 x5 x6 x7 x8 x9 x10 x11 = T1
  all_goals
    refine congrArg₂ (· + ·) (Fin.sum_fin_congr fun j => congrArg₂ (· * ·) ?_ ?_)
      (Fin.sum_fin_congr fun j => congrArg₂ (· * ·) ?_ ?_) <;> blk_ext []

/-- The third output block: each value row sums the weights against the queries' gradients. -/
theorem dv_tile (y : S256x512.Idx) : out0_14 (F := Ideal) i x0 x1 x2 x3 x4 x5 x6 x7 x8 x9 x10 x11 y =
    if (y 0 : ℕ) < 128 then
      (∑ j : Fin 128, k0_pay323 (F := Ideal) i x0 x1 x2 x3 x4 x5 x6 x7 x8 x9 x10 x11
        (ix3 (headOf (y 1)) j (part1 (rowOf (y 0)))) * x6 (ix2 (lo j) (y 1))) +
      ∑ j : Fin 128, k0_pay323 (F := Ideal) i x0 x1 x2 x3 x4 x5 x6 x7 x8 x9 x10 x11
        (ix3 (headOf (y 1)) j (part2 (rowOf (y 0)))) * x6 (ix2 (hi j) (y 1))
    else
      (∑ j : Fin 128, k0_pay378 (F := Ideal) i x0 x1 x2 x3 x4 x5 x6 x7 x8 x9 x10 x11
        (ix3 (headOf (y 1)) j (part1 (rowOf (y 0)))) * x6 (ix2 (hi j) (y 1))) +
      ∑ j : Fin 128, k0_pay378 (F := Ideal) i x0 x1 x2 x3 x4 x5 x6 x7 x8 x9 x10 x11
        (ix3 (headOf (y 1)) j (part2 (rowOf (y 0)))) * x7 (ix2 j (y 1)) := by
  canon_tiles x h
  case' piece7 => unfold k0_pay267 k0_pay265 k0_pay266; rw [← k0_pay378]
  case' piece15 => unfold k0_pay122; rw [← k0_pay323]
  all_goals first | rw [if_neg (by omega)] | rw [if_pos (by omega)]
  all_goals open_payloads
  all_goals pointwise [headOf, rowOf, part0, part1, part2, lo, hi]
  all_goals generalize k0_pay323 (F := Ideal) i x0 x1 x2 x3 x4 x5 x6 x7 x8 x9 x10 x11 = T0
  all_goals generalize k0_pay378 (F := Ideal) i x0 x1 x2 x3 x4 x5 x6 x7 x8 x9 x10 x11 = T1
  all_goals
    refine congrArg₂ (· + ·) (Fin.sum_fin_congr fun j => congrArg₂ (· * ·) ?_ ?_)
      (Fin.sum_fin_congr fun j => congrArg₂ (· * ·) ?_ ?_) <;> blk_ext []

end Cert.KernelIdeal.Block

end
-- ==== Proof.Sums.lean ====
/-
  The window with stride four, cut into blocks of 128 rows of one residue: a position's window lies in its own block and
  the one before; the positions whose window holds a given position lie in its own block and the one after.
-/
module

public import proofs.«01_k».proof.Proof.Attention

@[expose] public section

noncomputable section

namespace Attention

/-- A sum over a set of positions that two families of rows list without repetition. -/
theorem sum_two {p : Fin 4096 → Prop} [DecidablePred p] {q s : Fin 128 → Prop} [DecidablePred q] [DecidablePred s]
    (P C : Fin 128 → Fin 4096) (f : Fin 4096 → ℝ) (hP : ∀ i j, q i → q j → P i = P j → i = j) (hC : ∀ i j, C i = C j → i = j)
    (hPC : ∀ i j, q i → P i ≠ C j) (hp : ∀ u, p u ↔ (∃ j, q j ∧ P j = u) ∨ ∃ j, s j ∧ C j = u) :
    (∑ u, if p u then f u else 0) = (∑ j, if q j then f (P j) else 0) + ∑ j, if s j then f (C j) else 0 := by
  classical
  rw [← Finset.sum_filter, ← Finset.sum_filter, ← Finset.sum_filter]
  rw [show Finset.univ.filter p = (Finset.univ.filter q).image P ∪ (Finset.univ.filter s).image C from by
    ext u
    simp [hp u]]
  rw [Finset.sum_union, Finset.sum_image, Finset.sum_image]
  · intro i _ j _ h
    exact hC i j h
  · intro i hi j hj h
    exact hP i j (by simpa using hi) (by simpa using hj) h
  · rw [Finset.disjoint_left]
    intro u hu hv
    obtain ⟨i, hi, rfl⟩ := Finset.mem_image.1 hu
    obtain ⟨j, -, h⟩ := Finset.mem_image.1 hv
    exact hPC i j (by simpa using hi) h.symm

/-- The keys of a query in row `a` of block `B` of residue `r`. -/
theorem sum_keys (B r : ℕ) (hr : r < 4) (a : Fin 128) (t : Fin 4096) (ht : t.val = 512 * B + 4 * a.val + r)
    (P C : Fin 128 → Fin 4096) (c : Prop) [Decidable c] (hc : c ↔ 0 < B)
    (hP : ∀ j, 0 < B → (P j).val + 512 = 512 * B + 4 * j.val + r) (hC : ∀ j, (C j).val = 512 * B + 4 * j.val + r) (f : Fin 4096 → ℝ) :
    (∑ u, if valid 4 t u then f u else 0) =
      (∑ j, if a.val ≤ j.val ∧ c then f (P j) else 0) + ∑ j, if j.val ≤ a.val then f (C j) else 0 := by
  refine sum_two P C f (fun i j hi hj h => ?_) (fun i j h => ?_) (fun i j hi h => ?_) fun u => ⟨fun ⟨h1, h2, h3⟩ => ?_, ?_⟩
  · have hB := hc.1 hi.2
    have := hP i hB; have := hP j hB
    rw [h] at *
    omega
  · have := hC i; have := hC j
    rw [h] at *
    omega
  · have := hP i (hc.1 hi.2); have := hC j
    rw [h] at *
    omega
  · rcases le_or_gt (512 * B + r) u.val with hu | hu
    · refine .inr ⟨⟨(u.val - 512 * B - r) / 4, by omega⟩, by simp; omega, Fin.ext ?_⟩
      rw [hC]
      simp
      omega
    · have hB : 0 < B := by omega
      refine .inl ⟨⟨(u.val + 512 - 512 * B - r) / 4, by omega⟩, ⟨by simp; omega, hc.2 hB⟩, Fin.ext ?_⟩
      have := hP ⟨(u.val + 512 - 512 * B - r) / 4, by omega⟩ hB
      simp at this
      omega
  · rintro (⟨j, ⟨h, hB⟩, rfl⟩ | ⟨j, h, rfl⟩)
    · have := hP j (hc.1 hB)
      exact ⟨by omega, by omega, by omega⟩
    · have := hC j
      exact ⟨by omega, by omega, by omega⟩

/-- The queries that look at the key in row `j` of block `B` of residue `r`. -/
theorem sum_queries (B r : ℕ) (hr : r < 4) (j : Fin 128) (u : Fin 4096) (hu : u.val = 512 * B + 4 * j.val + r)
    (C N : Fin 128 → Fin 4096) (c : Prop) [Decidable c] (hc : c ↔ B < 7) (hC : ∀ a, (C a).val = 512 * B + 4 * a.val + r)
    (hN : ∀ a, B < 7 → (N a).val = 512 * B + 512 + 4 * a.val + r) (f : Fin 4096 → ℝ) :
    (∑ t, if valid 4 t u then f t else 0) =
      (∑ a : Fin 128, if j.val ≤ a.val then f (C a) else 0) + ∑ a : Fin 128, if a.val ≤ j.val ∧ c then f (N a) else 0 := by
  rw [add_comm]
  refine sum_two N C f (fun a b ha hb h => ?_) (fun a b h => ?_) (fun a b ha h => ?_) fun t => ⟨fun ⟨h1, h2, h3⟩ => ?_, ?_⟩
  · have hB := hc.1 ha.2
    have := hN a hB; have := hN b hB
    rw [h] at *
    omega
  · have := hC a; have := hC b
    rw [h] at *
    omega
  · have := hN a (hc.1 ha.2); have := hC b
    rw [h] at *
    omega
  · rcases lt_or_ge t.val (512 * B + 512 + r) with h | h
    · refine .inr ⟨⟨(t.val - 512 * B - r) / 4, by omega⟩, by simp; omega, Fin.ext ?_⟩
      rw [hC]
      simp
      omega
    · have hB : B < 7 := by omega
      refine .inl ⟨⟨(t.val - 512 * B - 512 - r) / 4, by omega⟩, ⟨by simp; omega, hc.2 hB⟩, Fin.ext ?_⟩
      rw [hN _ hB]
      simp
      omega
  · rintro (⟨a, ⟨h, hB⟩, rfl⟩ | ⟨a, h, rfl⟩)
    · have := hN a (hc.1 hB)
      exact ⟨by omega, by omega, by omega⟩
    · have := hC a
      exact ⟨by omega, by omega, by omega⟩

end Attention

end
-- ==== Proof.Point.lean ====
/-
  A grid point's three output blocks when its operands are blocks of real numbers: rows of the branch's three gradients.
-/
module

public import proofs.«01_k».proof.Proof.First
public import proofs.«01_k».proof.Proof.Second
public import proofs.«01_k».proof.Proof.Tiles
public import proofs.«01_k».proof.Proof.Sums

@[expose] public section

set_option maxRecDepth 16384

noncomputable section

namespace Cert.KernelIdeal.Block

open Cert.KernelIdeal Cert.KernelIdeal.Gen Idealize.ShloMosaic Idealize.ShloMosaic.TcCoe Idealize.SL.Sem
open Attention

/-- A block whose row `a` holds the numbers of position `P a`. -/
def Rd {n : ℕ} (A : Arr n) (P : Fin n → Fin 4096) (f : Fin 4096 → Fin 8 → Fin 64 → ℝ) : Prop :=
  ∀ a h e, A (ix2 a (col h e)) = ((f (P a) h e : ℝ) : EReal)

variable {D : Data}

theorem dot_eq {n m : ℕ} {A : Arr n} {P : Fin n → Fin 4096} {f : Fin 4096 → Fin 8 → Fin 64 → ℝ} (hA : Rd A P f) {B : Arr m}
    {R : Fin m → Fin 4096} {g : Fin 4096 → Fin 8 → Fin 64 → ℝ} (hB : Rd B R g) (a : Fin n) (b : Fin m) (h : Fin 8) :
    dot A a B b h = ((∑ e, f (P a) h e * g (R b) h e : ℝ) : EReal) := by
  unfold dot
  rw [← Reals.coe_sum]
  exact Finset.sum_congr rfl fun e _ => by rw [hA, hB, EReal.coe_mul]

theorem wt_eq {n m : ℕ} {Q : Arr n} {P : Fin n → Fin 4096} (hQ : Rd Q P D.q) {K : Arr m} {R : Fin m → Fin 4096}
    (hK : Rd K R D.k) {L : Arr n} (hL : Rd L P fun t h _ => D.lse t h) (a : Fin n) (b : Fin m) (h : Fin 8) (p : Prop) [Decidable p] :
    wt Q a K b L h (if p then 0 else ⊥) = ((if p then D.W h (P a) (R b) else 0 : ℝ) : EReal) := by
  unfold wt
  rw [dot_eq hQ hK, hL, Reals.add_bias, Reals.exp_masked]
  rfl

theorem gs_eq {n m : ℕ} {Q : Arr n} {P : Fin n → Fin 4096} (hQ : Rd Q P D.q) {K : Arr m} {R : Fin m → Fin 4096}
    (hK : Rd K R D.k) {L : Arr n} (hL : Rd L P fun t h _ => D.lse t h) {O : Arr n} (hO : Rd O P D.ct) {V : Arr m} (hV : Rd V R D.v)
    {M : Arr n} (hM : Rd M P D.mix) (a : Fin n) (b : Fin m) (h : Fin 8) (p : Prop) [Decidable p] :
    gs Q a K b L O V M h (if p then 0 else ⊥) = ((if p then D.G h (P a) (R b) else 0 : ℝ) : EReal) := by
  unfold gs
  rw [wt_eq hQ hK hL, dot_eq hO hV, dot_eq hO hM, ← EReal.coe_sub, ← EReal.coe_mul, ite_mul, zero_mul]
  rfl

/-- A sum of masked reals times reals. -/
theorem sum_masked (p : Fin 128 → Prop) [DecidablePred p] (T A : Fin 128 → EReal) (g k : Fin 128 → ℝ)
    (hT : ∀ j, T j = ((if p j then g j else 0 : ℝ) : EReal)) (hA : ∀ j, A j = (k j : EReal)) :
    ∑ j, T j * A j = ((∑ j, if p j then g j * k j else 0 : ℝ) : EReal) := by
  rw [← Reals.coe_sum]
  exact Finset.sum_congr rfl fun j _ => by rw [hT, hA, ← EReal.coe_mul, ite_mul, zero_mul]

section

variable (i : grid0.Coords) (x0 : Vec Ideal S256x512 .bf16) (x1 : Vec Ideal S128x512 .bf16) (x2 : Vec Ideal S128x512 .bf16)
  (x3 : Vec Ideal S256x512 .bf16) (x4 : Vec Ideal S128x512 .bf16) (x5 : Vec Ideal S256x512 .bf16) (x6 : Vec Ideal S256x512 .f32)
  (x7 : Vec Ideal S128x512 .f32) (x8 : Vec Ideal S256x512 .f32) (x9 : Vec Ideal S128x512 .f32) (x10 : Vec Ideal S256x512 .f32)
  (x11 : Vec Ideal S128x512 .f32)

/-- The operands of grid point `i` are the rows of pair `n` and residue `r`, of the block before and of the one after. -/
structure Tile (D : Data) (n r : ℕ) (P0 : Fin 256 → Fin 4096) (PP PN : Fin 128 → Fin 4096) : Prop where
  d : D.d = 4
  hr : r < 4
  hn : (i 1).val = n
  n_lt : n < 4
  cur : ∀ a, (P0 a).val = 1024 * n + 4 * a.val + r
  prev : ∀ j, 0 < n → (PP j).val + 512 = 1024 * n + 4 * j.val + r
  next : ∀ a, n < 3 → (PN a).val = 1024 * n + 1024 + 4 * a.val + r
  q : Rd x0 P0 D.q
  qn : Rd x1 PN D.q
  kp : Rd x2 PP D.k
  k : Rd x3 P0 D.k
  vp : Rd x4 PP D.v
  v : Rd x5 P0 D.v
  ct : Rd x6 P0 D.ct
  ctn : Rd x7 PN D.ct
  mix : Rd x8 P0 D.mix
  mixn : Rd x9 PN D.mix
  lse : Rd x10 P0 fun t h _ => D.lse t h
  lsen : Rd x11 PN fun t h _ => D.lse t h

end

variable {i : grid0.Coords} {x0 : Vec Ideal S256x512 .bf16} {x1 : Vec Ideal S128x512 .bf16} {x2 : Vec Ideal S128x512 .bf16}
  {x3 : Vec Ideal S256x512 .bf16} {x4 : Vec Ideal S128x512 .bf16} {x5 : Vec Ideal S256x512 .bf16} {x6 : Vec Ideal S256x512 .f32}
  {x7 : Vec Ideal S128x512 .f32} {x8 : Vec Ideal S256x512 .f32} {x9 : Vec Ideal S128x512 .f32} {x10 : Vec Ideal S256x512 .f32}
  {x11 : Vec Ideal S128x512 .f32}
variable {n r : ℕ} {P0 : Fin 256 → Fin 4096} {PP PN : Fin 128 → Fin 4096} (hT : Tile i x0 x1 x2 x3 x4 x5 x6 x7 x8 x9 x10 x11 D n r P0 PP PN)

include hT

/-- Rows of the queries' gradient. -/
theorem dq_point (ρ : Fin 256) (h : Fin 8) (e : Fin 64) : out0_12 (F := Ideal) i x0 x1 x2 x3 x4 x5 x6 x7 x8 x9 x10 x11 (ix2 ρ (col h e)) = ((D.dqR (P0 ρ) h e : ℝ) : EReal) := by
  have hh : headOf (col h e) = h := Fin.ext (by simp [headOf, col]; omega)
  rw [dq_tile, D.dqR_eq, hT.d]
  rcases lt_or_ge ρ.val 128 with hρ | hρ
  · obtain ⟨a, rfl⟩ : ∃ a, ρ = lo a := ⟨⟨ρ, hρ⟩, rfl⟩
    have ha : rowOf (lo a) = a := Fin.ext (by simp [rowOf, lo])
    rw [if_pos (show ((ix2 (lo a) (col h e) : S256x512.Idx) 0 : ℕ) < 128 from hρ)]
    rw [sum_keys (2 * n) r hT.hr a _ ((hT.cur _).trans (by simp [lo]; omega)) PP (fun j => P0 (lo j)) (0 < (i 1).val)
      (by rw [hT.hn]; omega) (fun j hB => (hT.prev j (by omega)).trans (by omega)) (fun j => (hT.cur _).trans (by simp [lo]; omega)),
      EReal.coe_add]
    refine congrArg₂ (· + ·) (sum_masked _ _ _ _ _ (fun j => ?_) fun j => hT.kp j h e) (sum_masked _ _ _ _ _ (fun j => ?_) fun j => hT.k (lo j) h e)
    · exact (congrArg₂ (fun b c => k0_pay322 (F := Ideal) i x0 x1 x2 x3 x4 x5 x6 x7 x8 x9 x10 x11 (ix3 b c _)) hh ha).trans
        ((ds0_0 i x0 x1 x2 x3 x4 x5 x6 x7 x8 x9 x10 x11 h a j).trans (gs_eq hT.q hT.kp hT.lse hT.ct hT.vp hT.mix _ _ _ _))
    · exact (congrArg₂ (fun b c => k0_pay322 (F := Ideal) i x0 x1 x2 x3 x4 x5 x6 x7 x8 x9 x10 x11 (ix3 b c _)) hh ha).trans
        ((ds0_1 i x0 x1 x2 x3 x4 x5 x6 x7 x8 x9 x10 x11 h a j).trans (gs_eq hT.q hT.k hT.lse hT.ct hT.v hT.mix _ _ _ _))
  · obtain ⟨a, rfl⟩ : ∃ a, ρ = hi a := ⟨⟨ρ - 128, by omega⟩, Fin.ext (by simp [hi]; omega)⟩
    have ha : rowOf (hi a) = a := Fin.ext (by simp [rowOf, hi])
    rw [if_neg (show ¬ ((ix2 (hi a) (col h e) : S256x512.Idx) 0 : ℕ) < 128 from not_lt.2 hρ)]
    rw [sum_keys (2 * n + 1) r hT.hr a _ ((hT.cur _).trans (by simp [hi]; omega)) (fun j => P0 (lo j)) (fun j => P0 (hi j)) True
      (by simp) (fun j hB => by rw [hT.cur]; simp [lo]; omega) (fun j => (hT.cur _).trans (by simp [hi]; omega)),
      EReal.coe_add]
    simp only [and_true]
    refine congrArg₂ (· + ·) (sum_masked _ _ _ _ _ (fun j => ?_) fun j => hT.k (lo j) h e) (sum_masked _ _ _ _ _ (fun j => ?_) fun j => hT.k (hi j) h e)
    · exact (congrArg₂ (fun b c => k0_pay377 (F := Ideal) i x0 x1 x2 x3 x4 x5 x6 x7 x8 x9 x10 x11 (ix3 b c _)) hh ha).trans
        ((ds1_0 i x0 x1 x2 x3 x4 x5 x6 x7 x8 x9 x10 x11 h a j).trans (gs_eq hT.q hT.k hT.lse hT.ct hT.v hT.mix _ _ _ _))
    · exact (congrArg₂ (fun b c => k0_pay377 (F := Ideal) i x0 x1 x2 x3 x4 x5 x6 x7 x8 x9 x10 x11 (ix3 b c _)) hh ha).trans
        ((ds1_1 i x0 x1 x2 x3 x4 x5 x6 x7 x8 x9 x10 x11 h a j).trans (gs_eq hT.q hT.k hT.lse hT.ct hT.v hT.mix _ _ _ _))

/-- Rows of the keys' gradient. -/
theorem dk_point (ρ : Fin 256) (h : Fin 8) (e : Fin 64) : out0_13 (F := Ideal) i x0 x1 x2 x3 x4 x5 x6 x7 x8 x9 x10 x11 (ix2 ρ (col h e)) = ((D.dkR (P0 ρ) h e : ℝ) : EReal) := by
  have hh : headOf (col h e) = h := Fin.ext (by simp [headOf, col]; omega)
  rw [dk_tile, D.dkR_eq, hT.d]
  rcases lt_or_ge ρ.val 128 with hρ | hρ
  · obtain ⟨a, rfl⟩ : ∃ a, ρ = lo a := ⟨⟨ρ, hρ⟩, rfl⟩
    have ha : rowOf (lo a) = a := Fin.ext (by simp [rowOf, lo])
    rw [if_pos (show ((ix2 (lo a) (col h e) : S256x512.Idx) 0 : ℕ) < 128 from hρ)]
    rw [sum_queries (2 * n) r hT.hr a _ ((hT.cur _).trans (by simp [lo]; omega)) (fun j => P0 (lo j)) (fun j => P0 (hi j)) True
      (by have := hT.n_lt; simp; omega) (fun j => (hT.cur _).trans (by simp [lo]; omega)) (fun j hB => by rw [hT.cur]; simp [hi]; omega),
      EReal.coe_add]
    simp only [and_true]
    refine congrArg₂ (· + ·) (sum_masked _ _ _ _ _ (fun j => ?_) fun j => hT.q (lo j) h e) (sum_masked _ _ _ _ _ (fun j => ?_) fun j => hT.q (hi j) h e)
    · exact (congrArg₂ (fun b c => k0_pay322 (F := Ideal) i x0 x1 x2 x3 x4 x5 x6 x7 x8 x9 x10 x11 (ix3 b j (part1 c))) hh ha).trans
        ((ds0_1 i x0 x1 x2 x3 x4 x5 x6 x7 x8 x9 x10 x11 h j a).trans (gs_eq hT.q hT.k hT.lse hT.ct hT.v hT.mix _ _ _ _))
    · exact (congrArg₂ (fun b c => k0_pay322 (F := Ideal) i x0 x1 x2 x3 x4 x5 x6 x7 x8 x9 x10 x11 (ix3 b j (part2 c))) hh ha).trans
        ((ds0_2 i x0 x1 x2 x3 x4 x5 x6 x7 x8 x9 x10 x11 h j a).trans (gs_eq hT.q hT.k hT.lse hT.ct hT.v hT.mix _ _ _ _))
  · obtain ⟨a, rfl⟩ : ∃ a, ρ = hi a := ⟨⟨ρ - 128, by omega⟩, Fin.ext (by simp [hi]; omega)⟩
    have ha : rowOf (hi a) = a := Fin.ext (by simp [rowOf, hi])
    rw [if_neg (show ¬ ((ix2 (hi a) (col h e) : S256x512.Idx) 0 : ℕ) < 128 from not_lt.2 hρ)]
    rw [sum_queries (2 * n + 1) r hT.hr a _ ((hT.cur _).trans (by simp [hi]; omega)) (fun j => P0 (hi j)) PN ((i 1).val < 3)
      (by rw [hT.hn]; omega) (fun j => (hT.cur _).trans (by simp [hi]; omega)) (fun j hB => (hT.next j (by omega)).trans (by omega)),
      EReal.coe_add]
    refine congrArg₂ (· + ·) (sum_masked _ _ _ _ _ (fun j => ?_) fun j => hT.q (hi j) h e) (sum_masked _ _ _ _ _ (fun j => ?_) fun j => hT.qn j h e)
    · exact (congrArg₂ (fun b c => k0_pay377 (F := Ideal) i x0 x1 x2 x3 x4 x5 x6 x7 x8 x9 x10 x11 (ix3 b j (part1 c))) hh ha).trans
        ((ds1_1 i x0 x1 x2 x3 x4 x5 x6 x7 x8 x9 x10 x11 h j a).trans (gs_eq hT.q hT.k hT.lse hT.ct hT.v hT.mix _ _ _ _))
    · exact (congrArg₂ (fun b c => k0_pay377 (F := Ideal) i x0 x1 x2 x3 x4 x5 x6 x7 x8 x9 x10 x11 (ix3 b j (part2 c))) hh ha).trans
        ((ds1_2 i x0 x1 x2 x3 x4 x5 x6 x7 x8 x9 x10 x11 h j a).trans (gs_eq hT.qn hT.k hT.lsen hT.ctn hT.v hT.mixn _ _ _ _))

/-- Rows of the values' gradient. -/
theorem dv_point (ρ : Fin 256) (h : Fin 8) (e : Fin 64) : out0_14 (F := Ideal) i x0 x1 x2 x3 x4 x5 x6 x7 x8 x9 x10 x11 (ix2 ρ (col h e)) = ((D.dvR (P0 ρ) h e : ℝ) : EReal) := by
  have hh : headOf (col h e) = h := Fin.ext (by simp [headOf, col]; omega)
  rw [dv_tile, D.dvR_eq, hT.d]
  rcases lt_or_ge ρ.val 128 with hρ | hρ
  · obtain ⟨a, rfl⟩ : ∃ a, ρ = lo a := ⟨⟨ρ, hρ⟩, rfl⟩
    have ha : rowOf (lo a) = a := Fin.ext (by simp [rowOf, lo])
    rw [if_pos (show ((ix2 (lo a) (col h e) : S256x512.Idx) 0 : ℕ) < 128 from hρ)]
    rw [sum_queries (2 * n) r hT.hr a _ ((hT.cur _).trans (by simp [lo]; omega)) (fun j => P0 (lo j)) (fun j => P0 (hi j)) True
      (by have := hT.n_lt; simp; omega) (fun j => (hT.cur _).trans (by simp [lo]; omega)) (fun j hB => by rw [hT.cur]; simp [hi]; omega),
      EReal.coe_add]
    simp only [and_true]
    refine congrArg₂ (· + ·) (sum_masked _ _ _ _ _ (fun j => ?_) fun j => hT.ct (lo j) h e) (sum_masked _ _ _ _ _ (fun j => ?_) fun j => hT.ct (hi j) h e)
    · exact (congrArg₂ (fun b c => k0_pay323 (F := Ideal) i x0 x1 x2 x3 x4 x5 x6 x7 x8 x9 x10 x11 (ix3 b j (part1 c))) hh ha).trans
        ((p0_1 i x0 x1 x2 x3 x4 x5 x6 x7 x8 x9 x10 x11 h j a).trans (wt_eq hT.q hT.k hT.lse _ _ _ _))
    · exact (congrArg₂ (fun b c => k0_pay323 (F := Ideal) i x0 x1 x2 x3 x4 x5 x6 x7 x8 x9 x10 x11 (ix3 b j (part2 c))) hh ha).trans
        ((p0_2 i x0 x1 x2 x3 x4 x5 x6 x7 x8 x9 x10 x11 h j a).trans (wt_eq hT.q hT.k hT.lse _ _ _ _))
  · obtain ⟨a, rfl⟩ : ∃ a, ρ = hi a := ⟨⟨ρ - 128, by omega⟩, Fin.ext (by simp [hi]; omega)⟩
    have ha : rowOf (hi a) = a := Fin.ext (by simp [rowOf, hi])
    rw [if_neg (show ¬ ((ix2 (hi a) (col h e) : S256x512.Idx) 0 : ℕ) < 128 from not_lt.2 hρ)]
    rw [sum_queries (2 * n + 1) r hT.hr a _ ((hT.cur _).trans (by simp [hi]; omega)) (fun j => P0 (hi j)) PN ((i 1).val < 3)
      (by rw [hT.hn]; omega) (fun j => (hT.cur _).trans (by simp [hi]; omega)) (fun j hB => (hT.next j (by omega)).trans (by omega)),
      EReal.coe_add]
    refine congrArg₂ (· + ·) (sum_masked _ _ _ _ _ (fun j => ?_) fun j => hT.ct (hi j) h e) (sum_masked _ _ _ _ _ (fun j => ?_) fun j => hT.ctn j h e)
    · exact (congrArg₂ (fun b c => k0_pay378 (F := Ideal) i x0 x1 x2 x3 x4 x5 x6 x7 x8 x9 x10 x11 (ix3 b j (part1 c))) hh ha).trans
        ((p1_1 i x0 x1 x2 x3 x4 x5 x6 x7 x8 x9 x10 x11 h j a).trans (wt_eq hT.q hT.k hT.lse _ _ _ _))
    · exact (congrArg₂ (fun b c => k0_pay378 (F := Ideal) i x0 x1 x2 x3 x4 x5 x6 x7 x8 x9 x10 x11 (ix3 b j (part2 c))) hh ha).trans
        ((p1_2 i x0 x1 x2 x3 x4 x5 x6 x7 x8 x9 x10 x11 h j a).trans (wt_eq hT.qn hT.k hT.lsen _ _ _ _))

end Cert.KernelIdeal.Block

end
-- ==== Proof.Final.lean ====
/-
  The three arrays the kernel leaves: in the layout by residue, the branch's gradients.
-/
module

public import proofs.«01_k».proof.Proof.Point
public import proofs.«01_k».proof.Proof.Operands
public import proofs.«01_k».proof.Proof.Gen.KernelIdeal.Value

@[expose] public section

set_option maxRecDepth 16384

noncomputable section

namespace Cert.KernelIdeal.Final

open Cert.KernelIdeal Cert.KernelIdeal.Gen Idealize.ShloMosaic Idealize.ShloMosaic.TcCoe Idealize.SL.Sem
open Cert.KernelIdeal.Block Cert.KernelIdeal.Operands
open Attention (Data)
open Cert.ReferenceIdeal.Values (Shifts)

theorem idx : ∀ t : Fin cfg0.N, (grid0.coords t 1).val = t.val % 4 ∧ t.val < 16
    ∧ win0_0.index t = ![t.val % 4, t.val / 4] ∧ win0_1.index t = ![min (2 * (t.val % 4) + 2) 7, t.val / 4]
    ∧ win0_2.index t = ![2 * (t.val % 4) - 1, t.val / 4] ∧ win0_3.index t = ![t.val % 4, t.val / 4]
    ∧ win0_4.index t = ![2 * (t.val % 4) - 1, t.val / 4] ∧ win0_5.index t = ![t.val % 4, t.val / 4]
    ∧ win0_6.index t = ![t.val % 4, t.val / 4] ∧ win0_7.index t = ![min (2 * (t.val % 4) + 2) 7, t.val / 4]
    ∧ win0_8.index t = ![t.val % 4, t.val / 4] ∧ win0_9.index t = ![min (2 * (t.val % 4) + 2) 7, t.val / 4]
    ∧ win0_10.index t = ![t.val % 4, t.val / 4] ∧ win0_11.index t = ![min (2 * (t.val % 4) + 2) 7, t.val / 4]
    ∧ win0_12.index t = ![t.val % 4, t.val / 4] ∧ win0_13.index t = ![t.val % 4, t.val / 4]
    ∧ win0_14.index t = ![t.val % 4, t.val / 4] :=
  (by decide +kernel : ∀ t : Fin grid0.N, _)

/-- The positions of the rows of a grid point's own pair of blocks, of the block before and of the block after. -/
def own (t : Fin 16) (a : Fin 256) : Fin 4096 := ⟨1024 * (t.val % 4) + 4 * a.val + t.val / 4, by omega⟩
def before (t : Fin 16) (a : Fin 128) : Fin 4096 := ⟨512 * (2 * (t.val % 4) - 1) + 4 * a.val + t.val / 4, by omega⟩
def after (t : Fin 16) (a : Fin 128) : Fin 4096 := ⟨512 * min (2 * (t.val % 4) + 2) 7 + 4 * a.val + t.val / 4, by omega⟩

/-- The layout by residue, read at a row of residue `r`. -/
theorem place (f : Fin 4096 → Fin 8 → Fin 64 → ℝ) (l : Fin 1024) (y : Fin 2048) (r L : ℕ) (h : Fin 8) (e : Fin 64) (p : Fin 4096)
    (hl : l.val = L) (hy : y.val = 512 * r + (64 * h.val + e.val)) (hp : p.val = 4 * L + r) :
    f (pos l y) (head y) (chan y) = f p h e := by
  rw [show pos l y = p from Fin.ext (by simp only [pos]; omega), show head y = h from Fin.ext (by simp only [head]; omega),
    show chan y = e from Fin.ext (by simp only [chan]; omega)]

variable {m : (ℓ : Loc nD τ sig) → Buf (Elt Ideal) ℓ} {c : Dev nD}

/-! A block of an array in the layout by residue, for each of the twelve windows. -/

theorem blk0 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 0).blk t).view.read (Elt Ideal) A) (own t) f := by
  intro a h e
  have ht := (idx t).2.1
  refine Eq.trans (b := A (ix2 ⟨256 * (t.val % 4) + a, by omega⟩ ⟨512 * (t.val / 4) + (64 * h + e), by omega⟩)) ?_
    ((hA _ _).trans (congrArg _ (place f _ _ (t.val / 4) _ h e _ rfl rfl (by simp only [own]; omega))))
  blk_point [idx t, col]

theorem blk3 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 3).blk t).view.read (Elt Ideal) A) (own t) f := by
  intro a h e
  have ht := (idx t).2.1
  refine Eq.trans (b := A (ix2 ⟨256 * (t.val % 4) + a, by omega⟩ ⟨512 * (t.val / 4) + (64 * h + e), by omega⟩)) ?_
    ((hA _ _).trans (congrArg _ (place f _ _ (t.val / 4) _ h e _ rfl rfl (by simp only [own]; omega))))
  blk_point [idx t, col]

theorem blk5 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 5).blk t).view.read (Elt Ideal) A) (own t) f := by
  intro a h e
  have ht := (idx t).2.1
  refine Eq.trans (b := A (ix2 ⟨256 * (t.val % 4) + a, by omega⟩ ⟨512 * (t.val / 4) + (64 * h + e), by omega⟩)) ?_
    ((hA _ _).trans (congrArg _ (place f _ _ (t.val / 4) _ h e _ rfl rfl (by simp only [own]; omega))))
  blk_point [idx t, col]

theorem blk6 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 6).blk t).view.read (Elt Ideal) A) (own t) f := by
  intro a h e
  have ht := (idx t).2.1
  refine Eq.trans (b := A (ix2 ⟨256 * (t.val % 4) + a, by omega⟩ ⟨512 * (t.val / 4) + (64 * h + e), by omega⟩)) ?_
    ((hA _ _).trans (congrArg _ (place f _ _ (t.val / 4) _ h e _ rfl rfl (by simp only [own]; omega))))
  blk_point [idx t, col]

theorem blk8 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 8).blk t).view.read (Elt Ideal) A) (own t) f := by
  intro a h e
  have ht := (idx t).2.1
  refine Eq.trans (b := A (ix2 ⟨256 * (t.val % 4) + a, by omega⟩ ⟨512 * (t.val / 4) + (64 * h + e), by omega⟩)) ?_
    ((hA _ _).trans (congrArg _ (place f _ _ (t.val / 4) _ h e _ rfl rfl (by simp only [own]; omega))))
  blk_point [idx t, col]

theorem blk10 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 10).blk t).view.read (Elt Ideal) A) (own t) f := by
  intro a h e
  have ht := (idx t).2.1
  refine Eq.trans (b := A (ix2 ⟨256 * (t.val % 4) + a, by omega⟩ ⟨512 * (t.val / 4) + (64 * h + e), by omega⟩)) ?_
    ((hA _ _).trans (congrArg _ (place f _ _ (t.val / 4) _ h e _ rfl rfl (by simp only [own]; omega))))
  blk_point [idx t, col]

theorem blk2 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 2).blk t).view.read (Elt Ideal) A) (before t) f := by
  intro a h e
  have ht := (idx t).2.1
  refine Eq.trans (b := A (ix2 ⟨128 * (2 * (t.val % 4) - 1) + a, by omega⟩ ⟨512 * (t.val / 4) + (64 * h + e), by omega⟩)) ?_
    ((hA _ _).trans (congrArg _ (place f _ _ (t.val / 4) _ h e _ rfl rfl (by simp only [before]; omega))))
  blk_point [idx t, col]

theorem blk4 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 4).blk t).view.read (Elt Ideal) A) (before t) f := by
  intro a h e
  have ht := (idx t).2.1
  refine Eq.trans (b := A (ix2 ⟨128 * (2 * (t.val % 4) - 1) + a, by omega⟩ ⟨512 * (t.val / 4) + (64 * h + e), by omega⟩)) ?_
    ((hA _ _).trans (congrArg _ (place f _ _ (t.val / 4) _ h e _ rfl rfl (by simp only [before]; omega))))
  blk_point [idx t, col]

theorem blk1 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 1).blk t).view.read (Elt Ideal) A) (after t) f := by
  intro a h e
  have ht := (idx t).2.1
  refine Eq.trans (b := A (ix2 ⟨128 * min (2 * (t.val % 4) + 2) 7 + a, by omega⟩ ⟨512 * (t.val / 4) + (64 * h + e), by omega⟩)) ?_
    ((hA _ _).trans (congrArg _ (place f _ _ (t.val / 4) _ h e _ rfl rfl (by simp only [after]; omega))))
  blk_point [idx t, col]

theorem blk7 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 7).blk t).view.read (Elt Ideal) A) (after t) f := by
  intro a h e
  have ht := (idx t).2.1
  refine Eq.trans (b := A (ix2 ⟨128 * min (2 * (t.val % 4) + 2) 7 + a, by omega⟩ ⟨512 * (t.val / 4) + (64 * h + e), by omega⟩)) ?_
    ((hA _ _).trans (congrArg _ (place f _ _ (t.val / 4) _ h e _ rfl rfl (by simp only [after]; omega))))
  blk_point [idx t, col]

theorem blk9 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 9).blk t).view.read (Elt Ideal) A) (after t) f := by
  intro a h e
  have ht := (idx t).2.1
  refine Eq.trans (b := A (ix2 ⟨128 * min (2 * (t.val % 4) + 2) 7 + a, by omega⟩ ⟨512 * (t.val / 4) + (64 * h + e), by omega⟩)) ?_
    ((hA _ _).trans (congrArg _ (place f _ _ (t.val / 4) _ h e _ rfl rfl (by simp only [after]; omega))))
  blk_point [idx t, col]

theorem blk11 {A : S1024x2048.Idx → EReal} {f : Fin 4096 → Fin 8 → Fin 64 → ℝ}
    (hA : ∀ l y, A (ix2 l y) = ((f (pos l y) (head y) (chan y) : ℝ) : EReal)) (t : Fin cfg0.N) :
    Rd (((cfg0.win 11).blk t).view.read (Elt Ideal) A) (after t) f := by
  intro a h e
  have ht := (idx t).2.1
  refine Eq.trans (b := A (ix2 ⟨128 * min (2 * (t.val % 4) + 2) 7 + a, by omega⟩ ⟨512 * (t.val / 4) + (64 * h + e), by omega⟩)) ?_
    ((hA _ _).trans (congrArg _ (place f _ _ (t.val / 4) _ h e _ rfl rfl (by simp only [after]; omega))))
  blk_point [idx t, col]

variable {D : Data} (hD : Shifts D) (hm : Args m c D)

include hD hm

theorem tile (t : Fin cfg0.N) : Tile (grid0.coords t)
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    D (t.val % 4) (t.val / 4) (own t) (before t) (after t) where
  d := hD.d
  hr := by have := (idx t).2.1; omega
  hn := (idx t).1
  n_lt := by omega
  cur _ := rfl
  prev j hn := by simp only [before]; omega
  next a hn := by simp only [after]; omega
  q := blk0 (q_at hm) t
  qn := blk1 (q_at hm) t
  kp := blk2 (k_at hm) t
  k := blk3 (k_at hm) t
  vp := blk4 (v_at hm) t
  v := blk5 (v_at hm) t
  ct := blk6 (ct_at hm) t
  ctn := blk7 (ct_at hm) t
  mix := blk8 (mix_at' hD hm) t
  mixn := blk9 (mix_at' hD hm) t
  lse := blk10 (f := fun t h _ => D.lse t h) (lse_at hD hm) t
  lsen := blk11 (f := fun t h _ => D.lse t h) (lse_at hD hm) t

/-- The queries' gradient. -/
theorem dq_final : (dats m 0 c).arrAt 12 cfg0.N =
    fun j : S1024x2048.Idx => ((D.dqR (pos (j 0) (j 1)) (head (j 1)) (chan (j 1)) : ℝ) : EReal) := by
  refine (dats m 0 c).arrAt_eq_of_covers 12 _ (by decide +kernel) fun t _ y => ?_
  blk_simp
  rw [after0_12]
  obtain ⟨ρ, γ, rfl⟩ : ∃ (ρ : Fin 256) (γ : Fin 512), y = ix2 ρ γ := ⟨y 0, y 1, by blk_ext []⟩
  obtain ⟨h, e, rfl⟩ : ∃ h e, γ = col h e := ⟨⟨γ / 64, by omega⟩, ⟨γ % 64, by omega⟩, Fin.ext (by simp only [col]; omega)⟩
  have ht := (idx t).2.1
  have e0 : (((cfg0.win 12).blk t).view.emb (ix2 ρ (col h e)) 0 : ℕ) = 256 * (t.val % 4) + ρ := by
    blk_simp [idx t]
    omega
  have e1 : (((cfg0.win 12).blk t).view.emb (ix2 ρ (col h e)) 1 : ℕ) = 512 * (t.val / 4) + (64 * h + e) := by
    blk_simp [idx t]
    simp only [col]
    omega
  exact (dq_point (tile hD hm t) ρ h e).trans (congrArg _ (place D.dqR _ _ (t.val / 4) _ h e (own t ρ) e0 e1
    (by simp only [own]; omega)).symm)

/-- The keys' gradient. -/
theorem dk_final : (dats m 0 c).arrAt 13 cfg0.N =
    fun j : S1024x2048.Idx => ((D.dkR (pos (j 0) (j 1)) (head (j 1)) (chan (j 1)) : ℝ) : EReal) := by
  refine (dats m 0 c).arrAt_eq_of_covers 13 _ (by decide +kernel) fun t _ y => ?_
  blk_simp
  rw [after0_13]
  obtain ⟨ρ, γ, rfl⟩ : ∃ (ρ : Fin 256) (γ : Fin 512), y = ix2 ρ γ := ⟨y 0, y 1, by blk_ext []⟩
  obtain ⟨h, e, rfl⟩ : ∃ h e, γ = col h e := ⟨⟨γ / 64, by omega⟩, ⟨γ % 64, by omega⟩, Fin.ext (by simp only [col]; omega)⟩
  have ht := (idx t).2.1
  have e0 : (((cfg0.win 13).blk t).view.emb (ix2 ρ (col h e)) 0 : ℕ) = 256 * (t.val % 4) + ρ := by
    blk_simp [idx t]
    omega
  have e1 : (((cfg0.win 13).blk t).view.emb (ix2 ρ (col h e)) 1 : ℕ) = 512 * (t.val / 4) + (64 * h + e) := by
    blk_simp [idx t]
    simp only [col]
    omega
  exact (dk_point (tile hD hm t) ρ h e).trans (congrArg _ (place D.dkR _ _ (t.val / 4) _ h e (own t ρ) e0 e1
    (by simp only [own]; omega)).symm)

/-- The values' gradient. -/
theorem dv_final : (dats m 0 c).arrAt 14 cfg0.N =
    fun j : S1024x2048.Idx => ((D.dvR (pos (j 0) (j 1)) (head (j 1)) (chan (j 1)) : ℝ) : EReal) := by
  refine (dats m 0 c).arrAt_eq_of_covers 14 _ (by decide +kernel) fun t _ y => ?_
  blk_simp
  rw [after0_14]
  obtain ⟨ρ, γ, rfl⟩ : ∃ (ρ : Fin 256) (γ : Fin 512), y = ix2 ρ γ := ⟨y 0, y 1, by blk_ext []⟩
  obtain ⟨h, e, rfl⟩ : ∃ h e, γ = col h e := ⟨⟨γ / 64, by omega⟩, ⟨γ % 64, by omega⟩, Fin.ext (by simp only [col]; omega)⟩
  have ht := (idx t).2.1
  have e0 : (((cfg0.win 14).blk t).view.emb (ix2 ρ (col h e)) 0 : ℕ) = 256 * (t.val % 4) + ρ := by
    blk_simp [idx t]
    omega
  have e1 : (((cfg0.win 14).blk t).view.emb (ix2 ρ (col h e)) 1 : ℕ) = 512 * (t.val / 4) + (64 * h + e) := by
    blk_simp [idx t]
    simp only [col]
    omega
  exact (dv_point (tile hD hm t) ρ h e).trans (congrArg _ (place D.dvR _ _ (t.val / 4) _ h e (own t ρ) e0 e1
    (by simp only [own]; omega)).symm)

end Cert.KernelIdeal.Final

end
-- ==== Proof.RefValue.lean ====
/-
  The reference's gradients at an index: the real numbers `Attention.Data.dqR`, `dkR`, `dvR`.
-/
module

public import proofs.«01_k».proof.Proof.Gen.ReferenceIdeal.Read
public import proofs.«01_k».proof.Proof.RefForward
public import Idealize.ShloMosaic.Lib.Pipeline.ValueKit

@[expose] public section

set_option maxRecDepth 16384

noncomputable section

namespace Cert.ReferenceIdeal.Values

open Cert.ReferenceIdeal Cert.ReferenceIdeal.Gen Cert.ReferenceIdeal.Read Idealize.ShloMosaic Idealize.SL.Sem
open Attention (Data valid)

variable {D : Data} (hD : Shifts D)

include hD

/-- The gradients of the mixture's weights. -/
theorem g3_at (i : Fin 3) (t : Fin 4096) (h : Fin 8) :
    val_main_v98 (F := Ideal) (arr3 D.q) (arr3 D.k) (arr3 D.v) (arr3 D.o1) (arr3 D.o16) (arr3 D.ct) (ix3 i t h)
      = ((D.g3 i t h : ℝ) : EReal) := by
  pointwise [val_main_v98, val_main_cst_23, val_main_v91, val_main_v90, val_main_cst_22, val_main_v89, val_main_v86,
    o3_at hD, arr3_at]
  simp only [← EReal.coe_mul, Reals.coe_sum, Finset.univ_unique, Finset.sum_singleton]
  rfl

/-- The gradients of the three logarithms. -/
theorem gL_at (i : Fin 3) (t : Fin 4096) (h : Fin 8) :
    val_main_v110 (F := Ideal) (arr3 D.q) (arr3 D.k) (arr3 D.v) (arr3 D.o1) (arr2 D.l1) (arr3 D.o16) (arr2 D.l16) (arr3 D.ct) (ix3 i t h)
      = ((D.gL i t h : ℝ) : EReal) := by
  pointwise [val_main_v110, val_main_v109, val_main_v108, val_main_v107, val_main_cst_25, val_main_v106, val_main_v105,
    val_main_v104, val_main_v103, val_main_v102, val_main_cst_24, val_main_v101, val_main_v100, val_main_v99,
    val_main_v75, val_main_v74, val_main_cst_18, val_main_v73, val_main_v70, g3_at hD, x3_at hD, s3_at hD]
  have hs := (D.s3_pos t h).ne'
  rw [← EReal.coe_one]
  simp only [← EReal.coe_mul, Reals.div_coe_coe _ hs, Reals.div_coe_coe _ (mul_ne_zero hs hs), Reals.coe_sum,
    ← EReal.coe_neg, ← EReal.coe_add, Finset.univ_unique, Finset.sum_singleton]
  rfl

/-- The gradient of the branch's logarithm. -/
theorem gL1_at (h : Fin 8) (t : Fin 4096) :
    val_main_v118 (F := Ideal) (arr3 D.q) (arr3 D.k) (arr3 D.v) (arr3 D.o1) (arr2 D.l1) (arr3 D.o16) (arr2 D.l16) (arr3 D.ct) (ix3 h t 0)
      = ((D.gL 1 t h : ℝ) : EReal) := by
  pointwise [val_main_v118, val_main_v117, val_main_v114, val_main_v113, gL_at hD]

/-- The gradient of the branch's output. -/
theorem gout_at (h : Fin 8) (e : Fin 64) (t : Fin 4096) :
    val_main_v120 (F := Ideal) (arr3 D.q) (arr3 D.k) (arr2 D.l1) (arr2 D.l16) (arr3 D.ct) (ix3 h e t)
      = ((D.gout t h e : ℝ) : EReal) := by
  pointwise [val_main_v120, val_main_v95, val_main_v94, val_main_v88, val_main_v87, val_main_v86, val_main_v76,
    alpha_at hD, arr3_at]
  rw [← EReal.coe_mul]
  rfl

/-- The gradients of the normalised weights. -/
theorem dp_at (h : Fin 8) (t u : Fin 4096) :
    val_main_v121 (F := Ideal) (arr3 D.q) (arr3 D.k) (arr3 D.v) (arr2 D.l1) (arr2 D.l16) (arr3 D.ct) (ix3 h t u)
      = ((D.dp h t u : ℝ) : EReal) := by
  pointwise [val_main_v121, gout_at hD, arr3_at]
  simp only [← EReal.coe_mul, Reals.coe_sum]
  rfl

/-- The gradient of the normaliser through the normalised weights. -/
theorem gden_sum_at (h : Fin 8) (t : Fin 4096) :
    val_main_v127 (F := Ideal) (arr3 D.q) (arr3 D.k) (arr3 D.v) (arr2 D.l1) (arr2 D.l16) (arr3 D.ct) (ix2 h t)
      = ((∑ u, D.dp h t u * (1 / (D.den h t * D.den h t)) * D.E h t u : ℝ) : EReal) := by
  pointwise [val_main_v127, val_main_cst_26, val_main_v126, val_main_v125, val_main_v124, val_main_v35_apply,
    val_main_v34_apply, val_main_cst_6_apply, val_main_v33_apply, val_main_v30, den_at hD.toTop, dp_at hD, e_at hD.toTop]
  have hs := (D.den_pos h t).ne'
  rw [← EReal.coe_one]
  simp only [← EReal.coe_mul, Reals.div_coe_coe _ (mul_ne_zero hs hs), Reals.coe_sum]

theorem gden_pos_at (h : Fin 8) (t : Fin 4096) :
    val_main_v119 (F := Ideal) (arr3 D.q) (arr3 D.k) (arr3 D.v) (arr3 D.o1) (arr2 D.l1) (arr3 D.o16) (arr2 D.l16) (arr3 D.ct) (ix3 h t 0)
      = ((D.gL 1 t h / D.den h t : ℝ) : EReal) := by
  pointwise [val_main_v119, gL1_at hD, val_main_v30, den_at hD.toTop]
  exact Reals.div_coe_coe _ (D.den_pos h t).ne'

theorem gden_neg_at (h : Fin 8) (t : Fin 4096) :
    val_main_v129 (F := Ideal) (arr3 D.q) (arr3 D.k) (arr3 D.v) (arr2 D.l1) (arr2 D.l16) (arr3 D.ct) (ix3 h t 0)
      = ((-(∑ u, D.dp h t u * (1 / (D.den h t * D.den h t)) * D.E h t u) : ℝ) : EReal) := by
  pointwise [val_main_v129, val_main_v128, gden_sum_at hD]
  rw [← EReal.coe_neg]

theorem gden_add (h : Fin 8) (t : Fin 4096) :
    val_main_v130 (F := Ideal) (arr3 D.q) (arr3 D.k) (arr3 D.v) (arr3 D.o1) (arr2 D.l1) (arr3 D.o16) (arr2 D.l16) (arr3 D.ct) (ix3 h t 0)
      = ((D.gden h t : ℝ) : EReal) := by
  rw [val_main_v130_apply, Ideal.addf_def, gden_pos_at hD, gden_neg_at hD, ← EReal.coe_add]
  rfl

/-- The gradient of the normaliser. -/
theorem gden_at (h : Fin 8) (t : Fin 4096) :
    val_main_v133 (F := Ideal) (arr3 D.q) (arr3 D.k) (arr3 D.v) (arr3 D.o1) (arr2 D.l1) (arr3 D.o16) (arr2 D.l16) (arr3 D.ct) (ix2 h t)
      = ((D.gden h t : ℝ) : EReal) := by
  pointwise [val_main_v133, val_main_cst_27]
  simp only [Finset.univ_unique, Finset.sum_singleton]
  exact gden_add hD h t

/-- The gradients of the scores, the shift left alone. -/
theorem gS_at (h : Fin 8) (t u : Fin 4096) :
    val_main_v136 (F := Ideal) (arr3 D.q) (arr3 D.k) (arr3 D.v) (arr3 D.o1) (arr2 D.l1) (arr3 D.o16) (arr2 D.l16) (arr3 D.ct) (ix3 h t u)
      = ((D.gS h t u : ℝ) : EReal) := by
  pointwise [val_main_v136, val_main_v135, val_main_v134, gden_at hD, val_main_v132, val_main_v131, val_main_v30, dp_at hD, den_at hD.toTop, e_at hD.toTop]
  rw [Reals.div_coe_coe _ (D.den_pos h t).ne', ← EReal.coe_add, ← EReal.coe_mul]
  rfl

theorem gS_sum_at (h : Fin 8) (t : Fin 4096) :
    val_main_v139 (F := Ideal) (arr3 D.q) (arr3 D.k) (arr3 D.v) (arr3 D.o1) (arr2 D.l1) (arr3 D.o16) (arr2 D.l16) (arr3 D.ct) (ix3 h t 0)
      = ((∑ u, -(D.gS h t u) : ℝ) : EReal) := by
  pointwise [val_main_v139, val_main_v138, val_main_cst_28, val_main_v137, gS_at hD]
  simp only [← EReal.coe_neg, Reals.coe_sum]

theorem gtop_add (h : Fin 8) (t : Fin 4096) :
    val_main_v140 (F := Ideal) (arr3 D.q) (arr3 D.k) (arr3 D.v) (arr3 D.o1) (arr2 D.l1) (arr3 D.o16) (arr2 D.l16) (arr3 D.ct) (ix3 h t 0)
      = ((0 : ℝ) : EReal) := by
  rw [val_main_v140_apply, Ideal.addf_def, gL1_at hD, gS_sum_at hD, ← EReal.coe_add, D.gL_add_sum]

/-- The shift has no gradient. -/
theorem gtop_at (h : Fin 8) (t : Fin 4096) :
    val_main_v141 (F := Ideal) (arr3 D.q) (arr3 D.k) (arr3 D.v) (arr3 D.o1) (arr2 D.l1) (arr3 D.o16) (arr2 D.l16) (arr3 D.ct) (ix2 h t)
      = ((0 : ℝ) : EReal) := by
  pointwise [val_main_v141, val_main_cst_29]
  simp only [Finset.univ_unique, Finset.sum_singleton]
  exact gtop_add hD h t

/-- Which keys' scores are the largest of the row: `1` or `0`. -/
theorem ismax_at (h : Fin 8) (t u : Fin 4096) :
    val_main_v23 (F := Ideal) (arr3 D.q) (arr3 D.k) (ix3 h t u)
      = ((if val_main_v18_0 (F := Ideal) (arr3 D.q) (arr3 D.k) (ix3 h t u) = ((D.top h t : ℝ) : EReal) then 1 else 0 : ℝ) : EReal) := by
  pointwise [val_main_v23, val_main_v22, val_main_v21, val_main_v20, hD.top]
  by_cases hm : val_main_v18_0 (F := Ideal) (arr3 D.q) (arr3 D.k) (ix3 h t u) = ((D.top h t : ℝ) : EReal)
  · rw [if_pos hm, decide_eq_true hm]
    simp [FloatOps.uitofp]
  · rw [if_neg hm, decide_eq_false hm]
    simp [FloatOps.uitofp]

/-- How many scores are the largest of the row: at least one. -/
theorem count_at (h : Fin 8) (t : Fin 4096) :
    ∃ n : ℝ, n ≠ 0 ∧ val_main_v24 (F := Ideal) (arr3 D.q) (arr3 D.k) (ix2 h t) = (n : EReal) := by
  refine ⟨∑ u, (if val_main_v18_0 (F := Ideal) (arr3 D.q) (arr3 D.k) (ix3 h t u) = ((D.top h t : ℝ) : EReal) then 1 else 0 : ℝ), ?_, ?_⟩
  · have hfold := hD.top h t
    pointwise [val_main_v19, val_main_cst_3, ninf] at hfold
    obtain ⟨u, hu⟩ := Reals.exists_eq_fold_max (fun u => (val_main_v18_0 (F := Ideal) (arr3 D.q) (arr3 D.k) (ix3 h t u) : EReal))
      (by rw [hfold]; exact EReal.coe_ne_bot _)
    rw [hfold] at hu
    refine (Finset.sum_pos' (fun v _ => ?_) ⟨u, Finset.mem_univ _, ?_⟩).ne'
    · split <;> simp
    · rw [if_pos hu]
      exact one_pos
  · pointwise [val_main_v24, val_main_cst_4, ismax_at hD]
    exact Reals.coe_sum _ _

/-- What the shift adds to the gradients of the scores: nothing. -/
theorem gtop_share (h : Fin 8) (t u : Fin 4096) :
    val_main_v144 (F := Ideal) (arr3 D.q) (arr3 D.k) (arr3 D.v) (arr3 D.o1) (arr2 D.l1) (arr3 D.o16) (arr2 D.l16) (arr3 D.ct) (ix3 h t u)
      = 0 := by
  obtain ⟨n, hn, hc⟩ := count_at hD h t
  pointwise [val_main_v144, val_main_v143, val_main_v142, gtop_at hD, hc]
  rw [Reals.div_coe_coe _ hn]
  simp

/-- The gradients of the scores. -/
theorem gscore_at (h : Fin 8) (t u : Fin 4096) :
    val_main_v146 (F := Ideal) (arr3 D.q) (arr3 D.k) (arr3 D.v) (arr3 D.o1) (arr2 D.l1) (arr3 D.o16) (arr2 D.l16) (arr3 D.ct) (ix3 h t u)
      = ((D.gS h t u : ℝ) : EReal) := by
  pointwise [val_main_v146, val_main_v145, val_main_v18_1, val_main_v17, bit_at hD.d, gS_at hD, gtop_share hD, val_main_call2_v0_apply, val_main_call2_cst]
  by_cases hv : valid D.d t u
  · simp [hv]
  · rw [D.gS_eq]
    simp [hv]

/-- The gradient of the queries, laid out by residue. -/
theorem dq_at (l : Fin 1024) (c : Fin 2048) :
    val_main_v152 (F := Ideal) (arr3 D.q) (arr3 D.k) (arr3 D.v) (arr3 D.o1) (arr2 D.l1) (arr3 D.o16) (arr2 D.l16) (arr3 D.ct) (ix2 l c)
      = ((D.dqR ⟨l * 4 + c / 512, by omega⟩ ⟨c / 64 % 8, by omega⟩ ⟨c % 64, by omega⟩ : ℝ) : EReal) := by
  pointwise [val_main_v152, val_main_v151, val_main_v150, val_main_v149, gscore_at hD, arr3_at]
  simp only [← EReal.coe_mul, Reals.coe_sum]
  rfl

/-- The gradient of the keys. -/
theorem dk_at (l : Fin 1024) (c : Fin 2048) :
    val_main_v154 (F := Ideal) (arr3 D.q) (arr3 D.k) (arr3 D.v) (arr3 D.o1) (arr2 D.l1) (arr3 D.o16) (arr2 D.l16) (arr3 D.ct) (ix2 l c)
      = ((D.dkR ⟨l * 4 + c / 512, by omega⟩ ⟨c / 64 % 8, by omega⟩ ⟨c % 64, by omega⟩ : ℝ) : EReal) := by
  pointwise [val_main_v154, val_main_v153, val_main_v148, val_main_v147, gscore_at hD, arr3_at]
  simp only [← EReal.coe_mul, Reals.coe_sum]
  rfl

/-- The gradient of the values. -/
theorem dv_at (l : Fin 1024) (c : Fin 2048) :
    val_main_v156 (F := Ideal) (arr3 D.q) (arr3 D.k) (arr2 D.l1) (arr2 D.l16) (arr3 D.ct) (ix2 l c)
      = ((D.dvR ⟨l * 4 + c / 512, by omega⟩ ⟨c / 64 % 8, by omega⟩ ⟨c % 64, by omega⟩ : ℝ) : EReal) := by
  pointwise [val_main_v156, val_main_v155, val_main_v123, val_main_v122, gout_at hD, p_at hD.toTop]
  simp only [← EReal.coe_mul, Reals.coe_sum]
  rfl

end Cert.ReferenceIdeal.Values

end
-- ==== Proof.lean ====
/-
  The certificate of the gradients of one attention branch, of the block of two matrices, of the input projection with its
  norm, of a square matrix and the embedding's matrix, and of the step before the gate, of the two forward projections, and of
  the optimiser's steps and sums: each kernel, its idealization and its reference run, leave their arguments unchanged and end
  with every semaphore counter at zero; each idealization is its kernel's sanctioned one; and each kernel's results are its
  reference's. For the attention branch that is when every argument is finite, for the gradients of the projection's input
  and scale and for those before the gate when what they depend on is, and for the other calls with no condition. The frames
  are the generated ones. For the attention branch the ledger is one named constant, and the equality is `Final.dq_final`,
  `dk_final`, `dv_final` (the kernel's results, index by index, as gradients over the real numbers) beside `dq_at`, `dk_at`,
  `dv_at` (the reference's). Over the extended reals both sides are, for the block of two matrices, the sums of `MlpMath`; for
  the weight of the input projection those of `InMath`; for the square matrix `Mlp.square`, and for the embedding's
  `Mlp.embed`; for the forward projections `InProj.prod` and the functions of `Mix`; for the optimiser those of `Adam`. For the
  projection's input the two sides are `InProj.dx` and `InProj.dx'`, which `Dx.dx_eq` joins, and before the gate they are
  `Gate.df` and `Gate.df'`, which `Dx.df_eq` joins.
-/
module

public import proofs.«01_k».proof.Proof.Gen.Kernel5.Frame
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel2.Frame
public import proofs.«01_k».proof.Proof.Gen.Kernel3.Frame
public import proofs.«01_k».proof.Proof.Gen.Kernel4.Frame
public import proofs.«01_k».proof.Proof.Gen.Kernel8.Frame
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel13.Frame
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel10.Frame
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel9.Frame
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.GateFinite
public import proofs.«01_k».proof.Proof.OutWeight
public import proofs.«01_k».proof.Proof.ProjIn
public import proofs.«01_k».proof.Proof.Adam
public import proofs.«01_k».proof.Proof.AdamStep
public import proofs.«01_k».proof.Proof.SlotSums
public import proofs.«01_k».proof.Proof.MixOut
public import proofs.«01_k».proof.Proof.PleWeight
public import proofs.«01_k».proof.Proof.InFinite
public import proofs.«01_k».proof.Proof.InWeights
public import proofs.«01_k».proof.Proof.MlpDx
public import proofs.«01_k».proof.Proof.MlpDown
public import proofs.«01_k».proof.Proof.MlpUp
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Final
public import proofs.«01_k».proof.Proof.RefValue
public import proofs.«01_k».proof.Proof.Finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem
open Cert.KernelIdeal.Operands (Args)
open Cert.ReferenceIdeal.Read (val_main_v152_eq val_main_v154_eq val_main_v156_eq val_main_v152 val_main_v154 val_main_v156)
open Cert.ReferenceIdeal.Values (Shifts dq_at dk_at dv_at arr3 arr2)

/-- The reference's frame: it names no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

variable {m : (ℓ : Loc Cert.KernelIdeal.nD Cert.KernelIdeal.τ Cert.KernelIdeal.sig) → Buf (Elt Ideal) ℓ}
  {c : Dev Cert.KernelIdeal.nD} {D : Attention.Data} (hD : Shifts D) (hm : Args m c D)

variable {q k v o1 o16 ct : (⟨Cert.ReferenceIdeal.S4096x8x64, .f32⟩ : BufTy).Contents (Elt Ideal)}
  {l1 l16 : (⟨Cert.ReferenceIdeal.S4096x8, .f32⟩ : BufTy).Contents (Elt Ideal)}

include hD hm

/-- The gradients of the queries agree. -/
theorem dq_eq (hq : q = arr3 D.q) (hk : k = arr3 D.k) (hv : v = arr3 D.v) (ho1 : o1 = arr3 D.o1) (hl1 : l1 = arr2 D.l1)
    (ho16 : o16 = arr3 D.o16) (hl16 : l16 = arr2 D.l16) (hct : ct = arr3 D.ct) :
    val_main_v152 (F := Ideal) q k v o1 l1 o16 l16 ct
      = (Cert.KernelIdeal.Gen.dats m 0 c).arrAt 12 Cert.KernelIdeal.cfg0.N := by
  subst hq hk hv ho1 hl1 ho16 hl16 hct
  rw [Cert.KernelIdeal.Final.dq_final hD hm]
  funext j
  exact (congrArg _ (eq_ix2 j)).trans (dq_at hD (j 0) (j 1))

/-- So do those of the keys. -/
theorem dk_eq (hq : q = arr3 D.q) (hk : k = arr3 D.k) (hv : v = arr3 D.v) (ho1 : o1 = arr3 D.o1) (hl1 : l1 = arr2 D.l1)
    (ho16 : o16 = arr3 D.o16) (hl16 : l16 = arr2 D.l16) (hct : ct = arr3 D.ct) :
    val_main_v154 (F := Ideal) q k v o1 l1 o16 l16 ct
      = (Cert.KernelIdeal.Gen.dats m 0 c).arrAt 13 Cert.KernelIdeal.cfg0.N := by
  subst hq hk hv ho1 hl1 ho16 hl16 hct
  rw [Cert.KernelIdeal.Final.dk_final hD hm]
  funext j
  exact (congrArg _ (eq_ix2 j)).trans (dk_at hD (j 0) (j 1))

/-- And those of the values. -/
theorem dv_eq (hq : q = arr3 D.q) (hk : k = arr3 D.k) (hl1 : l1 = arr2 D.l1) (hl16 : l16 = arr2 D.l16) (hct : ct = arr3 D.ct) :
    val_main_v156 (F := Ideal) q k l1 l16 ct
      = (Cert.KernelIdeal.Gen.dats m 0 c).arrAt 14 Cert.KernelIdeal.cfg0.N := by
  subst hq hk hl1 hl16 hct
  rw [Cert.KernelIdeal.Final.dv_final hD hm]
  funext j
  exact (congrArg _ (eq_ix2 j)).trans (dv_at hD (j 0) (j 1))

omit hD hm

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨_, _, _, Cert.KernelIdeal.Value.run_blocks m g, ?_⟩
  refine (θ_run Cert.ReferenceIdeal.defs _ _).mono (fun r h c => ?_) (Cert.ReferenceIdeal.Value.run (F := Ideal) m' g')
  obtain ⟨D, hD, hm⟩ := @Cert.KernelIdeal.Finite.exists_args Cert.Pre_finite.facts m hpre c
  obtain ⟨a0, a1, a2, a3, a4, a5, a6, a7⟩ := hagree c
  obtain ⟨r0, r1, r2, kept⟩ := h c
  have hq := a0.trans hm.q
  have hk := a1.trans hm.k
  have hl1 := a4.trans hm.l1
  have hl16 := a6.trans hm.l16
  have hct := a7.trans hm.ct
  exact ⟨(r0.trans (val_main_v152_eq (StableHlo.launchContents m' c))).trans
      (dq_eq hD hm hq hk (a2.trans hm.v) (a3.trans hm.o1) hl1 (a5.trans hm.o16) hl16 hct),
    (r1.trans (val_main_v154_eq (StableHlo.launchContents m' c))).trans
      (dk_eq hD hm hq hk (a2.trans hm.v) (a3.trans hm.o1) hl1 (a5.trans hm.o16) hl16 hct),
    (r2.trans (val_main_v156_eq (StableHlo.launchContents m' c))).trans (dv_eq hD hm hq hk hl1 hl16 hct), kept⟩

/-! The block of two matrices with a squared rectifier between them: the frames of its references, and the gradients. -/

theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

section

variable {u u' ct ct' wd wd' : Mlp.Arr 4096 1024} {wu wu' : Mlp.Arr 1024 4096}

/-- The reference's gradient of the pre-activation, as a function of the place. -/
theorem pre_eq (hu : u' = u) (hw : wu' = wu) (hd : wd' = wd) (hc : ct' = ct) :
    Cert.Reference2Ideal.Read.val_main_v31 (F := Ideal) u' wu' wd' ct'
      = fun j : Cert.Kernel2Ideal.S4096x4096.Idx => Mlp.dpre u wu wd ct (j 0) (j 1) := by
  subst hu hw hd hc
  funext j
  exact (congrArg _ (eq_ix2 j)).trans (Cert.Reference2Ideal.Dx.value_pre _ _ _ _ (j 0) (j 1))

/-- That of the input. -/
theorem input_eq (hu : u' = u) (hw : wu' = wu) (hd : wd' = wd) (hc : ct' = ct) :
    Cert.Reference2Ideal.Read.val_main_v30 (F := Ideal) u' wu' wd' ct'
      = fun j : Cert.Kernel2Ideal.S4096x1024.Idx => Mlp.dinput u wu wd ct (j 0) (j 1) := by
  subst hu hw hd hc
  funext j
  exact (congrArg _ (eq_ix2 j)).trans (Cert.Reference2Ideal.Dx.value_input _ _ _ _ (j 0) (j 1))

/-- That of the second matrix. -/
theorem second_eq (hu : u' = u) (hw : wu' = wu) (hc : ct' = ct) :
    Cert.Reference3Ideal.Read.val_main_v18 (F := Ideal) u' wu' ct'
      = fun j : Cert.Kernel3Ideal.S4096x1024.Idx => Mlp.dsecond u wu ct (j 0) (j 1) := by
  subst hu hw hc
  funext j
  exact (congrArg _ (eq_ix2 j)).trans (Cert.Reference3Ideal.Down.value _ _ _ (j 0) (j 1))

/-- That of the first matrix. -/
theorem first_eq (hu : u' = u) (hw : wu' = wu) (hd : wd' = wd) (hc : ct' = ct) :
    Cert.Reference4Ideal.Read.val_main_v19 (F := Ideal) u' wu' wd' ct'
      = fun j : Cert.Kernel4Ideal.S4096x1024.Idx => Mlp.dfirst u wu wd ct (j 0) (j 1) := by
  subst hu hw hd hc
  funext j
  exact (congrArg _ (eq_ix2 j)).trans (Cert.Reference4Ideal.Up.value _ _ _ _ (j 0) (j 1))

end

theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨_, _, Cert.Kernel2Ideal.Value.run_blocks m g, ?_⟩
  refine (θ_run Cert.Reference2Ideal.defs _ _).mono (fun r h c => ?_) (Cert.Reference2Ideal.Value.run (F := Ideal) m' g')
  obtain ⟨a0, a1, a2, a3⟩ := hagree c
  obtain ⟨r0, r1, kept⟩ := h c
  exact ⟨((r0.trans (Cert.Reference2Ideal.Read.val_main_v31_eq _ _ _ _)).trans (pre_eq a0 a1 a2 a3)).trans
      (Cert.Kernel2Ideal.Dx.final_pre m c).symm,
    ((r1.trans (Cert.Reference2Ideal.Read.val_main_v30_eq _ _ _ _)).trans (input_eq a0 a1 a2 a3)).trans
      (Cert.Kernel2Ideal.Dx.final_input m c).symm, kept⟩

theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨_, Cert.Kernel3Ideal.Value.run_blocks m g, ?_⟩
  refine (θ_run Cert.Reference3Ideal.defs _ _).mono (fun r h c => ?_) (Cert.Reference3Ideal.Value.run (F := Ideal) m' g')
  obtain ⟨a0, a1, _, a3⟩ := hagree c
  obtain ⟨r0, kept⟩ := h c
  exact ⟨((r0.trans (Cert.Reference3Ideal.Read.val_main_v18_eq _ _ _)).trans (second_eq a0 a1 a3)).trans
    (Cert.Kernel3Ideal.Down.final m c).symm, kept⟩

theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨_, Cert.Kernel4Ideal.Value.run_blocks m g, ?_⟩
  refine (θ_run Cert.Reference4Ideal.defs _ _).mono (fun r h c => ?_) (Cert.Reference4Ideal.Value.run (F := Ideal) m' g')
  obtain ⟨a0, a1, a2, a3⟩ := hagree c
  obtain ⟨r0, kept⟩ := h c
  exact ⟨((r0.trans (Cert.Reference4Ideal.Read.val_main_v19_eq _ _ _ _)).trans (first_eq a0 a1 a2 a3)).trans
    (Cert.Kernel4Ideal.Up.final m c).symm, kept⟩

/-! The projection of the normalized input: the frames of its references, and the gradients. -/

theorem frame_reference5 : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

section

variable {x x' dh dh' : Mlp.Arr 4096 1024} {g g' : Mlp.Arr 1 1024} {w w' : Mlp.Arr 1024 2824} {ct ct' : Mlp.Arr 4096 2824}

/-- The reference's gradient of the input, as a function of the place. -/
theorem proj_eq (hx : x' = x) (hg : g' = g) (hw : w' = w) (hh : dh' = dh) (hc : ct' = ct) :
    Cert.Reference5Ideal.Read.val_main_v36 (F := Ideal) x' g' w' dh' ct'
      = fun j : Cert.Kernel5Ideal.S4096x1024.Idx => InProj.dx' x g w dh ct (j 0) (j 1) := by
  subst hx hg hw hh hc
  funext j
  exact (congrArg _ (eq_ix2 j)).trans (Cert.Reference5Ideal.Dx.value _ _ _ _ _ (j 0) (j 1))

/-- That of the scale. -/
theorem scale_eq (hx : x' = x) (hw : w' = w) (hc : ct' = ct) :
    Cert.Reference5Ideal.Read.val_main_v19 (F := Ideal) x' w' ct'
      = fun j : Cert.Kernel5Ideal.S1x1024.Idx => InProj.dg x w ct (j 1) := by
  subst hx hw hc
  funext j
  exact (congrArg _ (eq_ix2 j)).trans (Cert.Reference5Ideal.Dx.value_scale _ _ _ (j 0) (j 1))

/-- That of the weight's first columns. -/
theorem columns_eq (hx : x' = x) (hc : ct' = ct) : Cert.Reference6Ideal.Read.val_main_v5 (F := Ideal) x' ct'
      = fun j : Cert.Kernel6Ideal.S2048x1024.Idx => InProj.dweight0 x ct (j 0) (j 1) := by
  subst hx hc
  funext j
  exact (congrArg _ (eq_ix2 j)).trans (Cert.Reference6Ideal.Rows.value _ _ (j 0) (j 1))

/-- That of its last columns, filled up with zeros. -/
theorem last_eq (hx : x' = x) (hc : ct' = ct) : Cert.Reference7Ideal.Read.val_main_v6 (F := Ideal) x' ct'
      = fun j : Cert.Kernel7Ideal.S896x1024.Idx => InProj.dweight1 x ct (j 0) (j 1) := by
  subst hx hc
  funext j
  exact (congrArg _ (eq_ix2 j)).trans (Cert.Reference7Ideal.Rows.value _ _ (j 0) (j 1))

end

theorem algebraic5 : Cert.algebraic_Kernel5Ideal_Reference5Ideal_pre_finite_in (hKernel5Ideal := Cert.Kernel5Ideal.Gen.facts)
    (hReference5Ideal := Cert.Reference5Ideal.Gen.facts) (hPre_finite_in := Cert.Pre_finite_in.facts) := by
  intro m g m' g' hpre hagree
  refine ⟨_, _, Cert.Kernel5Ideal.Value.run_blocks m g, ?_⟩
  refine (θ_run Cert.Reference5Ideal.defs _ _).mono (fun r h c => ?_) (Cert.Reference5Ideal.Value.run (F := Ideal) m' g')
  obtain ⟨a0, a1, a2, a3, a4⟩ := hagree c
  obtain ⟨r0, r1, kept⟩ := h c
  have joined := funext fun j : Cert.Kernel5Ideal.S4096x1024.Idx =>
    (@Cert.Kernel5Ideal.Dx.dx_eq Cert.Pre_finite_in.facts m hpre c (j 0) (j 1)).symm
  exact ⟨(((r0.trans (Cert.Reference5Ideal.Read.val_main_v36_eq _ _)).trans (proj_eq a0 a1 a2 a3 a4)).trans joined).trans
      (Cert.Kernel5Ideal.Dx.final_dx m c).symm,
    ((r1.trans (Cert.Reference5Ideal.Read.val_main_v19_eq _ _ _)).trans (scale_eq a0 a2 a4)).trans
      (Cert.Kernel5Ideal.Dx.final_scale m c).symm, kept⟩

theorem algebraic6 : Cert.algebraic_Kernel6Ideal_Reference6Ideal (hKernel6Ideal := Cert.Kernel6Ideal.Gen.facts)
    (hReference6Ideal := Cert.Reference6Ideal.Gen.facts) := by
  intro m g m' g' _ hagree
  refine ⟨_, Cert.Kernel6Ideal.Value.run_blocks m g, ?_⟩
  refine (θ_run Cert.Reference6Ideal.defs _ _).mono (fun r h c => ?_) (Cert.Reference6Ideal.Value.run (F := Ideal) m' g')
  obtain ⟨a0, _, a2⟩ := hagree c
  obtain ⟨r0, kept⟩ := h c
  exact ⟨((r0.trans (Cert.Reference6Ideal.Read.val_main_v5_eq _ _)).trans (columns_eq a0 a2)).trans
    (Cert.Kernel6Ideal.Rows.final m c).symm, kept⟩

theorem algebraic7 : Cert.algebraic_Kernel7Ideal_Reference7Ideal (hKernel7Ideal := Cert.Kernel7Ideal.Gen.facts)
    (hReference7Ideal := Cert.Reference7Ideal.Gen.facts) := by
  intro m g m' g' _ hagree
  refine ⟨_, Cert.Kernel7Ideal.Value.run_blocks m g, ?_⟩
  refine (θ_run Cert.Reference7Ideal.defs _ _).mono (fun r h c => ?_) (Cert.Reference7Ideal.Value.run (F := Ideal) m' g')
  obtain ⟨a0, _, a2⟩ := hagree c
  obtain ⟨r0, kept⟩ := h c
  exact ⟨((r0.trans (Cert.Reference7Ideal.Read.val_main_v6_eq _ _)).trans (last_eq a0 a2)).trans
    (Cert.Kernel7Ideal.Rows.final m c).symm, kept⟩

/-! A square matrix's gradient, and the gradients before the gate. -/

theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_reference9 : Cert.quiescent_Reference9Ideal (hReference9Ideal := Cert.Reference9Ideal.Gen.facts) := fun m ρ _ =>
  (θ_run Cert.Reference9Ideal.defs _ _).mono (fun r h => ⟨fun c => (h c).2.2.2, sem_eq_zero_of_no_sems (by decide) r.2⟩)
    (Cert.Reference9Ideal.Value.run (F := Ideal) m ρ)

section

variable {u u' ct ct' f f' d3 d3' dp dp' : Mlp.Arr 4096 1024} {g g' : Mlp.Arr 1 1024} {w w' : Mlp.Arr 1024 1024}

/-- The reference's gradient of the matrix, as a function of the place. -/
theorem square_eq (hu : u' = u) (hc : ct' = ct) : Cert.Reference8Ideal.Read.val_main_v3 (F := Ideal) u' ct'
      = fun j : Cert.Kernel8Ideal.S1024x1024.Idx => Mlp.square u ct (j 0) (j 1) := by
  subst hu hc
  funext j
  exact (congrArg _ (eq_ix2 j)).trans (Cert.Reference8Ideal.Rows.value _ _ (j 0) (j 1))

/-- That of the gate's argument. -/
theorem gate_eq (hw : w' = w) (h3 : d3' = d3) (hp : dp' = dp) : Cert.Reference9Ideal.Read.val_main_v18 (F := Ideal) w' d3' dp'
      = fun j : Cert.Kernel9Ideal.S4096x1024.Idx => Gate.dh w d3 dp (j 0) (j 1) := by
  subst hw h3 hp
  funext j
  exact (congrArg _ (eq_ix2 j)).trans (Cert.Reference9Ideal.Dx.value_dh _ _ _ (j 0) (j 1))

/-- That of the row the norm takes. -/
theorem normed_eq (hf : f' = f) (hg : g' = g) (hw : w' = w) (h3 : d3' = d3) (hp : dp' = dp) :
    Cert.Reference9Ideal.Read.val_main_v39 (F := Ideal) f' g' w' d3' dp'
      = fun j : Cert.Kernel9Ideal.S4096x1024.Idx => Gate.df' f g w d3 dp (j 0) (j 1) := by
  subst hf hg hw h3 hp
  funext j
  exact (congrArg _ (eq_ix2 j)).trans (Cert.Reference9Ideal.Dx.value_df _ _ _ _ _ (j 0) (j 1))

/-- That of the norm's scale. -/
theorem gate_scale_eq (hf : f' = f) (hw : w' = w) (h3 : d3' = d3) (hp : dp' = dp) :
    Cert.Reference9Ideal.Read.val_main_v22 (F := Ideal) f' w' d3' dp'
      = fun j : Cert.Kernel9Ideal.S1x1024.Idx => Gate.dscale f w d3 dp (j 1) := by
  subst hf hw h3 hp
  funext j
  exact (congrArg _ (eq_ix2 j)).trans (Cert.Reference9Ideal.Dx.value_scale _ _ _ _ (j 0) (j 1))

end

theorem algebraic8 : Cert.algebraic_Kernel8Ideal_Reference8Ideal (hKernel8Ideal := Cert.Kernel8Ideal.Gen.facts)
    (hReference8Ideal := Cert.Reference8Ideal.Gen.facts) := by
  intro m g m' g' _ hagree
  refine ⟨_, Cert.Kernel8Ideal.Value.run_blocks m g, ?_⟩
  refine (θ_run Cert.Reference8Ideal.defs _ _).mono (fun r h c => ?_) (Cert.Reference8Ideal.Value.run (F := Ideal) m' g')
  obtain ⟨a0, _, a2⟩ := hagree c
  obtain ⟨r0, kept⟩ := h c
  exact ⟨((r0.trans (Cert.Reference8Ideal.Read.val_main_v3_eq _ _)).trans (square_eq a0 a2)).trans
    (Cert.Kernel8Ideal.Rows.final m c).symm, kept⟩

theorem algebraic9 : Cert.algebraic_Kernel9Ideal_Reference9Ideal_pre_finite_gate (hKernel9Ideal := Cert.Kernel9Ideal.Gen.facts)
    (hReference9Ideal := Cert.Reference9Ideal.Gen.facts) (hPre_finite_gate := Cert.Pre_finite_gate.facts) := by
  intro m g m' g' hpre hagree
  refine ⟨_, _, _, Cert.Kernel9Ideal.Value.run_blocks m g, ?_⟩
  refine (θ_run Cert.Reference9Ideal.defs _ _).mono (fun r h c => ?_) (Cert.Reference9Ideal.Value.run (F := Ideal) m' g')
  obtain ⟨_, a1, a2, a3, a4, a5⟩ := hagree c
  obtain ⟨r0, r1, r2, kept⟩ := h c
  have joined := funext fun j : Cert.Kernel9Ideal.S4096x1024.Idx =>
    (@Cert.Kernel9Ideal.Dx.df_eq Cert.Pre_finite_gate.facts m hpre c (j 0) (j 1)).symm
  exact ⟨((r0.trans (Cert.Reference9Ideal.Read.val_main_v18_eq _ _ _)).trans (gate_eq a3 a4 a5)).trans
      (Cert.Kernel9Ideal.Dx.final_dh m c).symm,
    (((r1.trans (Cert.Reference9Ideal.Read.val_main_v39_eq _ _)).trans (normed_eq a1 a2 a3 a4 a5)).trans joined).trans
      (Cert.Kernel9Ideal.Dx.final_df m c).symm,
    ((r2.trans (Cert.Reference9Ideal.Read.val_main_v22_eq _ _ _ _)).trans (gate_scale_eq a1 a3 a4 a5)).trans
      (Cert.Kernel9Ideal.Dx.final_scale m c).symm, kept⟩

/-! The product of the input projection, and the optimiser's steps. -/

theorem frame_reference10 : Cert.quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem frame_reference11 : Cert.quiescent_Reference11Ideal (hReference11Ideal := Cert.Reference11Ideal.Gen.facts) := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem frame_reference12 : Cert.quiescent_Reference12Ideal (hReference12Ideal := Cert.Reference12Ideal.Gen.facts) := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem algebraic10 : Cert.algebraic_Kernel10Ideal_Reference10Ideal (hKernel10Ideal := Cert.Kernel10Ideal.Gen.facts)
    (hReference10Ideal := Cert.Reference10Ideal.Gen.facts) := by
  intro m g m' g' _ hagree
  refine ⟨_, _, Cert.Kernel10Ideal.Value.run_blocks m g, ?_⟩
  refine (θ_run Cert.Reference10Ideal.defs _ _).mono (fun r h c => ?_) (Cert.Reference10Ideal.Value.run (F := Ideal) m' g')
  obtain ⟨a0, a1⟩ := hagree c
  obtain ⟨r0, r1, kept⟩ := h c
  exact ⟨((r0.trans (Cert.Reference10Ideal.Read.val_main_v1_eq _ _)).trans (Cert.Reference10Ideal.Prod.value0_eq a0 a1)).trans
      (Cert.Kernel10Ideal.Prod.final0 m c).symm,
    ((r1.trans (Cert.Reference10Ideal.Read.val_main_v3_eq _ _)).trans (Cert.Reference10Ideal.Prod.value1_eq a0 a1)).trans
      (Cert.Kernel10Ideal.Prod.final1 m c).symm, kept⟩

theorem algebraic11 : Cert.algebraic_Kernel11Ideal_Reference11Ideal (hKernel11Ideal := Cert.Kernel11Ideal.Gen.facts)
    (hReference11Ideal := Cert.Reference11Ideal.Gen.facts) := by
  intro m g m' g' _ hagree
  refine ⟨_, _, _, _, Cert.Kernel11Ideal.Value.run_blocks m g, ?_⟩
  refine (θ_run Cert.Reference11Ideal.defs _ _).mono (fun r h c => ?_) (Cert.Reference11Ideal.Value.run (F := Ideal) m' g')
  obtain ⟨a0, a1, a2, a3⟩ := hagree c
  obtain ⟨r0, r1, r2, r3, kept⟩ := h c
  exact ⟨((r0.trans (Cert.Reference11Ideal.Read.val_main_v1_eq _)).trans (Cert.Reference11Ideal.Step.grad_eq a0)).trans (Cert.Kernel11Ideal.Step.final_grad m c).symm,
    ((r1.trans (Cert.Reference11Ideal.Read.val_main_v25_eq _ _ _ _)).trans (Cert.Reference11Ideal.Step.change_eq a0 a1 a2 a3)).trans
      (Cert.Kernel11Ideal.Step.final_change m c).symm,
    ((r2.trans (Cert.Reference11Ideal.Read.val_main_v6_eq _ _)).trans (Cert.Reference11Ideal.Step.first_eq a0 a2)).trans (Cert.Kernel11Ideal.Step.final_first m c).symm,
    ((r3.trans (Cert.Reference11Ideal.Read.val_main_v12_eq _ _)).trans (Cert.Reference11Ideal.Step.second_eq a0 a3)).trans
      (Cert.Kernel11Ideal.Step.final_second m c).symm, kept⟩

theorem algebraic12 : Cert.algebraic_Kernel12Ideal_Reference12Ideal (hKernel12Ideal := Cert.Kernel12Ideal.Gen.facts)
    (hReference12Ideal := Cert.Reference12Ideal.Gen.facts) := by
  intro m g m' g' _ hagree
  refine ⟨_, _, _, _, Cert.Kernel12Ideal.Value.run_blocks m g, ?_⟩
  refine (θ_run Cert.Reference12Ideal.defs _ _).mono (fun r h c => ?_) (Cert.Reference12Ideal.Value.run (F := Ideal) m' g')
  obtain ⟨a0, a1, a2, a3⟩ := hagree c
  obtain ⟨r0, r1, r2, r3, kept⟩ := h c
  exact ⟨((r0.trans (Cert.Reference12Ideal.Read.val_main_v1_eq _)).trans (Cert.Reference12Ideal.Step.grad_eq a0)).trans (Cert.Kernel12Ideal.Step.final_grad m c).symm,
    ((r1.trans (Cert.Reference12Ideal.Read.val_main_v25_eq _ _ _ _)).trans (Cert.Reference12Ideal.Step.change_eq a0 a1 a2 a3)).trans
      (Cert.Kernel12Ideal.Step.final_change m c).symm,
    ((r2.trans (Cert.Reference12Ideal.Read.val_main_v6_eq _ _)).trans (Cert.Reference12Ideal.Step.first_eq a0 a2)).trans (Cert.Kernel12Ideal.Step.final_first m c).symm,
    ((r3.trans (Cert.Reference12Ideal.Read.val_main_v12_eq _ _)).trans (Cert.Reference12Ideal.Step.second_eq a0 a3)).trans
      (Cert.Kernel12Ideal.Step.final_second m c).symm, kept⟩

/-! The output projection with its norm, the optimiser's other steps, the gradient of the embedding's matrix, and the sums of slots. -/

theorem frame_reference13 : Cert.quiescent_Reference13Ideal (hReference13Ideal := Cert.Reference13Ideal.Gen.facts) := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem frame_reference14 : Cert.quiescent_Reference14Ideal (hReference14Ideal := Cert.Reference14Ideal.Gen.facts) := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem frame_reference15 : Cert.quiescent_Reference15Ideal (hReference15Ideal := Cert.Reference15Ideal.Gen.facts) := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem frame_reference16 : Cert.quiescent_Reference16Ideal (hReference16Ideal := Cert.Reference16Ideal.Gen.facts) := fun m ρ _ =>
  (θ_run Cert.Reference16Ideal.defs _ _).mono (fun r h => ⟨fun c => (h c).2.2.2, sem_eq_zero_of_no_sems (by decide) r.2⟩)
    (Cert.Reference16Ideal.Value.run (F := Ideal) m ρ)

theorem frame_reference17 : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

theorem frame_reference18 : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

theorem frame_reference19 : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

theorem frame_reference20 : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic13 : Cert.algebraic_Kernel13Ideal_Reference13Ideal (hKernel13Ideal := Cert.Kernel13Ideal.Gen.facts)
    (hReference13Ideal := Cert.Reference13Ideal.Gen.facts) := by
  intro m g m' g' _ hagree
  refine ⟨_, _, _, Cert.Kernel13Ideal.Value.run_blocks m g, ?_⟩
  refine (θ_run Cert.Reference13Ideal.defs _ _).mono (fun r h c => ?_) (Cert.Reference13Ideal.Value.run (F := Ideal) m' g')
  obtain ⟨a0, a1, a2, a3⟩ := hagree c
  obtain ⟨r0, r1, r2, kept⟩ := h c
  exact ⟨((r0.trans (Cert.Reference13Ideal.Read.val_main_v0_eq _ _)).trans (Cert.Reference13Ideal.Mix.prod_eq a0 a3)).trans
      (Cert.Kernel13Ideal.Mix.final_prod m c).symm,
    ((r1.trans (Cert.Reference13Ideal.Read.val_main_v13_eq _ _ _ _)).trans (Cert.Reference13Ideal.Mix.sum_eq a0 a1 a2 a3)).trans
      (Cert.Kernel13Ideal.Mix.final_sum m c).symm,
    ((r2.trans (Cert.Reference13Ideal.Read.val_main_v21_eq _ _ _ _)).trans (Cert.Reference13Ideal.Mix.factor_eq a0 a1 a2 a3)).trans
      (Cert.Kernel13Ideal.Mix.final_factor m c).symm, kept⟩

theorem algebraic14 : Cert.algebraic_Kernel14Ideal_Reference14Ideal (hKernel14Ideal := Cert.Kernel14Ideal.Gen.facts)
    (hReference14Ideal := Cert.Reference14Ideal.Gen.facts) := by
  intro m g m' g' _ hagree
  refine ⟨_, _, _, Cert.Kernel14Ideal.Value.run_blocks m g, ?_⟩
  refine (θ_run Cert.Reference14Ideal.defs _ _).mono (fun r h c => ?_) (Cert.Reference14Ideal.Value.run (F := Ideal) m' g')
  obtain ⟨a0, a1, a2, a3⟩ := hagree c
  obtain ⟨r0, r1, r2, kept⟩ := h c
  exact ⟨((r0.trans (Cert.Reference14Ideal.Read.val_main_v23_eq _ _ _ _)).trans (Cert.Reference14Ideal.Step.change_eq a0 a1 a2 a3)).trans
      (Cert.Kernel14Ideal.Step.final_change m c).symm,
    ((r1.trans (Cert.Reference14Ideal.Read.val_main_v4_eq _ _)).trans (Cert.Reference14Ideal.Step.first_eq a1 a2)).trans
      (Cert.Kernel14Ideal.Step.final_first m c).symm,
    ((r2.trans (Cert.Reference14Ideal.Read.val_main_v10_eq _ _)).trans (Cert.Reference14Ideal.Step.second_eq a1 a3)).trans
      (Cert.Kernel14Ideal.Step.final_second m c).symm, kept⟩

theorem algebraic15 : Cert.algebraic_Kernel15Ideal_Reference15Ideal (hKernel15Ideal := Cert.Kernel15Ideal.Gen.facts)
    (hReference15Ideal := Cert.Reference15Ideal.Gen.facts) := by
  intro m g m' g' _ hagree
  refine ⟨_, _, _, Cert.Kernel15Ideal.Value.run_blocks m g, ?_⟩
  refine (θ_run Cert.Reference15Ideal.defs _ _).mono (fun r h c => ?_) (Cert.Reference15Ideal.Value.run (F := Ideal) m' g')
  obtain ⟨a0, a1, a2, a3⟩ := hagree c
  obtain ⟨r0, r1, r2, kept⟩ := h c
  exact ⟨((r0.trans (Cert.Reference15Ideal.Read.val_main_v23_eq _ _ _ _)).trans (Cert.Reference15Ideal.Step.change_eq a0 a1 a2 a3)).trans
      (Cert.Kernel15Ideal.Step.final_change m c).symm,
    ((r1.trans (Cert.Reference15Ideal.Read.val_main_v4_eq _ _)).trans (Cert.Reference15Ideal.Step.first_eq a1 a2)).trans
      (Cert.Kernel15Ideal.Step.final_first m c).symm,
    ((r2.trans (Cert.Reference15Ideal.Read.val_main_v10_eq _ _)).trans (Cert.Reference15Ideal.Step.second_eq a1 a3)).trans
      (Cert.Kernel15Ideal.Step.final_second m c).symm, kept⟩

theorem algebraic16 : Cert.algebraic_Kernel16Ideal_Reference16Ideal (hKernel16Ideal := Cert.Kernel16Ideal.Gen.facts)
    (hReference16Ideal := Cert.Reference16Ideal.Gen.facts) := by
  intro m g m' g' _ hagree
  refine ⟨_, _, _, Cert.Kernel16Ideal.Value.run_blocks m g, ?_⟩
  refine (θ_run Cert.Reference16Ideal.defs _ _).mono (fun r h c => ?_) (Cert.Reference16Ideal.Value.run (F := Ideal) m' g')
  obtain ⟨a0, a1, a2, a3⟩ := hagree c
  obtain ⟨r0, r1, r2, kept⟩ := h c
  exact ⟨((r0.trans (Cert.Reference16Ideal.Read.val_main_v23_eq _ _ _ _)).trans (Cert.Reference16Ideal.Step.change_eq a0 a1 a2 a3)).trans
      (Cert.Kernel16Ideal.Step.final_change m c).symm,
    ((r1.trans (Cert.Reference16Ideal.Read.val_main_v4_eq _ _)).trans (Cert.Reference16Ideal.Step.first_eq a1 a2)).trans
      (Cert.Kernel16Ideal.Step.final_first m c).symm,
    ((r2.trans (Cert.Reference16Ideal.Read.val_main_v10_eq _ _)).trans (Cert.Reference16Ideal.Step.second_eq a1 a3)).trans
      (Cert.Kernel16Ideal.Step.final_second m c).symm, kept⟩

theorem algebraic17 : Cert.algebraic_Kernel17Ideal_Reference17Ideal (hKernel17Ideal := Cert.Kernel17Ideal.Gen.facts)
    (hReference17Ideal := Cert.Reference17Ideal.Gen.facts) := by
  intro m g m' g' _ hagree
  refine ⟨_, Cert.Kernel17Ideal.Value.run_blocks m g, ?_⟩
  refine (θ_run Cert.Reference17Ideal.defs _ _).mono (fun r h c => ?_) (Cert.Reference17Ideal.Value.run (F := Ideal) m' g')
  obtain ⟨a0, _, a2⟩ := hagree c
  obtain ⟨r0, kept⟩ := h c
  exact ⟨((r0.trans (Cert.Reference17Ideal.Read.val_main_v4_eq _ _)).trans (Cert.Reference17Ideal.Rows.value_eq a0 a2)).trans
      (Cert.Kernel17Ideal.Rows.final m c).symm, kept⟩

theorem algebraic18 : Cert.algebraic_Kernel18Ideal_Reference18Ideal (hKernel18Ideal := Cert.Kernel18Ideal.Gen.facts)
    (hReference18Ideal := Cert.Reference18Ideal.Gen.facts) := by
  intro m g m' g' _ hagree
  refine ⟨_, Cert.Kernel18Ideal.Value.run_blocks m g, ?_⟩
  refine (θ_run Cert.Reference18Ideal.defs _ _).mono (fun r h c => ?_) (Cert.Reference18Ideal.Value.run (F := Ideal) m' g')
  have a0 := hagree c
  obtain ⟨r0, kept⟩ := h c
  exact ⟨((r0.trans (Cert.Reference18Ideal.Read.val_main_v1_eq _)).trans (Cert.Reference18Ideal.Slots.sum_eq a0)).trans
      (Cert.Kernel18Ideal.Slots.final m c).symm, kept⟩

theorem algebraic19 : Cert.algebraic_Kernel19Ideal_Reference19Ideal (hKernel19Ideal := Cert.Kernel19Ideal.Gen.facts)
    (hReference19Ideal := Cert.Reference19Ideal.Gen.facts) := by
  intro m g m' g' _ hagree
  refine ⟨_, Cert.Kernel19Ideal.Value.run_blocks m g, ?_⟩
  refine (θ_run Cert.Reference19Ideal.defs _ _).mono (fun r h c => ?_) (Cert.Reference19Ideal.Value.run (F := Ideal) m' g')
  have a0 := hagree c
  obtain ⟨r0, kept⟩ := h c
  exact ⟨((r0.trans (Cert.Reference19Ideal.Read.val_main_v1_eq _)).trans (Cert.Reference19Ideal.Slots.sum_eq a0)).trans
      (Cert.Kernel19Ideal.Slots.final m c).symm, kept⟩

theorem algebraic20 : Cert.algebraic_Kernel20Ideal_Reference20Ideal (hKernel20Ideal := Cert.Kernel20Ideal.Gen.facts)
    (hReference20Ideal := Cert.Reference20Ideal.Gen.facts) := by
  intro m g m' g' _ hagree
  refine ⟨_, Cert.Kernel20Ideal.Value.run_blocks m g, ?_⟩
  refine (θ_run Cert.Reference20Ideal.defs _ _).mono (fun r h c => ?_) (Cert.Reference20Ideal.Value.run (F := Ideal) m' g')
  have a0 := hagree c
  obtain ⟨r0, kept⟩ := h c
  exact ⟨((r0.trans (Cert.Reference20Ideal.Read.val_main_v1_eq _)).trans (Cert.Reference20Ideal.Slots.sum_eq a0)).trans
      (Cert.Kernel20Ideal.Slots.final m c).symm, kept⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite.facts, Cert.Pre_finite_in.facts, Cert.Pre_finite_gate.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ,
    fun m ρ _ => Cert.Kernel5Ideal.Gen.frame m ρ, frame_reference5, fun m ρ _ => frame_reference5 m ρ trivial,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ,
    fun m ρ _ => Cert.Kernel9Ideal.Gen.frame m ρ, frame_reference9, fun m ρ _ => frame_reference9 m ρ trivial,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    IdealRules.named_const.statement Cert.KernelIdeal.κ "mask" .f32 0xF149F2CA#32 ⊥ rfl, algebraic,
    trivial, algebraic2, trivial, algebraic3, trivial, algebraic4, trivial, algebraic5, trivial, algebraic6,
    trivial, algebraic7, trivial, algebraic8, trivial, algebraic9, trivial, algebraic10,
    trivial, algebraic11, trivial, algebraic12,
    trivial, algebraic13, trivial, algebraic14, trivial, algebraic15, trivial, algebraic16,
    trivial, algebraic17, trivial, algebraic18, trivial, algebraic19, trivial, algebraic20⟩

end Cert.Proof

end
